-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![32, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x32 : Shape := ⟨2, ![512, 32]⟩
abbrev S2048x1 : Shape := ⟨2, ![2048, 1]⟩
abbrev S8x512x1024 : Shape := ⟨3, ![8, 512, 1024]⟩
abbrev S2048 : Shape := ⟨1, ![2048]⟩
abbrev S32 : Shape := ⟨1, ![32]⟩
abbrev S1x32 : Shape := ⟨2, ![1, 32]⟩
abbrev S2048x32 : Shape := ⟨2, ![2048, 32]⟩
abbrev S_ : Shape := ⟨0, ![]⟩
abbrev S2048x1024 : Shape := ⟨2, ![2048, 1024]⟩
abbrev S2 : Shape := ⟨1, ![2]⟩
abbrev S24 : Shape := ⟨1, ![24]⟩
abbrev S1 : Shape := ⟨1, ![1]⟩
abbrev S4x512x1024 : Shape := ⟨3, ![4, 512, 1024]⟩
abbrev S2048x256 : Shape := ⟨2, ![2048, 256]⟩
abbrev S256x512 : Shape := ⟨2, ![256, 512]⟩
abbrev S64x512 : Shape := ⟨2, ![64, 512]⟩
abbrev S1x512x1024 : Shape := ⟨3, ![1, 512, 1024]⟩
abbrev S512x1024 : Shape := ⟨2, ![512, 1024]⟩
abbrev S64x1024 : Shape := ⟨2, ![64, 1024]⟩
abbrev S256x1024 : Shape := ⟨2, ![256, 1024]⟩
abbrev S56x1024 : Shape := ⟨2, ![56, 1024]⟩

abbrev nBuf : Space → Nat
  | .hbm => 64
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S512x32, .f32⟩
  | .hbm, ⟨2, _⟩ => ⟨S2048x1, .i32⟩
  | .hbm, ⟨3, _⟩ => ⟨S8x512x1024, .f32⟩
  | .hbm, ⟨4, _⟩ => ⟨S2048, .i32⟩
  | .hbm, ⟨5, _⟩ => ⟨S2048x1, .i32⟩
  | .hbm, ⟨6, _⟩ => ⟨S32, .i32⟩
  | .hbm, ⟨7, _⟩ => ⟨S1x32, .i32⟩
  | .hbm, ⟨8, _⟩ => ⟨S2048x32, .i32⟩
  | .hbm, ⟨9, _⟩ => ⟨S2048x32, .i32⟩
  | .hbm, ⟨10, _⟩ => ⟨S2048x32, .i1⟩
  | .hbm, ⟨11, _⟩ => ⟨S2048x32, .bf16⟩
  | .hbm, ⟨12, _⟩ => ⟨S2048x32, .f32⟩
  | .hbm, ⟨13, _⟩ => ⟨S_, .f32⟩
  | .hbm, ⟨14, _⟩ => ⟨S_, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S_, .f32⟩
  | .hbm, ⟨19, _⟩ => ⟨S2048, .f32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S_, .i32⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S2048, .i32⟩
  | .hbm, ⟨44, _⟩ => ⟨S2048, .i1⟩
  | .hbm, ⟨45, _⟩ => ⟨S2048, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S2048, .i32⟩
  | .hbm, ⟨51, _⟩ => ⟨S2048, .i1⟩
  | .hbm, ⟨52, _⟩ => ⟨S2048, .i1⟩
  | .hbm, ⟨53, _⟩ => ⟨S_, .i32⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S_, .i32⟩
  | .hbm, ⟨58, _⟩ => ⟨S_, .i32⟩
  | .hbm, ⟨59, _⟩ => ⟨S2048, .i32⟩
  | .hbm, ⟨60, _⟩ => ⟨S2048, .i32⟩
  | .hbm, ⟨61, _⟩ => ⟨S2048x1, .i32⟩
  | .hbm, ⟨62, _⟩ => ⟨S2048x1, .i32⟩
  | .hbm, ⟨63, _⟩ => ⟨S2048x1024, .bf16⟩
  | .local _ .vmem, ⟨0, _⟩ => ⟨S2048x512, .f32⟩
  | .local _ .vmem, ⟨1, _⟩ => ⟨S2048x1, .i32⟩
  | .local _ .vmem, ⟨2, _⟩ => ⟨S2048x1, .i32⟩
  | .local _ .vmem, ⟨3, _⟩ => ⟨S2048x1024, .bf16⟩
  | .local _ .vmem, ⟨4, _⟩ => ⟨S2048x1024, .bf16⟩
  | .local _ .vmem, ⟨5, _⟩ => ⟨S8x512x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_call0_cst : Ref sig .tc := ⟨.hbm, 13, rfl⟩
abbrev main_call0_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_call1_v0 : Ref sig .tc := ⟨.hbm, 32, rfl⟩
abbrev main_call1_v1 : Ref sig .tc := ⟨.hbm, 33, rfl⟩
abbrev main_v22 : Ref sig .tc := ⟨.hbm, 34, rfl⟩
abbrev main_c_3 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_9 : Ref sig .tc := ⟨.hbm, 57, rfl⟩
abbrev main_call2_v0 : Ref sig .tc := ⟨.hbm, 58, rfl⟩
abbrev main_call2_v1 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_14 : BitVec 32 := 1#32
  let v17 : BitVec 32 := Scalar.addi v2 c1_i32_14
  let c4_i32_15 : BitVec 32 := 4#32
  let v18 : BitVec 32 := Scalar.remsi v17 c4_i32_15
  let c1_i32_17 : BitVec 32 := 1#32
  let v19 : BitVec 32 := Scalar.muli v18 c1_i32_17
  let v20 : BitVec 32 := Scalar.addi c0_i32_18 v19
  v20.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v21 : BitVec 32 := Scalar.addi v2 c2_i32
  let c4_i32_19 : BitVec 32 := 4#32
  let v22 : BitVec 32 := Scalar.remsi v21 c4_i32_19
  let c1_i32_21 : BitVec 32 := 1#32
  let v23 : BitVec 32 := Scalar.muli v22 c1_i32_21
  let v24 : BitVec 32 := Scalar.addi c0_i32_22 v23
  v24.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_23 : BitVec 32 := 4#32
  let v26 : BitVec 32 := Scalar.remsi v25 c4_i32_23
  let c1_i32_25 : BitVec 32 := 1#32
  let v27 : BitVec 32 := Scalar.muli v26 c1_i32_25
  let v28 : BitVec 32 := Scalar.addi c0_i32_26 v27
  v28.toNat
def k0_off1 (d0 : Dev nD) (c0_i32_54 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v3 : BitVec 32 := Scalar.muli v2 c512_i32
  let v73 : BitVec 32 := Scalar.addi v3 c0_i32_54
  let v74 : Index := Scalar.indexCast v73
  let c0_55 : Index := 0#32
  ![v74.toNat, 0]
def k0_off2 (d0 : Dev nD) (c0_i32_56 : BitVec 32) (c0_i32_57 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v3 : BitVec 32 := Scalar.muli v2 c512_i32
  let v78 : BitVec 32 := Scalar.addi v3 c0_i32_56
  let v79 : BitVec 32 := Scalar.addi v78 c0_i32_57
  let c0_i32_64 : BitVec 32 := 0#32
  ![v79.toNat, 0]
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_58 : BitVec 32 := 1#32
  let v80 : BitVec 32 := Scalar.addi v2 c1_i32_58
  let c4_i32_59 : BitVec 32 := 4#32
  let v81 : BitVec 32 := Scalar.remsi v80 c4_i32_59
  let c1_i32_62 : BitVec 32 := 1#32
  let v82 : BitVec 32 := Scalar.muli v81 c1_i32_62
  let v83 : BitVec 32 := Scalar.addi c0_i32_63 v82
  v83.toNat
def k0_dev5 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_67 : BitVec 32 := 1#32
  let v92 : BitVec 32 := Scalar.addi v2 c1_i32_67
  let c4_i32_68 : BitVec 32 := 4#32
  let v93 : BitVec 32 := Scalar.remsi v92 c4_i32_68
  let c1_i32_71 : BitVec 32 := 1#32
  let v94 : BitVec 32 := Scalar.muli v93 c1_i32_71
  let v95 : BitVec 32 := Scalar.addi c0_i32_72 v94
  v95.toNat
def k0_dev6 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_76 : BitVec 32 := 1#32
  let v104 : BitVec 32 := Scalar.addi v2 c1_i32_76
  let c4_i32_77 : BitVec 32 := 4#32
  let v105 : BitVec 32 := Scalar.remsi v104 c4_i32_77
  let c1_i32_80 : BitVec 32 := 1#32
  let v106 : BitVec 32 := Scalar.muli v105 c1_i32_80
  let v107 : BitVec 32 := Scalar.addi c0_i32_81 v106
  v107.toNat
def k0_dev7 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_85 : BitVec 32 := 1#32
  let v116 : BitVec 32 := Scalar.addi v2 c1_i32_85
  let c4_i32_86 : BitVec 32 := 4#32
  let v117 : BitVec 32 := Scalar.remsi v116 c4_i32_86
  let c1_i32_89 : BitVec 32 := 1#32
  let v118 : BitVec 32 := Scalar.muli v117 c1_i32_89
  let v119 : BitVec 32 := Scalar.addi c0_i32_90 v118
  v119.toNat
def k0_dev8 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_95 : BitVec 32 := 2#32
  let v128 : BitVec 32 := Scalar.addi v2 c2_i32_95
  let c4_i32_96 : BitVec 32 := 4#32
  let v129 : BitVec 32 := Scalar.remsi v128 c4_i32_96
  let c1_i32_98 : BitVec 32 := 1#32
  let v130 : BitVec 32 := Scalar.muli v129 c1_i32_98
  let v131 : BitVec 32 := Scalar.addi c0_i32_99 v130
  v131.toNat
def k0_dev9 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_104 : BitVec 32 := 2#32
  let v140 : BitVec 32 := Scalar.addi v2 c2_i32_104
  let c4_i32_105 : BitVec 32 := 4#32
  let v141 : BitVec 32 := Scalar.remsi v140 c4_i32_105
  let c1_i32_107 : BitVec 32 := 1#32
  let v142 : BitVec 32 := Scalar.muli v141 c1_i32_107
  let v143 : BitVec 32 := Scalar.addi c0_i32_108 v142
  v143.toNat
def k0_dev10 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_113 : BitVec 32 := 2#32
  let v152 : BitVec 32 := Scalar.addi v2 c2_i32_113
  let c4_i32_114 : BitVec 32 := 4#32
  let v153 : BitVec 32 := Scalar.remsi v152 c4_i32_114
  let c1_i32_116 : BitVec 32 := 1#32
  let v154 : BitVec 32 := Scalar.muli v153 c1_i32_116
  let v155 : BitVec 32 := Scalar.addi c0_i32_117 v154
  v155.toNat
def k0_dev11 (d0 : Dev nD) : Nat :=
  let c0_i32_126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_122 : BitVec 32 := 2#32
  let v164 : BitVec 32 := Scalar.addi v2 c2_i32_122
  let c4_i32_123 : BitVec 32 := 4#32
  let v165 : BitVec 32 := Scalar.remsi v164 c4_i32_123
  let c1_i32_125 : BitVec 32 := 1#32
  let v166 : BitVec 32 := Scalar.muli v165 c1_i32_125
  let v167 : BitVec 32 := Scalar.addi c0_i32_126 v166
  v167.toNat
def k0_dev12 (d0 : Dev nD) : Nat :=
  let c0_i32_135 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_131 : BitVec 32 := 3#32
  let v176 : BitVec 32 := Scalar.addi v2 c3_i32_131
  let c4_i32_132 : BitVec 32 := 4#32
  let v177 : BitVec 32 := Scalar.remsi v176 c4_i32_132
  let c1_i32_134 : BitVec 32 := 1#32
  let v178 : BitVec 32 := Scalar.muli v177 c1_i32_134
  let v179 : BitVec 32 := Scalar.addi c0_i32_135 v178
  v179.toNat
def k0_dev13 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_140 : BitVec 32 := 3#32
  let v188 : BitVec 32 := Scalar.addi v2 c3_i32_140
  let c4_i32_141 : BitVec 32 := 4#32
  let v189 : BitVec 32 := Scalar.remsi v188 c4_i32_141
  let c1_i32_143 : BitVec 32 := 1#32
  let v190 : BitVec 32 := Scalar.muli v189 c1_i32_143
  let v191 : BitVec 32 := Scalar.addi c0_i32_144 v190
  v191.toNat
def k0_dev14 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_149 : BitVec 32 := 3#32
  let v200 : BitVec 32 := Scalar.addi v2 c3_i32_149
  let c4_i32_150 : BitVec 32 := 4#32
  let v201 : BitVec 32 := Scalar.remsi v200 c4_i32_150
  let c1_i32_152 : BitVec 32 := 1#32
  let v202 : BitVec 32 := Scalar.muli v201 c1_i32_152
  let v203 : BitVec 32 := Scalar.addi c0_i32_153 v202
  v203.toNat
def k0_dev15 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_158 : BitVec 32 := 3#32
  let v212 : BitVec 32 := Scalar.addi v2 c3_i32_158
  let c4_i32_159 : BitVec 32 := 4#32
  let v213 : BitVec 32 := Scalar.remsi v212 c4_i32_159
  let c1_i32_161 : BitVec 32 := 1#32
  let v214 : BitVec 32 := Scalar.muli v213 c1_i32_161
  let v215 : BitVec 32 := Scalar.addi c0_i32_162 v214
  v215.toNat
def k0_dev16 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_191 : BitVec 32 := 1#32
  let v269 : BitVec 32 := Scalar.addi v2 c1_i32_191
  let c4_i32_192 : BitVec 32 := 4#32
  let v270 : BitVec 32 := Scalar.remsi v269 c4_i32_192
  let c1_i32_195 : BitVec 32 := 1#32
  let v271 : BitVec 32 := Scalar.muli v270 c1_i32_195
  let v272 : BitVec 32 := Scalar.addi c0_i32_196 v271
  v272.toNat
def k0_dev17 (d0 : Dev nD) : Nat :=
  let c0_i32_205 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_201 : BitVec 32 := 1#32
  let v281 : BitVec 32 := Scalar.addi v2 c1_i32_201
  let c4_i32_202 : BitVec 32 := 4#32
  let v282 : BitVec 32 := Scalar.remsi v281 c4_i32_202
  let c1_i32_204 : BitVec 32 := 1#32
  let v283 : BitVec 32 := Scalar.muli v282 c1_i32_204
  let v284 : BitVec 32 := Scalar.addi c0_i32_205 v283
  v284.toNat
def k0_dev18 (d0 : Dev nD) : Nat :=
  let c0_i32_214 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_210 : BitVec 32 := 1#32
  let v293 : BitVec 32 := Scalar.addi v2 c1_i32_210
  let c4_i32_211 : BitVec 32 := 4#32
  let v294 : BitVec 32 := Scalar.remsi v293 c4_i32_211
  let c1_i32_213 : BitVec 32 := 1#32
  let v295 : BitVec 32 := Scalar.muli v294 c1_i32_213
  let v296 : BitVec 32 := Scalar.addi c0_i32_214 v295
  v296.toNat
def k0_dev19 (d0 : Dev nD) : Nat :=
  let c0_i32_223 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_219 : BitVec 32 := 1#32
  let v305 : BitVec 32 := Scalar.addi v2 c1_i32_219
  let c4_i32_220 : BitVec 32 := 4#32
  let v306 : BitVec 32 := Scalar.remsi v305 c4_i32_220
  let c1_i32_222 : BitVec 32 := 1#32
  let v307 : BitVec 32 := Scalar.muli v306 c1_i32_222
  let v308 : BitVec 32 := Scalar.addi c0_i32_223 v307
  v308.toNat
def k0_dev20 (d0 : Dev nD) : Nat :=
  let c0_i32_232 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_228 : BitVec 32 := 2#32
  let v317 : BitVec 32 := Scalar.addi v2 c2_i32_228
  let c4_i32_229 : BitVec 32 := 4#32
  let v318 : BitVec 32 := Scalar.remsi v317 c4_i32_229
  let c1_i32_231 : BitVec 32 := 1#32
  let v319 : BitVec 32 := Scalar.muli v318 c1_i32_231
  let v320 : BitVec 32 := Scalar.addi c0_i32_232 v319
  v320.toNat
def k0_dev21 (d0 : Dev nD) : Nat :=
  let c0_i32_241 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_237 : BitVec 32 := 2#32
  let v329 : BitVec 32 := Scalar.addi v2 c2_i32_237
  let c4_i32_238 : BitVec 32 := 4#32
  let v330 : BitVec 32 := Scalar.remsi v329 c4_i32_238
  let c1_i32_240 : BitVec 32 := 1#32
  let v331 : BitVec 32 := Scalar.muli v330 c1_i32_240
  let v332 : BitVec 32 := Scalar.addi c0_i32_241 v331
  v332.toNat
def k0_dev22 (d0 : Dev nD) : Nat :=
  let c0_i32_250 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_246 : BitVec 32 := 2#32
  let v341 : BitVec 32 := Scalar.addi v2 c2_i32_246
  let c4_i32_247 : BitVec 32 := 4#32
  let v342 : BitVec 32 := Scalar.remsi v341 c4_i32_247
  let c1_i32_249 : BitVec 32 := 1#32
  let v343 : BitVec 32 := Scalar.muli v342 c1_i32_249
  let v344 : BitVec 32 := Scalar.addi c0_i32_250 v343
  v344.toNat
def k0_dev23 (d0 : Dev nD) : Nat :=
  let c0_i32_259 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_255 : BitVec 32 := 2#32
  let v353 : BitVec 32 := Scalar.addi v2 c2_i32_255
  let c4_i32_256 : BitVec 32 := 4#32
  let v354 : BitVec 32 := Scalar.remsi v353 c4_i32_256
  let c1_i32_258 : BitVec 32 := 1#32
  let v355 : BitVec 32 := Scalar.muli v354 c1_i32_258
  let v356 : BitVec 32 := Scalar.addi c0_i32_259 v355
  v356.toNat
def k0_dev24 (d0 : Dev nD) : Nat :=
  let c0_i32_268 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_264 : BitVec 32 := 3#32
  let v365 : BitVec 32 := Scalar.addi v2 c3_i32_264
  let c4_i32_265 : BitVec 32 := 4#32
  let v366 : BitVec 32 := Scalar.remsi v365 c4_i32_265
  let c1_i32_267 : BitVec 32 := 1#32
  let v367 : BitVec 32 := Scalar.muli v366 c1_i32_267
  let v368 : BitVec 32 := Scalar.addi c0_i32_268 v367
  v368.toNat
def k0_dev25 (d0 : Dev nD) : Nat :=
  let c0_i32_277 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_273 : BitVec 32 := 3#32
  let v377 : BitVec 32 := Scalar.addi v2 c3_i32_273
  let c4_i32_274 : BitVec 32 := 4#32
  let v378 : BitVec 32 := Scalar.remsi v377 c4_i32_274
  let c1_i32_276 : BitVec 32 := 1#32
  let v379 : BitVec 32 := Scalar.muli v378 c1_i32_276
  let v380 : BitVec 32 := Scalar.addi c0_i32_277 v379
  v380.toNat
def k0_dev26 (d0 : Dev nD) : Nat :=
  let c0_i32_286 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_282 : BitVec 32 := 3#32
  let v389 : BitVec 32 := Scalar.addi v2 c3_i32_282
  let c4_i32_283 : BitVec 32 := 4#32
  let v390 : BitVec 32 := Scalar.remsi v389 c4_i32_283
  let c1_i32_285 : BitVec 32 := 1#32
  let v391 : BitVec 32 := Scalar.muli v390 c1_i32_285
  let v392 : BitVec 32 := Scalar.addi c0_i32_286 v391
  v392.toNat
def k0_dev27 (d0 : Dev nD) : Nat :=
  let c0_i32_295 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_291 : BitVec 32 := 3#32
  let v401 : BitVec 32 := Scalar.addi v2 c3_i32_291
  let c4_i32_292 : BitVec 32 := 4#32
  let v402 : BitVec 32 := Scalar.remsi v401 c4_i32_292
  let c1_i32_294 : BitVec 32 := 1#32
  let v403 : BitVec 32 := Scalar.muli v402 c1_i32_294
  let v404 : BitVec 32 := Scalar.addi c0_i32_295 v403
  v404.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v3 : BitVec 32 := Scalar.muli v2 c512_i32
  let v420 : Index := Scalar.indexCast v3
  let c0_300 : Index := 0#32
  ![v420.toNat, 0]
def k0_off4 (d0 : Dev nD) (c1_i32_351 : BitVec 32) (c0_i32_355 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v477 : BitVec 32 := Scalar.subi v2 c1_i32_351
  let c4_i32_352 : BitVec 32 := 4#32
  let v478 : BitVec 32 := Scalar.addi v477 c4_i32_352
  let c4_i32_353 : BitVec 32 := 4#32
  let v479 : BitVec 32 := Scalar.remsi v478 c4_i32_353
  let c512_i32_354 : BitVec 32 := 512#32
  let v480 : BitVec 32 := Scalar.muli v479 c512_i32_354
  let v481 : BitVec 32 := Scalar.addi v480 c0_i32_355
  let v491 : Index := Scalar.indexCast v481
  let c0_358 : Index := 0#32
  ![v491.toNat, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x512 : Shape := ⟨2, ![2048, 512]⟩
abbrev S512x32 : Shape := ⟨2, ![512, 32]⟩
abbrev S2048x1 : Shape := ⟨2, ![2048, 1]⟩
abbrev S32x512x1024 : Shape := ⟨3, ![32, 512, 1024]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩
abbrev S32 : Shape := ⟨1, ![32]⟩
abbrev S1x32 : Shape := ⟨2, ![1, 32]⟩
abbrev S2048x32 : Shape := ⟨2, ![2048, 32]⟩
abbrev S2048x32x1024 : Shape := ⟨3, ![2048, 32, 1024]⟩
abbrev S2048x32x1 : Shape := ⟨3, ![2048, 32, 1]⟩
abbrev S2048x1024 : Shape := ⟨2, ![2048, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x32, .f32⟩
  | .hbm, ⟨2, _⟩ => ⟨S2048x1, .i32⟩
  | .hbm, ⟨3, _⟩ => ⟨S32x512x1024, .f32⟩
  | .hbm, ⟨4, _⟩ => ⟨S2048, .i32⟩
  | .hbm, ⟨5, _⟩ => ⟨S2048, .i32⟩
  | .hbm, ⟨6, _⟩ => ⟨S1x2048, .i32⟩
  | .hbm, ⟨7, _⟩ => ⟨S2048x1, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S2048x2048, .i1⟩
  | .hbm, ⟨17, _⟩ => ⟨S2048x2048, .i32⟩
  | .hbm, ⟨18, _⟩ => ⟨S_, .i32⟩
  | .hbm, ⟨19, _⟩ => ⟨S2048, .i32⟩
  | .hbm, ⟨20, _⟩ => ⟨S2048x1, .i32⟩
  | .hbm, ⟨21, _⟩ => ⟨S32, .i32⟩
  | .hbm, ⟨22, _⟩ => ⟨S1x32, .i32⟩
  | .hbm, ⟨23, _⟩ => ⟨S2048x32, .i32⟩
  | .hbm, ⟨24, _⟩ => ⟨S2048x32, .i32⟩
  | .hbm, ⟨25, _⟩ => ⟨S2048x32, .i1⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S2048x1, .i1⟩
  | .hbm, ⟨30, _⟩ => ⟨S2048x32, .i1⟩
  | .hbm, ⟨31, _⟩ => ⟨S2048x32, .i1⟩
  | .hbm, ⟨32, _⟩ => ⟨S2048x32x1024, .f32⟩
  | .hbm, ⟨33, _⟩ => ⟨S2048x32x1, .i1⟩
  | .hbm, ⟨34, _⟩ => ⟨S_, .f32⟩
  | .hbm, ⟨35, _⟩ => ⟨S_, .f32⟩
  | .hbm, ⟨36, _⟩ => ⟨S2048x32x1024, .i1⟩
  | .hbm, ⟨37, _⟩ => ⟨S2048x32x1024, .f32⟩
  | .hbm, ⟨38, _⟩ => ⟨S2048x32x1024, .f32⟩
  | .hbm, ⟨39, _⟩ => ⟨S_, .f32⟩
  | .hbm, ⟨40, _⟩ => ⟨S2048x1024, .f32⟩
  | .hbm, ⟨41, _⟩ => ⟨S2048x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Blocks.lean ====
/-
  The communication buffer of a device, cut into the pieces the kernel's transfers move.

  The buffer has 2048 rows of 1024 columns. Device `m` owns rows `512 m … 512 m + 511`, in two chunks of 256 rows;
  a chunk is four experts' bands of 64 rows, of which the first 56 travel (the slot) and the last 8 stay (the tail).
-/
module

public import proofs.«01_k».proof.Proof.Gen.KernelIdeal.Launch
public import proofs.«01_k».proof.Proof.Gen.KernelIdeal.Skeleton
public import Idealize.ShloMosaic.Lib.Ring
public import Idealize.ShloMosaic.Lib.Ring.Trips
public import Idealize.ShloMosaic.Lib.Rounds
public import Idealize.ShloMosaic.Lib.Tactic

@[expose] public section

noncomputable section

namespace Cert.KernelIdeal.Moe

open Idealize.ShloMosaic Idealize.ShloMosaic.TcCoe
open Cert.KernelIdeal Cert.KernelIdeal.Gen
open Idealize.SL Idealize.SL.RA Idealize.SL.BI

/-! ## Row sets -/

/-- The rows `lo … lo + n - 1` of the communication buffer. -/
def rows (lo n : ℕ) : Finset S2048x1024.Idx :=
  Finset.univ.filter fun i => lo ≤ (i (0 : Fin 2)).val ∧ (i (0 : Fin 2)).val < lo + n

/-- A row belongs to a range where its number is in it. -/
theorem mem_rows {lo n : ℕ} {i : S2048x1024.Idx} : i ∈ rows lo n ↔ lo ≤ (i (0 : Fin 2)).val ∧ (i (0 : Fin 2)).val < lo + n := by
  simp only [rows, Finset.mem_filter, Finset.mem_univ, true_and]

/-- Chunk `C` of device `m`'s block. -/
def chunkSet (m : Dev nD) (C : Fin 2) : Finset S2048x1024.Idx := rows (512 * m.val + 256 * C.val) 256
/-- The rows of expert band `i` of that chunk that travel. -/
def slotSet (m : Dev nD) (C : Fin 2) (i : Fin 4) : Finset S2048x1024.Idx := rows (512 * m.val + 256 * C.val + 64 * i.val) 56
/-- The rows of that chunk that never travel. -/
def tailSet (m : Dev nD) (C : Fin 2) : Finset S2048x1024.Idx :=
  (chunkSet m C).filter fun i => 56 ≤ (i (0 : Fin 2)).val % 64

/-- A row of the tail is one of the chunk past the 56th of its group. -/
theorem mem_tailSet {m : Dev nD} {C : Fin 2} {i : S2048x1024.Idx} :
    i ∈ tailSet m C ↔ i ∈ chunkSet m C ∧ 56 ≤ (i (0 : Fin 2)).val % 64 := by
  simp only [tailSet, Finset.mem_filter]

/-! ## The devices around one, and the transfers of a chunk -/

/-- The device `k + 1` places before `c`. -/
def prv (c : Dev nD) (k : Fin 3) : Dev nD := ⟨(c.val + 3 - k.val) % 4, Nat.mod_lt _ (by decide)⟩
/-- The device `k + 1` places after `c`. -/
def nxt (c : Dev nD) (k : Fin 3) : Dev nD := ⟨(c.val + 1 + k.val) % 4, Nat.mod_lt _ (by decide)⟩

/-- Going on and back again leads home. -/
theorem prv_nxt (c : Dev nD) (k : Fin 3) : prv (nxt c k) k = c := by revert c k; decide
/-- Going back and on again leads home. -/
theorem nxt_prv (c : Dev nD) (k : Fin 3) : nxt (prv c k) k = c := by revert c k; decide

/-- No device is its own predecessor. -/
theorem prv_ne (c : Dev nD) (k : Fin 3) : prv c k ≠ c := by revert c k; decide
/-- No device is its own successor. -/
theorem nxt_ne (c : Dev nD) (k : Fin 3) : nxt c k ≠ c := by revert c k; decide
/-- Going `k + 1` places on is going `3 - k` places back. -/
theorem nxt_eq_prv (c : Dev nD) (k : Fin 3) : nxt c k = prv c k.rev := by revert c k; decide
/-- Going `3 - k` places on is going `k + 1` places back. -/
theorem nxt_rev (c : Dev nD) (k : Fin 3) : nxt c k.rev = prv c k := by revert c k; decide

/-- A chunk is sent by twelve transfers: transfer `q` carries band `q % 4` to the device `q / 4 + 1` places on. -/
def kOf (q : Fin 12) : Fin 3 := ⟨q.val / 4, by omega⟩
/-- The band transfer `q` carries. -/
def iOf (q : Fin 12) : Fin 4 := ⟨q.val % 4, by omega⟩

/-- The transfers of a chunk that go `k + 1` places on. -/
def toward (k : Fin 3) : Finset (Fin 12) := Ring.rangeSet 12 (4 * k.val) (4 * k.val + 4)

/-- A transfer goes `k + 1` places on where its number says so. -/
theorem mem_toward {k : Fin 3} {q : Fin 12} : q ∈ toward k ↔ kOf q = k := by revert k q; decide

/-- The bands transfers carry, those of one distance, are apart. -/
theorem slot_disjoint (m : Dev nD) (C : Fin 2) (k : Fin 3) :
    ∀ a ∈ toward k, ∀ b ∈ toward k, a ≠ b → Disjoint (slotSet m C (iOf a)) (slotSet m C (iOf b)) := by
  intro a ha b hb hab
  rw [mem_toward] at ha hb
  rw [Finset.disjoint_left]
  intro x hx hy
  rw [slotSet, mem_rows] at hx hy
  have h := congrArg Fin.val (ha.trans hb.symm)
  simp only [kOf, iOf] at h hx hy
  exact hab (Fin.ext (by omega))

/-- A chunk's slots are apart from its tail. -/
theorem slots_tail_disjoint (m : Dev nD) (C : Fin 2) (k : Fin 3) :
    Disjoint ((toward k).biUnion fun q => slotSet m C (iOf q)) (tailSet m C) := by
  rw [Finset.disjoint_left]
  intro x hx hy
  obtain ⟨i, -, hx⟩ := Finset.mem_biUnion.mp hx
  rw [slotSet, mem_rows] at hx
  rw [mem_tailSet] at hy
  omega

/-- A chunk is the four slots the transfers of one distance carry, and its tail. -/
theorem chunk_eq (m : Dev nD) (C : Fin 2) (k : Fin 3) :
    chunkSet m C = (toward k).biUnion (fun q => slotSet m C (iOf q)) ∪ tailSet m C := by
  ext x
  rw [Finset.mem_union, Finset.mem_biUnion, mem_tailSet, chunkSet, mem_rows]
  constructor
  · intro h
    by_cases h56 : 56 ≤ (x (0 : Fin 2)).val % 64
    · exact .inr ⟨h, h56⟩
    · have hk := k.isLt
      refine .inl ⟨⟨4 * k.val + ((x (0 : Fin 2)).val - (512 * m.val + 256 * C.val)) / 64, by omega⟩, mem_toward.mpr (Fin.ext ?_), ?_⟩
      · simp only [kOf]; omega
      · rw [slotSet, mem_rows]
        simp only [iOf]
        omega
  · rintro (⟨i, -, h⟩ | h)
    · rw [slotSet, mem_rows] at h
      have := (iOf i).isLt
      omega
    · exact h.1

/-! ## The whole buffer, seen from one device -/

/-- The rows device `c` owns. -/
def ownSet (c : Dev nD) : Finset S2048x1024.Idx := Finset.univ.biUnion fun C => chunkSet c C
/-- The rows that reach device `c` from the others: for each chunk, one slot per transfer. -/
def inSet (c : Dev nD) : Finset S2048x1024.Idx :=
  Finset.univ.biUnion fun a : Fin 2 × Fin 12 => slotSet (prv c (kOf a.2)) a.1 (iOf a.2)
/-- The rows of the other devices' blocks that never travel. -/
def offSet (c : Dev nD) : Finset S2048x1024.Idx := Finset.univ.biUnion fun a : Fin 2 × Fin 3 => tailSet (prv c a.2) a.1

/-- A device's two chunks are apart. -/
theorem own_chunks_disjoint (c : Dev nD) :
    ∀ a ∈ (Finset.univ : Finset (Fin 2)), ∀ b ∈ (Finset.univ : Finset (Fin 2)), a ≠ b → Disjoint (chunkSet c a) (chunkSet c b) := by
  intro a _ b _ hab
  rw [Finset.disjoint_left]
  intro x hx hy
  rw [chunkSet, mem_rows] at hx hy
  exact hab (Fin.ext (by omega))

/-- The slots that reach a device are apart from each other. -/
theorem in_slots_disjoint (c : Dev nD) : ∀ a ∈ (Finset.univ : Finset (Fin 2 × Fin 12)), ∀ b ∈ (Finset.univ : Finset (Fin 2 × Fin 12)), a ≠ b →
    Disjoint (slotSet (prv c (kOf a.2)) a.1 (iOf a.2)) (slotSet (prv c (kOf b.2)) b.1 (iOf b.2)) := by
  rintro ⟨a₁, a₂⟩ _ ⟨b₁, b₂⟩ _ hab
  rw [Finset.disjoint_left]
  intro x hx hy
  have hc : c.val < 4 := c.isLt
  simp only [slotSet, mem_rows, prv, kOf, iOf] at hx hy
  refine hab (Prod.ext (Fin.ext ?_) (Fin.ext ?_)) <;> dsimp only <;> omega

/-- The tails of the other devices' chunks are apart from each other. -/
theorem tails_disjoint (c : Dev nD) : ∀ a ∈ (Finset.univ : Finset (Fin 2 × Fin 3)), ∀ b ∈ (Finset.univ : Finset (Fin 2 × Fin 3)), a ≠ b →
    Disjoint (tailSet (prv c a.2) a.1) (tailSet (prv c b.2) b.1) := by
  rintro ⟨a₁, a₂⟩ _ ⟨b₁, b₂⟩ _ hab
  rw [Finset.disjoint_left]
  intro x hx hy
  have hc : c.val < 4 := c.isLt
  simp only [mem_tailSet, chunkSet, mem_rows, prv] at hx hy
  refine hab (Prod.ext (Fin.ext ?_) (Fin.ext ?_)) <;> dsimp only <;> omega

/-- What reaches a device is apart from what never travels. -/
theorem in_off_disjoint (c : Dev nD) : Disjoint (inSet c) (offSet c) := by
  rw [Finset.disjoint_left]
  intro x hx hy
  obtain ⟨a, -, hx⟩ := Finset.mem_biUnion.mp hx
  obtain ⟨b, -, hy⟩ := Finset.mem_biUnion.mp hy
  simp only [slotSet, mem_tailSet, chunkSet, mem_rows] at hx hy
  omega

/-- A device's own rows are apart from all others. -/
theorem own_rest_disjoint (c : Dev nD) : Disjoint (ownSet c) (inSet c ∪ offSet c) := by
  rw [Finset.disjoint_left]
  intro x hx hy
  obtain ⟨a, -, hx⟩ := Finset.mem_biUnion.mp hx
  have hc : c.val < 4 := c.isLt
  rcases Finset.mem_union.mp hy with hy | hy
  · obtain ⟨b, -, hy⟩ := Finset.mem_biUnion.mp hy
    simp only [slotSet, chunkSet, mem_rows, prv, kOf, iOf] at hx hy
    omega
  · obtain ⟨b, -, hy⟩ := Finset.mem_biUnion.mp hy
    simp only [mem_tailSet, chunkSet, mem_rows, prv] at hx hy
    omega

/-- The whole buffer is the device's own rows, what reaches it, and what never travels. -/
theorem whole_eq (c : Dev nD) : (Finset.univ : Finset S2048x1024.Idx) = ownSet c ∪ (inSet c ∪ offSet c) := by
  ext x
  have hc : c.val < 4 := c.isLt
  have hx : (x (0 : Fin 2)).val < 2048 := (x (0 : Fin 2)).isLt
  simp only [Finset.mem_univ, true_iff, Finset.mem_union]
  have hC : (x (0 : Fin 2)).val % 512 / 256 < 2 := by omega
  by_cases h : (x (0 : Fin 2)).val / 512 = c.val
  · refine .inl (Finset.mem_biUnion.mpr ⟨⟨_, hC⟩, Finset.mem_univ _, ?_⟩)
    rw [chunkSet, mem_rows]
    dsimp only
    omega
  · have hk : (c.val + 3 - (x (0 : Fin 2)).val / 512) % 4 < 3 := by omega
    by_cases h56 : 56 ≤ (x (0 : Fin 2)).val % 64
    · refine .inr (.inr (Finset.mem_biUnion.mpr ⟨(⟨_, hC⟩, ⟨_, hk⟩), Finset.mem_univ _, ?_⟩))
      rw [mem_tailSet, chunkSet, mem_rows]
      dsimp only [prv]
      omega
    · refine .inr (.inl (Finset.mem_biUnion.mpr ⟨(⟨_, hC⟩, ⟨4 * ((c.val + 3 - (x (0 : Fin 2)).val / 512) % 4) + (x (0 : Fin 2)).val % 256 / 64, by omega⟩), Finset.mem_univ _, ?_⟩))
      rw [slotSet, mem_rows]
      dsimp only [prv, kOf, iOf]
      omega

/-! ## Views of the kernel as row sets -/

/-- The slot the transfers of chunk `C`, band `i` of device `m` name. -/
abbrev slotM (m : Dev nD) (C : Fin 2) (i : Fin 4) : Memref sig .tc .vmem S56x1024 .bf16 :=
  (Memref.whole cc0_scratch0).slice (Rect.unit (s := S2048x1024) (k0_off2 m (BitVec.ofNat 32 (256 * C.val)) (BitVec.ofNat 32 (64 * i.val))) S56x1024.size (k0_off2_inb m C i)) (fun _ => rfl)

/-- A rectangle of whole rows is a range of rows. -/
theorem unit_rows {off : Fin 2 → ℕ} {n : ℕ} {size : Fin 2 → ℕ} (lo : ℕ) (ho : off = ![lo, 0]) (hs : size = ![n, 1024])
    (inb : ∀ a, off a + size a ≤ S2048x1024.size a) : (Rect.unit (s := S2048x1024) off size inb).set = rows lo n := by
  subst ho hs
  ext i
  rw [Rect.mem_set_unit, mem_rows]
  constructor
  · intro h; exact h 0
  · intro h a
    match a with
    | 0 => exact h
    | 1 => exact ⟨Nat.zero_le _, by have := (i (1 : Fin 2)).isLt; simpa using this⟩

/-- A transfer's rectangle covers its slot. -/
theorem slotM_set (m : Dev nD) (C : Fin 2) (i : Fin 4) : (slotM m C i).view.set = slotSet m C i := by
  show ((View.whole cc0_scratch0).slice _).set = _
  rw [View.set_slice_whole]
  exact unit_rows _ (k0_off2_eq m C i) rfl _

/-- The rectangle of chunk `C` of device `m`'s own block. -/
theorem own_set (m : Dev nD) (C : Fin 2) :
    ((Memref.whole cc0_scratch0 : Memref sig .tc .vmem S2048x1024 .bf16).access
      (Rect.unit (s := S2048x1024) (k0_off1 m (BitVec.ofNat 32 (256 * C.val))) S256x1024.size (k0_off1_inb m C))).set = chunkSet m C := by
  show ((View.whole cc0_scratch0).slice _).set = _
  rw [View.set_slice_whole]
  exact unit_rows _ (k0_off1_eq m C) rfl _

/-- The rectangle of the own first chunk, as the products read it, covers that chunk. -/
theorem own3_set (m : Dev nD) :
    ((Memref.whole cc0_scratch0 : Memref sig .tc .vmem S2048x1024 .bf16).access
      (Rect.unit (s := S2048x1024) (k0_off3 m) S256x1024.size (k0_off3_inb m))).set = chunkSet m 0 := by
  show ((View.whole cc0_scratch0).slice _).set = _
  rw [View.set_slice_whole]
  exact unit_rows _ (k0_off3_eq m) rfl _

/-- The rectangle of another device's chunk, as the products read it, covers that chunk. -/
theorem away_set (c : Dev nD) (k : Fin 3) (C : Fin 2) :
    ((Memref.whole cc0_scratch0 : Memref sig .tc .vmem S2048x1024 .bf16).access
      (Rect.unit (s := S2048x1024) (k0_off4 c (BitVec.ofNat 32 (1 + k.val)) (BitVec.ofNat 32 (256 * C.val))) S256x1024.size (k0_off4_inb c k C))).set
      = chunkSet (prv c k) C := by
  show ((View.whole cc0_scratch0).slice _).set = _
  rw [View.set_slice_whole]
  exact unit_rows _ (k0_off4_eq c k C) rfl _

end Cert.KernelIdeal.Moe

end
-- ==== Proof.Contents.lean ====
/-
  What the communication buffer holds while the kernel runs.

  Every device computes its own two chunks from its tokens, its local slots and its expert weights. After the transfers
  a device's buffer holds its own chunks in full, the travelling rows of the others' chunks, and zeros elsewhere.
-/
module

public import proofs.«01_k».proof.Proof.Blocks
public import Idealize.ShloMosaic.Lib.Pipeline.Value
public import Idealize.ShloMosaic.Lib.Pipeline.ValueKit.Geometry

@[expose] public section

noncomputable section

namespace Cert.KernelIdeal.Moe

open Idealize.ShloMosaic Idealize.ShloMosaic.TcCoe
open Cert.KernelIdeal Cert.KernelIdeal.Gen
open Idealize.SL Idealize.SL.RA Idealize.SL.BI

variable {F : FTy → Type} [FloatOps F]

/-- What the devices' kernels start from: the tokens, the slots the device serves, all slots, and the device's experts. -/
structure Inputs (F : FTy → Type) where
  x : Dev nD → Vec F S2048x512 .f32
  lslot : Dev nD → Vec F S2048x1 .i32
  slot : Dev nD → Vec F S2048x1 .i32
  w : Dev nD → Vec F S8x512x1024 .f32

/-- An expert's weights lie inside the weight buffer. -/
theorem row_inb (e : Fin 8) : ∀ a, (![e.val, 0, 0] : Fin 3 → ℕ) a + S1x512x1024.size a ≤ S8x512x1024.size a := by
  revert e; decide

/-- Expert `e`'s weights, as a load of the weight buffer reads them. -/
def wRow (w : Vec F S8x512x1024 .f32) (e : Fin 8) : Vec F S1x512x1024 .f32 :=
  (Memref.whole cc0_scratch1 : Memref sig .tc .vmem S8x512x1024 .f32).view.readAt (Elt F)
    (Rect.unit (s := S8x512x1024) ![e.val, 0, 0] S1x512x1024.size (row_inb e)).toLoadRect w

/-- The column numbers `0 … 255`, one row per token. -/
abbrev cols : IVec S2048x256 32 := iota .tc S2048x256 32 [1] iota_S2048x256_d1_w32

variable (In : Inputs F)

/-- What device `m` stores in its first chunk. -/
def chunk0 (m : Dev nD) : Vec F S256x1024 .bf16 :=
  k0_pay6 (k0_pay3 (In.x m) (In.lslot m)) (k0_pay4 (In.x m) (In.lslot m) (wRow (In.w m) 0)) (k0_pay5 (In.x m) (In.lslot m))
    (wRow (In.w m) 1) (wRow (In.w m) 2) (wRow (In.w m) 3)

/-- What device `m` stores in its second chunk. -/
def chunk1 (m : Dev nD) : Vec F S256x1024 .bf16 :=
  k0_pay11 (k0_pay7 (k0_pay2 (In.x m)) cols (In.lslot m)) (k0_pay8 (k0_pay2 (In.x m)) cols (In.lslot m) (wRow (In.w m) 4))
    (k0_pay9 (k0_pay2 (In.x m)) cols (In.lslot m) (wRow (In.w m) 5)) (k0_pay10 (k0_pay2 (In.x m)) cols (In.lslot m))
    (wRow (In.w m) 6) (wRow (In.w m) 7)

/-- What device `m` stores in chunk `C`. -/
def chunkVal (m : Dev nD) (C : Fin 2) : Vec F S256x1024 .bf16 := if C = 0 then chunk0 In m else chunk1 In m

/-- Index (`row`, `col`) of a chunk. -/
def chunkIdx (row col : ℕ) (hr : row < 256) (hc : col < 1024) : S256x1024.Idx
  | ⟨0, _⟩ => ⟨row, hr⟩
  | ⟨1, _⟩ => ⟨col, hc⟩

/-- All devices' chunks, one after another. -/
def gathered : Vec F S2048x1024 .bf16 := fun i =>
  have h0 : (i (0 : Fin 2)).val < 2048 := (i (0 : Fin 2)).isLt
  have h1 : (i (1 : Fin 2)).val < 1024 := (i (1 : Fin 2)).isLt
  chunkVal In ⟨(i (0 : Fin 2)).val / 512, by show _ < 4; omega⟩ ⟨(i (0 : Fin 2)).val % 512 / 256, by omega⟩
    (chunkIdx ((i (0 : Fin 2)).val % 256) (i (1 : Fin 2)).val (by omega) h1)

/-- The gathered chunks, read at a row of a given chunk. -/
theorem gathered_at (i : S2048x1024.Idx) (m : Dev nD) (C : Fin 2) (j : S256x1024.Idx)
    (h0 : (i (0 : Fin 2)).val = 512 * m.val + 256 * C.val + (j (0 : Fin 2)).val) (h1 : (i (1 : Fin 2)).val = (j (1 : Fin 2)).val) :
    gathered In i = chunkVal In m C j := by
  have hj : (j (0 : Fin 2)).val < 256 := (j (0 : Fin 2)).isLt
  have hm : m.val < 4 := m.isLt
  have e1 : ∀ h, (⟨(i (0 : Fin 2)).val / 512, h⟩ : Dev nD) = m := fun h => Fin.ext (by dsimp only; omega)
  have e2 : ∀ h, (⟨(i (0 : Fin 2)).val % 512 / 256, h⟩ : Fin 2) = C := fun h => Fin.ext (by dsimp only; omega)
  have e3 : ∀ hr hc, chunkIdx ((i (0 : Fin 2)).val % 256) (i (1 : Fin 2)).val hr hc = j := fun hr hc => funext fun a => by
    match a with
    | ⟨0, _⟩ => exact Fin.ext (show (i (0 : Fin 2)).val % 256 = (j (0 : Fin 2)).val by omega)
    | ⟨1, _⟩ => exact Fin.ext h1
  show chunkVal In ⟨_, _⟩ ⟨_, _⟩ (chunkIdx _ _ _ _) = _
  rw [e1, e2]
  exact congrArg (chunkVal In m C) (e3 _ _)

/-- What device `d`'s buffer holds in the end. -/
def fin (d : Dev nD) : Vec F S2048x1024 .bf16 := fun i =>
  if (i (0 : Fin 2)).val / 512 = d.val ∨ (i (0 : Fin 2)).val % 64 < 56 then gathered In i else k0_pay1 i

/-- The rows of a slot hold the same on both ends of a transfer. -/
theorem fin_slot (d d' m : Dev nD) (C : Fin 2) (i : Fin 4) : ∀ x ∈ slotSet m C i, fin In d x = fin In d' x := by
  intro x hx
  rw [slotSet, mem_rows] at hx
  have h : (x (0 : Fin 2)).val % 64 < 56 := by omega
  rw [fin, fin, if_pos (.inr h), if_pos (.inr h)]

/-- The rows of another device's block that never travel stay zero. -/
theorem fin_tail (c : Dev nD) (k : Fin 3) (C : Fin 2) : ∀ x ∈ tailSet (prv c k) C, k0_pay1 (F := F) x = fin In c x := by
  intro x hx
  have hc : c.val < 4 := c.isLt
  simp only [mem_tailSet, chunkSet, mem_rows, prv] at hx
  rw [fin, if_neg]
  rintro (h | h) <;> omega

/-- The rectangle of chunk `C` of device `c`'s own block. -/
abbrev ownR (c : Dev nD) (C : Fin 2) : Rect S2048x1024 :=
  Rect.unit (s := S2048x1024) (k0_off1 c (BitVec.ofNat 32 (256 * C.val))) S256x1024.size (k0_off1_inb c C)

/-- The communication buffer. -/
abbrev commM : Memref sig .tc .vmem S2048x1024 .bf16 := Memref.whole cc0_scratch0

/-- Storing a chunk makes its rows what the buffer holds in the end. -/
theorem store_own (c : Dev nD) (C : Fin 2) (f : Vec F S2048x1024 .bf16) :
    ∀ x ∈ chunkSet c C, (commM.access (ownR c C)).write (Elt F) f (chunkVal In c C) Finset.univ x = fin In c x := by
  intro x hx
  have hx' := hx
  rw [← own_set c C] at hx
  obtain ⟨j, rfl⟩ := View.exists_emb_of_mem_set _ hx
  rw [View.write_emb_of_mem _ _ (Finset.mem_univ j)]
  have h : ∀ a, ((commM.access (ownR c C)).emb j a).val = k0_off1 c (BitVec.ofNat 32 (256 * C.val)) a + (j a).val :=
    fun a => ValueKit.view_emb_slice_whole_unit_val cc0_scratch0 _ _ _ j a
  have h0 := h 0
  have h1 := h 1
  have o0 := congrFun (k0_off1_eq c C) 0
  have o1 := congrFun (k0_off1_eq c C) 1
  rw [chunkSet, mem_rows] at hx'
  have hj : (j (0 : Fin 2)).val < 256 := (j (0 : Fin 2)).isLt
  have hc : c.val < 4 := c.isLt
  simp only [Matrix.cons_val_zero, Matrix.cons_val_one] at o0 o1
  rw [o0] at h0
  rw [o1] at h1
  rw [fin, if_pos (.inl (by omega))]
  exact (gathered_at In _ c C j h0 (h1.trans (Nat.zero_add _))).symm

/-- A slot landing on device `d` makes its rows what that buffer holds in the end. -/
theorem land_slot (d c m : Dev nD) (C : Fin 2) (i : Fin 4) (f : Vec F S2048x1024 .bf16) :
    ∀ x ∈ slotSet m C i, (slotM m C i).view.write (Elt F) f ((slotM m C i).view.read (Elt F) (fin In c)) Finset.univ x = fin In d x := by
  intro x hx
  have hx' := hx
  rw [← slotM_set m C i] at hx
  obtain ⟨j, rfl⟩ := View.exists_emb_of_mem_set _ hx
  rw [View.write_emb_of_mem _ _ (Finset.mem_univ j), View.read_apply]
  exact fin_slot In c d m C i _ hx'

end Cert.KernelIdeal.Moe

end
-- ==== Proof.Protocol.lean ====
/-
  The protocol of the kernel: its semaphore cells, what each delivery hands over, and what each device owes.

  Every cell is used in one round. The barrier cell of a device is raised by the three others, each raise handing over the
  right to write the slots the raiser will receive. A weight cell is raised by the copy of half the weights. A transfer
  raises the sender's send cell, handing the source back, and the receiver's receive cell, handing over the slot as landed.
-/
module

public import proofs.«01_k».proof.Proof.Contents

@[expose] public section

noncomputable section

namespace Cert.KernelIdeal.Moe

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's rounds: three duties, one for each of the three raisers of a barrier cell. -/
abbrev UB : Type := URounds (GSem nD τ sig) (Fin 3)
/-- The staging pipeline's rounds beside the protocol's. -/
abbrev UU : Type := URounds (GSem nD τ sig) Unit × UB

local notation "𝕄" => MT nD τ sig Unit (Elt F) ℕ UU ℕ

/-- Where the staging's rounds live. -/
abbrev EP : Emb (URounds (GSem nD τ sig) Unit) (MT nD τ sig Unit (Elt F) ℕ UU ℕ) := embL
/-- Where the protocol's rounds live. -/
abbrev ER : Emb UB (MT nD τ sig Unit (Elt F) ℕ UU ℕ) := embR

/-! ## Semaphores and cells -/

/-- The barrier semaphore. -/
abbrev barS : Sem sig := (SemArray.scalar (sig.barrier 0 rfl) : Sems sig S_).sem
/-- The semaphore of weight half `h`. -/
def wS (h : Fin 2) : DmaSem sig := ⟨4 + h.val, by show _ < 54; omega⟩
/-- The send semaphore of transfer `q` of chunk `C`. -/
def sendS (C : Fin 2) (q : Fin 12) : DmaSem sig := ⟨6 + (((kOf q).val * 2 + C.val) * 4 + (iOf q).val), by show _ < 54; omega⟩
/-- The receive semaphore of transfer `q` of chunk `C`. -/
def recvS (C : Fin 2) (q : Fin 12) : DmaSem sig := ⟨30 + (((kOf q).val * 2 + C.val) * 4 + (iOf q).val), by show _ < 54; omega⟩

/-- Device `c`'s barrier cell. -/
abbrev barCell (c : Dev nD) : GSem nD τ sig := ((c : Thread nD τ), .reg barS)
/-- Device `c`'s cell for half `h` of the weights. -/
abbrev wCell (c : Dev nD) (h : Fin 2) : GSem nD τ sig := ((c : Thread nD τ), .dma (wS h))
/-- Device `c`'s send cell of transfer `q` of chunk `C`. -/
abbrev sendCell (c : Dev nD) (C : Fin 2) (q : Fin 12) : GSem nD τ sig := ((c : Thread nD τ), .dma (sendS C q))
/-- Device `c`'s receive cell of transfer `q` of chunk `C`. -/
abbrev recvCell (c : Dev nD) (C : Fin 2) (q : Fin 12) : GSem nD τ sig := ((c : Thread nD τ), .dma (recvS C q))

/-- What a semaphore serves for. -/
inductive Role
  | bar
  | weight (h : Fin 2)
  | send (C : Fin 2) (q : Fin 12)
  | recv (C : Fin 2) (q : Fin 12)
  | none
  deriving DecidableEq

/-- The chunk semaphore number `j` of an array of 24 belongs to. -/
def chunkOf (j : ℕ) : Fin 2 := ⟨j / 4 % 2, Nat.mod_lt _ (by decide)⟩
/-- The transfer semaphore number `j` of an array of 24 belongs to. -/
def transferOf (j : ℕ) : Fin 12 := ⟨(j / 8 * 4 + j % 4) % 12, Nat.mod_lt _ (by decide)⟩

/-- The role of a semaphore. -/
def role : SemLoc sig → Role
  | .reg _ => .bar
  | .dma j =>
    if j.val < 4 then .none
    else if j.val < 6 then .weight ⟨(j.val - 4) % 2, Nat.mod_lt _ (by decide)⟩
    else if j.val < 30 then .send (chunkOf (j.val - 6)) (transferOf (j.val - 6))
    else .recv (chunkOf (j.val - 30)) (transferOf (j.val - 30))

/-- The barrier's role. -/
theorem role_bar : role (.reg barS) = .bar := rfl
/-- A weight semaphore's role. -/
theorem role_weight (h : Fin 2) : role (.dma (wS h)) = .weight h := by revert h; decide
/-- A send semaphore's role. -/
theorem role_send (C : Fin 2) (q : Fin 12) : role (.dma (sendS C q)) = .send C q := by revert C q; decide
/-- A receive semaphore's role. -/
theorem role_recv (C : Fin 2) (q : Fin 12) : role (.dma (recvS C q)) = .recv C q := by revert C q; decide
/-- A staging semaphore has none. -/
theorem role_staging (j : DmaSem sig) (h : j.val < 4) : role (.dma j) = .none := if_pos h

/-! ## The weights' halves -/

/-- A half lies inside the weights. -/
theorem half_inb (h : Fin 2) : ∀ a, (![4 * h.val, 0, 0] : Fin 3 → ℕ) a + S4x512x1024.size a ≤ S8x512x1024.size a := by
  revert h; decide

/-- Half `h` of the weights where they are given. -/
abbrev wSrc (h : Fin 2) : Memref sig .tc .hbm S4x512x1024 .f32 :=
  (Memref.whole main_arg3).slice (Rect.unit (s := S8x512x1024) ![4 * h.val, 0, 0] S4x512x1024.size (half_inb h)) (fun _ => rfl)
/-- Half `h` of the weights where the kernel keeps them. -/
abbrev wDst (h : Fin 2) : Memref sig .tc .vmem S4x512x1024 .f32 :=
  (Memref.whole cc0_scratch1).slice (Rect.unit (s := S8x512x1024) ![4 * h.val, 0, 0] S4x512x1024.size (half_inb h)) (fun _ => rfl)

/-- The experts of half `h`. -/
def halfSet (h : Fin 2) : Finset S8x512x1024.Idx := Finset.univ.filter fun i => (i (0 : Fin 3)).val / 4 = h.val

/-- An expert belongs to the half its number says. -/
theorem mem_halfSet {h : Fin 2} {i : S8x512x1024.Idx} : i ∈ halfSet h ↔ (i (0 : Fin 3)).val / 4 = h.val := by
  simp only [halfSet, Finset.mem_filter, Finset.mem_univ, true_and]

/-- The rectangle of a half covers the half. -/
theorem half_rect (h : Fin 2) (inb) : (Rect.unit (s := S8x512x1024) ![4 * h.val, 0, 0] S4x512x1024.size inb).set = halfSet h := by
  ext i
  rw [Rect.mem_set_unit, mem_halfSet]
  constructor
  · intro hi
    have := hi 0
    simp only [Matrix.cons_val_zero] at this
    change 4 * h.val ≤ _ ∧ _ < 4 * h.val + 4 at this
    omega
  · intro hi a
    match a with
    | 0 => show 4 * h.val ≤ _ ∧ _ < 4 * h.val + 4; omega
    | 1 => exact ⟨Nat.zero_le _, by have := (i (1 : Fin 3)).isLt; simpa using this⟩
    | 2 => exact ⟨Nat.zero_le _, by have := (i (2 : Fin 3)).isLt; simpa using this⟩

/-- A weight copy reads its half, -/
theorem wSrc_set (h : Fin 2) : (wSrc h).view.set = halfSet h := by
  show ((View.whole main_arg3).slice _).set = _
  rw [View.set_slice_whole]
  exact half_rect h _

/-- and writes it. -/
theorem wDst_set (h : Fin 2) : (wDst h).view.set = halfSet h := by
  show ((View.whole cc0_scratch1).slice _).set = _
  rw [View.set_slice_whole]
  exact half_rect h _

/-- The halves are apart. -/
theorem halves_disjoint : Disjoint (halfSet 0) (halfSet 1) := by
  rw [Finset.disjoint_left]
  intro x hx hy
  rw [mem_halfSet] at hx hy
  rw [hx] at hy
  exact absurd hy (by decide)

/-- The halves are all the weights. -/
theorem halves_univ : (Finset.univ : Finset S8x512x1024.Idx) = halfSet 0 ∪ halfSet 1 := by
  ext x
  have hx : (x (0 : Fin 3)).val < 8 := (x (0 : Fin 3)).isLt
  simp only [Finset.mem_univ, Finset.mem_union, mem_halfSet, true_iff]
  show _ = 0 ∨ _ = 1
  omega

/-- The copy of a half makes the kernel's rows the given ones. -/
theorem land_half (h : Fin 2) (f w : Vec F S8x512x1024 .f32) :
    ∀ x ∈ halfSet h, (wDst h).view.write (Elt F) f ((wSrc h).view.read (Elt F) w) Finset.univ x = w x := by
  intro x hx
  rw [← wDst_set h] at hx
  obtain ⟨j, rfl⟩ := View.exists_emb_of_mem_set _ hx
  rw [View.write_emb_of_mem _ _ (Finset.mem_univ j), View.read_apply]
  rfl

/-! ## What the deliveries hand over -/

/-- The bytes' credit of one transfer. -/
def NS : ℕ := (cc0_scratch0 : Ref sig .tc).dmaCredit S56x1024 .bf16
/-- The bytes' credit of one half of the weights. -/
def NW : ℕ := (cc0_scratch1 : Ref sig .tc).dmaCredit S4x512x1024 .f32
/-- Every transfer brings the same credit. -/
theorem credit_slot (m : Dev nD) (C : Fin 2) (i : Fin 4) : (slotM m C i).view.dmaCredit = NS := rfl
/-- Both weight copies bring the same credit. -/
theorem credit_half (h : Fin 2) : (wDst h).view.dmaCredit = NW := rfl
/-- A transfer brings some credit. -/
theorem NS_pos : 0 < NS := (slotM 0 0 0).view.dmaCredit_pos (by decide)
/-- A weight copy brings some credit. -/
theorem NW_pos : 0 < NW := (wDst 0).view.dmaCredit_pos (by decide)

/-- Some elements of device `c`'s communication buffer, at contents `f`. -/
abbrev comm (c : Dev nD) (S : Finset S2048x1024.Idx) (q : PosShare TreeShare) (f : Vec F S2048x1024 .bf16) : sProp 𝕄 :=
  (((c : Thread nD τ).loc cc0_scratch0) ↦[S]{q} f)
/-- Some elements of the weights as given to device `c`. -/
abbrev given (c : Dev nD) (S : Finset S8x512x1024.Idx) (f : Vec F S8x512x1024 .f32) : sProp 𝕄 :=
  (((c : Thread nD τ).loc main_arg3) ↦[S]{fullShare} f)
/-- Some elements of the weights as device `c`'s kernel keeps them. -/
abbrev kept (c : Dev nD) (S : Finset S8x512x1024.Idx) (f : Vec F S8x512x1024 .f32) : sProp 𝕄 :=
  (((c : Thread nD τ).loc cc0_scratch1) ↦[S]{fullShare} f)

/-- The share of its own chunks a device keeps while they travel. -/
def shKeep : PosShare TreeShare := fullShare.left
/-- The share of its own chunks a device lends to the transfers of distance `k + 1`. -/
def sh (k : Fin 3) : PosShare TreeShare := Ring.shares3 fullShare.right k

variable (In : Inputs F)

/-- The right to write the slot of transfer `q` of chunk `C` of device `e` where it goes. -/
def dstPay (e : Dev nD) (C : Fin 2) (q : Fin 12) : sProp 𝕄 :=
  iprop(comm (nxt e (kOf q)) (slotSet e C (iOf q)) fullShare (k0_pay1 (F := F)) ∗ reached ER (recvCell (nxt e (kOf q)) C q) 0)
/-- What the raiser `d + 1` places before device `e` hands it: the right to write its slots on the raiser. -/
def barPay (e : Dev nD) (d : Fin 3) : sProp 𝕄 := bigSep Finset.univ fun C : Fin 2 => bigSep (toward d.rev) fun q => dstPay e C q
/-- What a weight copy hands over: its half on both sides, equal. -/
def wPay (c : Dev nD) (h : Fin 2) : sProp 𝕄 := iprop(kept c (halfSet h) (In.w c) ∗ given c (halfSet h) (In.w c))
/-- What a departed transfer hands back: the lent share of its slot. -/
def sendPay (c : Dev nD) (C : Fin 2) (q : Fin 12) : sProp 𝕄 := comm c (slotSet c C (iOf q)) (sh (kOf q)) (fin In c)
/-- What a landed transfer hands over: its slot, filled. -/
def recvPay (c : Dev nD) (C : Fin 2) (q : Fin 12) : sProp 𝕄 := comm c (slotSet (prv c (kOf q)) C (iOf q)) fullShare (fin In c)

/-- What the delivery of duty `d` at a semaphore of a given role of device `c` hands over. -/
def payOf (c : Dev nD) (d : Fin 3) : Role → sProp 𝕄
  | .bar => barPay c d
  | .weight h => wPay In c h
  | .send C q => sendPay In c C q
  | .recv C q => recvPay In c C q
  | .none => iprop(emp)

/-- The duties at a semaphore of a given role. -/
def dutiesOf : Role → Finset (Fin 3)
  | .bar => Finset.univ
  | .none => ∅
  | _ => {0}

/-- The units a delivery at a semaphore of a given role brings. -/
def unitsOf : Role → ℕ
  | .weight _ => NW
  | .send _ _ => NS
  | .recv _ _ => NS
  | _ => 1

/-- Every delivery brings some units. -/
theorem unitsOf_pos (r : Role) : 0 < unitsOf r := by
  cases r with
  | weight _ => exact NW_pos
  | send _ _ => exact NS_pos
  | recv _ _ => exact NS_pos
  | bar => exact Nat.one_pos
  | none => exact Nat.one_pos

/-- One round at every cell. -/
def moeRd : Rounds.Schedule (GSem nD τ sig) (Fin 3) 𝕄 where
  duties g r := if r = 0 ∧ g.1.2 = .tc then dutiesOf (role g.2) else ∅
  unitless _ := False
  amount g _ _ := unitsOf (role g.2)
  payload g _ d := payOf In g.1.1 d (role g.2)
  amount_pos g _ _ _ := unitsOf_pos _

/-- The right to write a slot may be kept in a cell. -/
instance dstPay_storable (e : Dev nD) (C : Fin 2) (q : Fin 12) : BI.Storable (upEmb : UEmb _ 𝕄) (dstPay (F := F) e C q) := by
  unfold dstPay; infer_instance
/-- So may what a barrier signal hands over, -/
instance barPay_storable (e : Dev nD) (d : Fin 3) : BI.Storable (upEmb : UEmb _ 𝕄) (barPay (F := F) e d) := by
  unfold barPay; infer_instance
/-- what a weight copy does, -/
instance wPay_storable (c : Dev nD) (h : Fin 2) : BI.Storable (upEmb : UEmb _ 𝕄) (wPay In c h) := by unfold wPay; infer_instance
/-- what a departed transfer does, -/
instance sendPay_storable (c : Dev nD) (C : Fin 2) (q : Fin 12) : BI.Storable (upEmb : UEmb _ 𝕄) (sendPay In c C q) := by
  unfold sendPay; infer_instance
/-- and what a landed one does. -/
instance recvPay_storable (c : Dev nD) (C : Fin 2) (q : Fin 12) : BI.Storable (upEmb : UEmb _ 𝕄) (recvPay In c C q) := by
  unfold recvPay; infer_instance

/-- So every payload may be kept in its cell. -/
instance moeRd_payload_storable (g : GSem nD τ sig) (r : ℕ) (d : Fin 3) :
    BI.Storable (upEmb : UEmb _ 𝕄) ((moeRd In).payload g r d) := by
  show BI.Storable upEmb (payOf In g.1.1 d (role g.2))
  cases role g.2 <;> (unfold payOf; infer_instance)

section Tables

variable (c : Dev nD) (C : Fin 2) (q : Fin 12) (h : Fin 2) (d : Fin 3)

/-- The duties at a cell are those of its role. -/
theorem duties_at (sm : SemLoc sig) : (moeRd In).duties ((c : Thread nD τ), sm) 0 = dutiesOf (role sm) := by
  show (if (0 : ℕ) = 0 ∧ (c : Thread nD τ).2 = .tc then dutiesOf (role sm) else ∅) = _
  exact if_pos ⟨rfl, rfl⟩
/-- The barrier has three duties. -/
theorem duties_bar : (moeRd In).duties (barCell c) 0 = Finset.univ := duties_at In c _
/-- A weight cell has one duty, -/
theorem duties_w : (moeRd In).duties (wCell c h) 0 = {0} := by rw [duties_at, role_weight]; rfl
/-- a send cell one, -/
theorem duties_send : (moeRd In).duties (sendCell c C q) 0 = {0} := by rw [duties_at, role_send]; rfl
/-- a receive cell one. -/
theorem duties_recv : (moeRd In).duties (recvCell c C q) 0 = {0} := by rw [duties_at, role_recv]; rfl
/-- After the first round there is none. -/
theorem duties_later (g : GSem nD τ sig) : ∀ r, 1 ≤ r → (moeRd In).duties g r = ∅ :=
  fun r hr => if_neg fun h => by omega

/-- A barrier signal is one unit. -/
theorem amount_bar : (moeRd In).amount (barCell c) 0 d = 1 := rfl
/-- A weight copy's units. -/
theorem amount_w : (moeRd In).amount (wCell c h) 0 d = NW := by show unitsOf (role _) = _; rw [role_weight]; rfl
/-- A departed transfer's units. -/
theorem amount_send : (moeRd In).amount (sendCell c C q) 0 d = NS := by show unitsOf (role _) = _; rw [role_send]; rfl
/-- A landed transfer's units. -/
theorem amount_recv : (moeRd In).amount (recvCell c C q) 0 d = NS := by show unitsOf (role _) = _; rw [role_recv]; rfl

/-- What a barrier signal hands over, by the schedule. -/
theorem payload_bar : (moeRd In).payload (barCell c) 0 d = barPay c d := rfl
/-- What a weight copy hands over, by the schedule. -/
theorem payload_w : (moeRd In).payload (wCell c h) 0 d = wPay In c h := by show payOf In c d (role _) = _; rw [role_weight]; rfl
/-- What a departed transfer hands back, by the schedule. -/
theorem payload_send : (moeRd In).payload (sendCell c C q) 0 d = sendPay In c C q := by show payOf In c d (role _) = _; rw [role_send]; rfl
/-- What a landed transfer hands over, by the schedule. -/
theorem payload_recv : (moeRd In).payload (recvCell c C q) 0 d = recvPay In c C q := by show payOf In c d (role _) = _; rw [role_recv]; rfl

/-- A barrier wait is for three units. -/
theorem expect_bar : (moeRd In).expect (barCell c) 0 = 3 := by
  unfold Schedule.expect Schedule.amountOf
  rw [duties_bar, Finset.sum_congr rfl fun d _ => amount_bar In c d, Finset.sum_const, Finset.card_univ, Fintype.card_fin, smul_eq_mul]
/-- A wait for weights is for one copy's units. -/
theorem expect_w : (moeRd In).expect (wCell c h) 0 = NW := by
  unfold Schedule.expect Schedule.amountOf; rw [duties_w, Finset.sum_singleton, amount_w]
/-- A wait for a departure is for one transfer's units. -/
theorem expect_send : (moeRd In).expect (sendCell c C q) 0 = NS := by
  unfold Schedule.expect Schedule.amountOf; rw [duties_send, Finset.sum_singleton, amount_send]
/-- A wait for a landing is for one transfer's units. -/
theorem expect_recv : (moeRd In).expect (recvCell c C q) 0 = NS := by
  unfold Schedule.expect Schedule.amountOf; rw [duties_recv, Finset.sum_singleton, amount_recv]

/-- All that a barrier wait yields. -/
theorem rest_bar : bigSep ((moeRd In).duties (barCell c) 0 \ ∅) (fun d => (moeRd In).payload (barCell c) 0 d)
    = bigSep Finset.univ fun d => (barPay c d : sProp 𝕄) := by
  rw [Finset.sdiff_empty, duties_bar]; rfl
/-- All that a wait for weights yields. -/
theorem rest_w : bigSep ((moeRd In).duties (wCell c h) 0 \ ∅) (fun d => (moeRd In).payload (wCell c h) 0 d) = wPay In c h := by
  rw [Finset.sdiff_empty, duties_w, bigSep_singleton, payload_w]
/-- All that a wait for a departure yields. -/
theorem rest_send : bigSep ((moeRd In).duties (sendCell c C q) 0 \ ∅) (fun d => (moeRd In).payload (sendCell c C q) 0 d) = sendPay In c C q := by
  rw [Finset.sdiff_empty, duties_send, bigSep_singleton, payload_send]
/-- All that a wait for a landing yields. -/
theorem rest_recv : bigSep ((moeRd In).duties (recvCell c C q) 0 \ ∅) (fun d => (moeRd In).payload (recvCell c C q) 0 d) = recvPay In c C q := by
  rw [Finset.sdiff_empty, duties_recv, bigSep_singleton, payload_recv]

end Tables

/-! ## What a device owes -/

/-- What device `c` owes for the transfers of chunk `C` from number `n` on. -/
def owesC (c : Dev nD) (C : Fin 2) (n : ℕ) : CellTallies nD τ sig Unit :=
  ∑ q ∈ Ring.rangeSet 12 n 12, tallyAt (recvCell (nxt c (kOf q)) C q) () NS

/-- A transfer's start takes its units off what is owed. -/
theorem owesC_step (c : Dev nD) (C : Fin 2) (n : ℕ) (hn : n < 12) :
    owesC c C n = owesC c C (n + 1) + tallyAt (recvCell (nxt c (kOf ⟨n, hn⟩)) C ⟨n, hn⟩) () NS := by
  unfold owesC
  rw [Ring.rangeSet_head hn hn, Finset.sum_insert (Ring.head_not_mem_rangeSet hn), add_comm]

/-- After twelve transfers nothing is owed for a chunk. -/
theorem owesC_end (c : Dev nD) (C : Fin 2) : owesC c C 12 = 0 := by
  unfold owesC; rw [Ring.rangeSet_empty (le_refl _), Finset.sum_empty]

/-- What device `c` owes for all its transfers. -/
def owesT (c : Dev nD) : CellTallies nD τ sig Unit := owesC c 1 0 + owesC c 0 0
/-- What device `c` owes at launch: its transfers, and one unit to each other device's barrier cell. -/
def owesAll (c : Dev nD) : CellTallies nD τ sig Unit :=
  owesT c + tallyAt (barCell (nxt c 2)) () 1 + tallyAt (barCell (nxt c 1)) () 1 + tallyAt (barCell (nxt c 0)) () 1

/-- The levels' index set: one at every cell of a core. -/
def L (g : GSem nD τ sig) : Finset Unit := if g.1.2 = .tc then {()} else ∅
/-- The level of a semaphore of a given role: the barrier at 1, receive semaphores at 2, the others at 0. -/
def levelOf : Role → ℕ
  | .bar => 1
  | .recv _ _ => 2
  | _ => 0
/-- The level of a cell. -/
def lv (g : GSem nD τ sig) (_ : Unit) : ℕ := levelOf (role g.2)

/-- Off the cores there is none. -/
theorem L_of_ne (g : GSem nD τ sig) (h : g.1.2 ≠ .tc) : L g = ∅ := if_neg h
/-- At a core's cell there is one. -/
theorem L_tc (c : Dev nD) (sm : SemLoc sig) : L ((c : Thread nD τ), sm) = {()} := if_pos rfl
/-- A receive cell stands at level 2. -/
theorem lv_recv (c : Dev nD) (C : Fin 2) (q : Fin 12) : lv (recvCell c C q) () = 2 := by show levelOf (role _) = 2; rw [role_recv]; rfl
/-- A barrier cell stands at level 1. -/
theorem lv_bar (c : Dev nD) : lv (barCell c) () = 1 := rfl

/-- What is owed for a chunk is owed to receive cells of later devices. -/
theorem owesC_pos {c : Dev nD} {C : Fin 2} {n : ℕ} {g : GSem nD τ sig} {u : Unit} (h : 0 < owesC c C n g u) :
    ∃ q, g = recvCell (nxt c (kOf q)) C q := by
  unfold owesC at h
  rw [Finset.sum_apply, Finsupp.finset_sum_apply] at h
  obtain ⟨q, -, hq⟩ := Finset.exists_ne_zero_of_sum_ne_zero (Nat.pos_iff_ne_zero.mp h)
  rw [tallyAt_apply] at hq
  by_contra hn
  exact hq (if_neg fun h' => hn ⟨q, h'.1⟩)

/-- What is owed for all transfers is owed to such cells. -/
theorem owesT_pos {c : Dev nD} {g : GSem nD τ sig} {u : Unit} (h : 0 < owesT c g u) : ∃ C q, g = recvCell (nxt c (kOf q)) C q := by
  unfold owesT at h
  rw [Pi.add_apply, Finsupp.add_apply] at h
  rcases Nat.add_pos_iff_pos_or_pos.mp h with h | h
  · exact ⟨1, owesC_pos h⟩
  · exact ⟨0, owesC_pos h⟩

/-- What is owed at launch is owed to such cells and to the others' barriers. -/
theorem owesAll_pos {c : Dev nD} {g : GSem nD τ sig} {u : Unit} (h : 0 < owesAll c g u) :
    (∃ C q, g = recvCell (nxt c (kOf q)) C q) ∨ ∃ k, g = barCell (nxt c k) := by
  unfold owesAll at h
  rw [Pi.add_apply, Finsupp.add_apply, Pi.add_apply, Finsupp.add_apply, Pi.add_apply, Finsupp.add_apply, tallyAt_apply, tallyAt_apply, tallyAt_apply] at h
  by_contra hn
  have hn := not_or.mp hn
  have hn2 : ∀ k, g ≠ barCell (nxt c k) := fun k hk => hn.2 ⟨k, hk⟩
  have h0 : owesT c g u = 0 := Nat.eq_zero_of_not_pos fun hp => hn.1 (owesT_pos hp)
  rw [h0, if_neg (fun h' => hn2 _ h'.1), if_neg (fun h' => hn2 _ h'.1), if_neg (fun h' => hn2 _ h'.1)] at h
  exact Nat.lt_irrefl 0 h

/-- At its barrier wait a device owes transfers only, which stand above the barrier. -/
theorem mayWait_bar (c : Dev nD) : (levAts L lv : sProp 𝕄) ⊢ MayWait (c : Thread nD τ) (.reg barS) () (owesT c) :=
  MayOwe.of_cut (L := L) (lev := lv) 1 (fun p hp => by rw [Finset.mem_singleton.mp hp, L_tc]; exact Finset.mem_singleton_self _)
    (fun g u hg => by obtain ⟨C, q, rfl⟩ := owesT_pos hg; rw [L_tc]; exact Finset.mem_singleton_self _)
    (fun p hp => by rw [Finset.mem_singleton.mp hp]; exact le_of_eq (lv_bar c))
    (fun g u hg => by obtain ⟨C, q, rfl⟩ := owesT_pos hg; rw [lv_recv]; decide)

end Cert.KernelIdeal.Moe

end
-- ==== Proof.Splits.lean ====
/-
  The communication buffer cut into the pieces the protocol moves, and put together again.
-/
module

public import proofs.«01_k».proof.Proof.Protocol

@[expose] public section

noncomputable section

namespace Cert.KernelIdeal.Moe

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over the transfers of a chunk -/

/-- The transfers of a chunk, of which the first `n` have come to `B` and the others are still at `A`. -/
def progress (A B : Fin 12 → sProp 𝕄) (n : ℕ) : sProp 𝕄 := bigSep Finset.univ fun q => if q.val < n then B q else A q

/-- Before the first transfer all are as at the start. -/
theorem progress_none (A B : Fin 12 → sProp 𝕄) : progress A B 0 = bigSep Finset.univ A :=
  bigSep_congr fun q _ => if_neg (Nat.not_lt_zero _)

/-- After the twelfth all are done. -/
theorem progress_all (A B : Fin 12 → sProp 𝕄) : progress A B 12 = bigSep Finset.univ B :=
  bigSep_congr fun q _ => if_pos q.isLt

/-- Transfer `n`'s turn: it is taken from `A`, and given back at `B`. -/
theorem progress_step (A B : Fin 12 → sProp 𝕄) (n : Fin 12) :
    progress A B n.val ⊢ iprop(A n ∗ (B n -∗ progress A B (n.val + 1))) := by
  have h : (bigSep (Finset.univ.erase n) fun q => if q.val < n.val + 1 then B q else A q)
      = bigSep (Finset.univ.erase n) fun q => if q.val < n.val then B q else A q :=
    bigSep_congr fun q hq => by
      have hne : q.val ≠ n.val := fun h => (Finset.mem_erase.mp hq).1 (Fin.ext h)
      by_cases hlt : q.val < n.val
      · rw [if_pos hlt, if_pos (by omega)]
      · rw [if_neg hlt, if_neg (by omega)]
  unfold progress
  rw [bigSep_erase (Finset.mem_univ n), bigSep_erase (Finset.mem_univ n) (Φ := fun q => if q.val < n.val + 1 then B q else A q), h,
    if_neg (Nat.lt_irrefl _), if_pos (Nat.lt_succ_self _)]
  show iprop(A n ∗ _) ⊢ iprop(A n ∗ (B n -∗ B n ∗ _))
  iintro ⟨HA, HR⟩
  isplitl [HA]; · iexact HA
  iintro HB
  isplitl [HB]; · iexact HB
  iexact HR

/-- Transfers that have come to `B` can be taken out for a while. -/
theorem progress_take (A B : Fin 12 → sProp 𝕄) (n : ℕ) (S : Finset (Fin 12)) (hS : ∀ q ∈ S, q.val < n) :
    progress A B n ⊢ iprop(bigSep S B ∗ (bigSep S B -∗ progress A B n)) := by
  unfold progress
  rw [bigSep_sdiff_split (Finset.subset_univ S), bigSep_congr (s := S) fun q hq => if_pos (hS q hq)]
  show iprop(bigSep S B ∗ _) ⊢ iprop(bigSep S B ∗ (bigSep S B -∗ bigSep S B ∗ _))
  iintro ⟨HS, HR⟩
  isplitl [HS]; · iexact HS
  iintro HS
  isplitl [HS]; · iexact HS
  iexact HR

/-- All transfers of a chunk, by distance. -/
theorem by_distance (Φ : Fin 12 → sProp 𝕄) :
    bigSep Finset.univ Φ = bigSep Finset.univ fun k : Fin 3 => bigSep (toward k) Φ := by
  have h : (Finset.univ : Finset (Fin 12)) = toward 0 ∪ (toward 1 ∪ toward 2) := by decide
  rw [h, bigSep_union (by decide), bigSep_union (by decide),
    show (Finset.univ : Finset (Fin 3)) = {0, 1, 2} by decide, bigSep_insert (by decide), bigSep_insert (by decide), bigSep_singleton]

/-- Summing over the three distances backwards is the same. -/
theorem bigSep_rev (Φ : Fin 3 → sProp 𝕄) : bigSep Finset.univ Φ = bigSep Finset.univ fun k : Fin 3 => Φ k.rev :=
  bigSep_univ_equiv Fin.revPerm Φ

/-! ## Cutting the buffer -/

/-- Rows that are apart are held one set beside the other. -/
theorem comm_union (c : Dev nD) {S T : Finset S2048x1024.Idx} (h : Disjoint S T) (q : PosShare TreeShare) (f : Vec F S2048x1024 .bf16) :
    comm c (S ∪ T) q f = iprop(comm c S q f ∗ comm c T q f) :=
  BI.equiv_iff.mp ⟨(pointsTo_union h).1, (pointsTo_union h).2⟩

/-- A chunk is its slots, taken by the transfers of one distance, and its tail. -/
theorem comm_chunk (c m : Dev nD) (C : Fin 2) (k : Fin 3) (q : PosShare TreeShare) (f : Vec F S2048x1024 .bf16) :
    comm c (chunkSet m C) q f
      = iprop((bigSep (toward k) fun t => comm c (slotSet m C (iOf t)) q f) ∗ comm c (tailSet m C) q f) := by
  rw [chunk_eq m C k, comm_union c (slots_tail_disjoint m C k)]
  unfold comm
  rw [pointsTo_biUnion (toward k) _ (slot_disjoint m C k)]

/-- The whole buffer of device `c`: its own chunks, the slots that reach it, and the tails of the others' chunks. -/
theorem comm_whole (c : Dev nD) (f : Vec F S2048x1024 .bf16) :
    comm c Finset.univ fullShare f
      = iprop((bigSep Finset.univ fun C : Fin 2 => comm c (chunkSet c C) fullShare f)
        ∗ (bigSep Finset.univ fun C : Fin 2 => bigSep Finset.univ fun q : Fin 12 => comm c (slotSet (prv c (kOf q)) C (iOf q)) fullShare f)
        ∗ (bigSep Finset.univ fun C : Fin 2 => bigSep Finset.univ fun k : Fin 3 => comm c (tailSet (prv c k) C) fullShare f)) := by
  rw [whole_eq c, comm_union c (own_rest_disjoint c), comm_union c (in_off_disjoint c)]
  unfold ownSet inSet offSet comm
  rw [pointsTo_biUnion _ _ (own_chunks_disjoint c), pointsTo_biUnion _ _ (in_slots_disjoint c), pointsTo_biUnion _ _ (tails_disjoint c),
    bigSep_univ_prod, bigSep_univ_prod]

/-- A device's own chunk while it travels: what the device keeps, what each transfer borrows, and the unborrowed rest. -/
theorem comm_own (c : Dev nD) (C : Fin 2) (f : Vec F S2048x1024 .bf16) :
    comm c (chunkSet c C) fullShare f
      = iprop(comm c (chunkSet c C) shKeep f
        ∗ (bigSep Finset.univ fun q : Fin 12 => comm c (slotSet c C (iOf q)) (sh (kOf q)) f)
        ∗ bigSep Finset.univ fun k : Fin 3 => comm c (tailSet c C) (sh k) f) := by
  have h2 : comm c (chunkSet c C) fullShare f = iprop(comm c (chunkSet c C) shKeep f ∗ comm c (chunkSet c C) fullShare.right f) := by
    have h := pointsTo_share (ℓ := (c : Thread nD τ).loc cc0_scratch0) (I := chunkSet c C) (f := f) (Ix := Unit) (Name := ℕ) (U := UU) (Lvl := ℕ)
      (PosShare.mem_left_op_right fullShare)
    exact BI.equiv_iff.mp ⟨h.1, h.2⟩
  have h3 : comm c (chunkSet c C) fullShare.right f = bigSep Finset.univ fun k : Fin 3 => comm c (chunkSet c C) (sh k) f := by
    have h := Ring.pointsTo_thirds (ℓ := (c : Thread nD τ).loc cc0_scratch0) (I := chunkSet c C) (f := f) (q := fullShare.right) (Ix := Unit) (Name := ℕ) (U := UU) (Lvl := ℕ)
    rw [show (Finset.univ : Finset (Fin 3)) = {0, 1, 2} by decide, bigSep_insert (by decide), bigSep_insert (by decide), bigSep_singleton]
    exact BI.equiv_iff.mp ⟨h.1, h.2⟩
  have h4 : (bigSep Finset.univ fun k : Fin 3 => comm c (chunkSet c C) (sh k) f)
      = iprop((bigSep Finset.univ fun q : Fin 12 => comm c (slotSet c C (iOf q)) (sh (kOf q)) f)
        ∗ bigSep Finset.univ fun k : Fin 3 => comm c (tailSet c C) (sh k) f) := by
    rw [by_distance, bigSep_congr fun k _ => comm_chunk c c C k (sh k) f]
    refine (bigSep_sep _ _ _).trans (congrArg (fun P => BI.sep P _) ?_)
    exact bigSep_congr fun k _ => bigSep_congr fun q hq => by rw [mem_toward.mp hq]
  rw [h2, h3, h4]

/-! ## What the devices exchange before they send -/

/-- The slots that reach device `c`, as it gives them to the three others. -/
theorem give_slots (c : Dev nD) :
    (bigSep Finset.univ fun C : Fin 2 => bigSep Finset.univ fun q : Fin 12 =>
        iprop(comm c (slotSet (prv c (kOf q)) C (iOf q)) fullShare (k0_pay1 (F := F)) ∗ reached ER (recvCell c C q) 0))
      = bigSep Finset.univ fun k : Fin 3 => (barPay (nxt c k) k : sProp 𝕄) := by
  rw [bigSep_congr fun C _ => (by_distance _).trans (bigSep_rev _), bigSep_univ_comm]
  refine bigSep_congr fun k _ => bigSep_congr fun C _ => bigSep_congr fun q hq => ?_
  unfold dstPay
  rw [mem_toward.mp hq, nxt_rev, prv_nxt, ← nxt_eq_prv]

/-- What device `c` is given by the three others: where each of its transfers goes. -/
theorem take_slots (c : Dev nD) :
    (bigSep Finset.univ fun k : Fin 3 => (barPay c k : sProp 𝕄))
      = bigSep Finset.univ fun C : Fin 2 => bigSep Finset.univ fun q : Fin 12 => dstPay c C q := by
  unfold barPay
  rw [bigSep_univ_comm]
  exact bigSep_congr fun C _ => ((by_distance _).trans (bigSep_rev _)).symm

/-! ## The weights' halves -/

/-- The kernel's weights are held half by half. -/
theorem kept_halves (c : Dev nD) (f : Vec F S8x512x1024 .f32) :
    kept c Finset.univ f = iprop(kept c (halfSet 0) f ∗ kept c (halfSet 1) f) := by
  rw [halves_univ]
  exact BI.equiv_iff.mp ⟨(pointsTo_union halves_disjoint).1, (pointsTo_union halves_disjoint).2⟩

/-- The given weights are held half by half. -/
theorem given_halves (c : Dev nD) (f : Vec F S8x512x1024 .f32) :
    given c Finset.univ f = iprop(given c (halfSet 0) f ∗ given c (halfSet 1) f) := by
  rw [halves_univ]
  exact BI.equiv_iff.mp ⟨(pointsTo_union halves_disjoint).1, (pointsTo_union halves_disjoint).2⟩

end Cert.KernelIdeal.Moe

end
-- ==== Proof.Steps.lean ====
/-
  One step of the kernel's protocol at a time: a raise of a barrier, a transfer sent, a wait for a transfer, at any device.
-/
module

public import proofs.«01_k».proof.Proof.Splits

@[expose] public section

noncomputable section

namespace Cert.KernelIdeal.Moe

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop variants are needed. -/
abbrev 𝒱₀ : Variants := Variants.none

/-! ## The cells of all devices -/

/-- The kernel's own semaphores: those of the weights, of the sends and of the receives. -/
def osem (j : Fin 50) : SemLoc sig := .dma ⟨4 + j.val, by show _ < 54; omega⟩

/-- The barrier cells, one a device. -/
def barEmb : Dev nD ↪ GSem nD τ sig := ⟨barCell, fun a b h => congrArg (fun g : GSem nD τ sig => g.1.1) h⟩
/-- The cells of the kernel's own semaphores. -/
def ownEmb : Dev nD × Fin 50 ↪ GSem nD τ sig := ⟨fun x => ((x.1 : Thread nD τ), osem x.2), fun a b h => by
  have h1 : a.1 = b.1 := congrArg (fun g : GSem nD τ sig => g.1.1) h
  have h2 : osem a.2 = osem b.2 := congrArg (fun g : GSem nD τ sig => g.2) h
  refine Prod.ext h1 (Fin.ext ?_)
  have h3 := SemLoc.dma.inj h2
  have h4 := congrArg Fin.val h3
  simp only at h4
  omega⟩

/-- The barrier cells. -/
def barCells : Finset (GSem nD τ sig) := Finset.univ.map barEmb
/-- The cells of the kernel's own semaphores. -/
def ownCells : Finset (GSem nD τ sig) := Finset.univ.map ownEmb

/-- A barrier cell is one of the cells. -/
theorem bar_mem (c : Dev nD) : barCell c ∈ barCells ∪ ownCells :=
  Finset.mem_union_left _ (Finset.mem_map_of_mem barEmb (Finset.mem_univ c))

/-- A cell of the kernel's own is one of the cells. -/
theorem own_mem (c : Dev nD) (j : Fin 50) : ((c : Thread nD τ), osem j) ∈ barCells ∪ ownCells :=
  Finset.mem_union_right _ (Finset.mem_map_of_mem ownEmb (Finset.mem_univ (c, j)))

/-- The place of a weight semaphore among the kernel's own, -/
def wIdx (h : Fin 2) : Fin 50 := ⟨h.val, by omega⟩
/-- of a send semaphore, -/
def sendIdx (C : Fin 2) (q : Fin 12) : Fin 50 := ⟨2 + (((kOf q).val * 2 + C.val) * 4 + (iOf q).val), by omega⟩
/-- and of a receive semaphore. -/
def recvIdx (C : Fin 2) (q : Fin 12) : Fin 50 := ⟨26 + (((kOf q).val * 2 + C.val) * 4 + (iOf q).val), by omega⟩

/-- The number of a weight semaphore among the kernel's own names it, -/
theorem osem_w (h : Fin 2) : osem (wIdx h) = .dma (wS h) := rfl
/-- that of a send semaphore, -/
theorem osem_send (C : Fin 2) (q : Fin 12) : osem (sendIdx C q) = .dma (sendS C q) := congrArg SemLoc.dma (Fin.ext (by simp only [sendIdx, sendS]; omega))
/-- and that of a receive semaphore. -/
theorem osem_recv (C : Fin 2) (q : Fin 12) : osem (recvIdx C q) = .dma (recvS C q) := congrArg SemLoc.dma (Fin.ext (by simp only [recvIdx, recvS]; omega))

/-- A weight cell is one of the cells, -/
theorem w_mem (c : Dev nD) (h : Fin 2) : wCell c h ∈ barCells ∪ ownCells := own_mem c (wIdx h)
/-- a send cell, -/
theorem send_mem (c : Dev nD) (C : Fin 2) (q : Fin 12) : sendCell c C q ∈ barCells ∪ ownCells := by
  have h := own_mem c (sendIdx C q); rwa [osem_send] at h
/-- and a receive cell. -/
theorem recv_mem (c : Dev nD) (C : Fin 2) (q : Fin 12) : recvCell c C q ∈ barCells ∪ ownCells := by
  have h := own_mem c (recvIdx C q); rwa [osem_recv] at h

variable (In : Inputs F) (K : GSem nD τ sig → ℕ)

/-- The invariants of all cells, under the names `K`. -/
def recs : sProp 𝕄 := bigSep (barCells ∪ ownCells) fun g => cellInv ER (moeRd In) (K g) g

/-- The cells' records may be used again and again. -/
instance recs_persistent : BI.Persistent (recs In K) := by unfold recs; infer_instance

/-- The records hold that of every cell. -/
theorem inv_at {g : GSem nD τ sig} (hg : g ∈ barCells ∪ ownCells) : recs In K ⊢ cellInv ER (moeRd In) (K g) g := bigSep_elim hg

/-! ## The transfers' states -/

/-- A transfer that can be sent: its source is lent, its target granted, and the rights to raise its two semaphores are there. -/
def ready (c : Dev nD) (C : Fin 2) (q : Fin 12) : sProp 𝕄 :=
  iprop(comm c (slotSet c C (iOf q)) (sh (kOf q)) (fin In c) ∗ dstPay c C q
    ∗ dutyTok ER (sendCell c C q) 0 0 ∗ reached ER (sendCell c C q) 0 ∗ dutyTok ER (recvCell (nxt c (kOf q)) C q) 0 0)
/-- A transfer that was sent. -/
def sent (c : Dev nD) (C : Fin 2) (q : Fin 12) : sProp 𝕄 := cred (tallyAt (sendCell c C q) () NS)

/-- The state of chunk `C`'s sends on device `c` when the first `n` are out, `X` being owed besides. -/
def sending (c : Dev nD) (C : Fin 2) (X : CellTallies nD τ sig Unit) (n : ℕ) : sProp 𝕄 :=
  iprop(progress (ready In c C) (sent c C) n ∗ ∃ W, owes (c : Thread nD τ) (X + owesC c C n) W)

/-- A send whose wait is to come, -/
def sendOut (c : Dev nD) (C : Fin 2) (q : Fin 12) : sProp 𝕄 :=
  iprop(cred (tallyAt (sendCell c C q) () NS) ∗ atPos ER (sendCell c C q) 0 ∅ 0)
/-- and one waited for. -/
def sendIn (c : Dev nD) (C : Fin 2) (q : Fin 12) : sProp 𝕄 := iprop(sendPay In c C q ∗ atPos ER (sendCell c C q) 1 ∅ 0)
/-- A receipt whose wait is to come, -/
def recvOut (c : Dev nD) (C : Fin 2) (q : Fin 12) : sProp 𝕄 :=
  iprop(cred (tallyAt (recvCell c C q) () NS) ∗ atPos ER (recvCell c C q) 0 ∅ 0)
/-- and one waited for. -/
def recvIn (c : Dev nD) (C : Fin 2) (q : Fin 12) : sProp 𝕄 := iprop(recvPay In c C q ∗ atPos ER (recvCell c C q) 1 ∅ 0)

/-- The state of chunk `C`'s waits on device `c`: `a` sends and `b` receipts are waited for. -/
def waiting (c : Dev nD) (C : Fin 2) (a b : ℕ) : sProp 𝕄 :=
  iprop(progress (sendOut c C) (sendIn In c C) a ∗ progress (recvOut c C) (recvIn In c C) b ∗ ∃ W, owes (c : Thread nD τ) 0 W)

/-! ## The steps -/

/-- Device `c`'s run of a program. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Holding what a transfer's view covers is holding its slot. -/
theorem set_slotM (c m : Dev nD) (C : Fin 2) (i : Fin 4) (q : PosShare TreeShare) (f : Vec F S2048x1024 .bf16) :
    ((slotM m C i).view.loc (c : Thread nD τ) ↦[(slotM m C i).view.set]{q} f : sProp 𝕄) = comm c (slotSet m C i) q f := by
  rw [slotM_set]

/-- The raise of the barrier of the device `j + 1` places on, which hands it the slots its transfers go to. -/
theorem raise_step {α : Type} {Q : α → sProp 𝕄} {k : PUnit → Prog (TpuEff nD τ sig (Elt F) Λ₀ .tc) α}
    (c dev : Dev nD) (j : Fin 3) (hdev : dev = nxt c j) (O : CellTallies nD τ sig Unit) :
    iprop(recs In K ∗ (∃ W, owes (c : Thread nD τ) (O + tallyAt (barCell (nxt c j)) () 1) W)
        ∗ dutyTok ER (barCell (nxt c j)) 0 j ∗ reached ER (barCell (nxt c j)) 0 ∗ barPay (nxt c j) j)
      ⊢ iprop(((∃ W, owes (c : Thread nD τ) O W) -∗ runs c (k ⟨⟩) Q)
        -∗ runs c (.op (.semSignal (Dev.tc dev : Thread nD τ) barS (1#32 : BitVec 32).toInt) k) Q) := by
  subst hdev
  iintro ⟨#HI, ⟨%W, HO⟩, Ht, #Hr, Hp⟩ Hk
  iapply (Rounds.wp_signal 𝒱₀ ER (moeRd In) (c : Thread nD τ) none (dst := (nxt c j : Thread nD τ)) (κ := K (barCell (nxt c j)))
      (d := j) (k' := 1) (by rw [duties_bar]; exact Finset.mem_univ _) (amount_bar In (nxt c j) j) () O rfl (W := W))
    $$ [HO Ht Hp]
  · isplitr; · iapply (inv_at In K (bar_mem (nxt c j))); iexact HI
    isplitl [HO]; · iexact HO
    isplitl [Ht]; · iexact Ht
    isplitl [Hp]; · rw [payload_bar]; iexact Hp
    iexact Hr
  iintro HO
  iapply Hk
  iexists W; iexact HO

/-- The barrier wait, which brings where the device's transfers go. -/
theorem barrier_step {α : Type} {Q : α → sProp 𝕄} {k : PUnit → Prog (TpuEff nD τ sig (Elt F) Λ₀ .tc) α}
    (c : Dev nD) :
    iprop(recs In K ∗ levAts L lv ∗ cred (tallyAt (barCell c) () 3) ∗ (∃ W, owes (c : Thread nD τ) (owesT c) W) ∗ atPos ER (barCell c) 0 ∅ 0)
      ⊢ iprop((((∃ W, owes (c : Thread nD τ) (owesT c) W) ∗ atPos ER (barCell c) 1 ∅ 0
            ∗ bigSep Finset.univ fun C : Fin 2 => bigSep Finset.univ fun q : Fin 12 => dstPay c C q) -∗ runs c (k ⟨⟩) Q)
        -∗ runs c (.op (.semWait barS (3#32 : BitVec 32).toInt) k) Q) := by
  iintro ⟨#HI, #Hl, Hc, ⟨%W, HO⟩, Ha⟩ Hk
  iapply (Rounds.wp_wait_rest_token 𝒱₀ ER (moeRd In) (c : Thread nD τ) none (κ := K (barCell c)) (k' := 3)
      (wpE_semWait_eq 𝒱₀ (c : Thread nD τ) none Set.univ) (Set.mem_univ _) () (O := owesT c) (W := W) (R := 0) (m := 0) (T := ∅)
      (by rw [expect_bar])) $$ [Hc HO Ha]
  · isplitr; · iapply (inv_at In K (bar_mem c)); iexact HI
    isplitl [Hc]; · iexact Hc
    isplitl [HO]; · iexact HO
    isplitr; · iapply (mayWait_bar c); iexact Hl
    iexact Ha
  iintro ⟨HO, Ha, -, Hp⟩
  ihave Hp := (Entails.of_eq ((rest_bar In c).trans (take_slots c))) $$ Hp
  iapply Hk
  isplitl [HO]; · iexists _; iexact HO
  isplitl [Ha]; · iexact Ha
  iexact Hp

/-- The copy of half `h` of the weights. -/
theorem weight_step {α : Type} {Q : α → sProp 𝕄} {k : PUnit → Prog (TpuEff nD τ sig (Elt F) Λ₀ .tc) α}
    (c : Dev nD) (h : Fin 2) {src : Memref sig .tc .hbm S4x512x1024 .f32} {dst : Memref sig .tc .vmem S4x512x1024 .f32}
    {sm : SemLoc sig} (hs : src = wSrc h) (hd : dst = wDst h) (hm : sm = .dma (wS h))
    {hsrc : src.view.WordExact} {hdst : dst.view.WordExact} {hsem : DmaTarget.Typed (nD := nD) (τ := τ) (p := .tc) .hbm sm (.here dst)} (f : Vec F S8x512x1024 .f32) :
    iprop(recs In K ∗ given c (halfSet h) (In.w c) ∗ kept c (halfSet h) f ∗ dutyTok ER (wCell c h) 0 0 ∗ reached ER (wCell c h) 0)
      ⊢ iprop((cred (tallyAt (wCell c h) () NW) -∗ runs c (k ⟨⟩) Q)
        -∗ runs c (.op (.enqueueDma src (.here dst) sm hsrc hdst hsem) k) Q) := by
  subst hs hd hm
  iintro ⟨#HI, Hg, Hf, Ht, #Hr⟩ Hk
  iapply (Rounds.wp_copy_pointsTo 𝒱₀ ER (moeRd In) (c : Thread nD τ) none (κ := K (wCell c h)) (r := 0) (d := 0)
    (q := fullShare) (fs := In.w c) (fd := f)
    (by rw [duties_w]; exact Finset.mem_singleton_self _) () NW (by exact credit_half h) (amount_w In c h 0)
    (by
      rw [payload_w, wSrc_set, wDst_set]
      unfold wPay
      exact sep_mono_left (Entails.of_eq (pointsTo_congr (land_half h f (In.w c)))))) $$ [Hg Hf Ht]
  · rw [wSrc_set, wDst_set]
    isplitr; · iapply (inv_at In K (w_mem c h)); iexact HI
    isplitl [Hg]; · iexact Hg
    isplitl [Hf]; · iexact Hf
    isplitl [Ht]; · iexact Ht
    iexact Hr
  iexact Hk

/-- The wait for half `h` of the weights, `O` being owed. -/
theorem weight_wait {α : Type} {Q : α → sProp 𝕄} {k : PUnit → Prog (TpuEff nD τ sig (Elt F) Λ₀ .tc) α}
    (c : Dev nD) (h : Fin 2) {src : Memref sig .tc .hbm S4x512x1024 .f32} {dst : Memref sig .tc .vmem S4x512x1024 .f32}
    {sm : DmaSem sig} (hd : dst = wDst h) (hm : sm = wS h) {hsrc : src.view.WordExact} {hdst : dst.view.WordExact} (O : CellTallies nD τ sig Unit)
    (hO : (levAts L lv : sProp 𝕄) ⊢ MayWait (c : Thread nD τ) (.dma (wS h)) () O) :
    iprop(recs In K ∗ levAts L lv ∗ cred (tallyAt (wCell c h) () NW) ∗ (∃ W, owes (c : Thread nD τ) O W) ∗ atPos ER (wCell c h) 0 ∅ 0)
      ⊢ iprop((((∃ W, owes (c : Thread nD τ) O W) ∗ atPos ER (wCell c h) 1 ∅ 0 ∗ kept c (halfSet h) (In.w c) ∗ given c (halfSet h) (In.w c))
          -∗ runs c (k ⟨⟩) Q)
        -∗ runs c (.op (.waitDma2 sm src dst hsrc hdst) k) Q) := by
  subst hd hm
  iintro ⟨#HI, #Hl, Hc, ⟨%W, HO⟩, Ha⟩ Hk
  iapply (Rounds.wp_wait_rest_token 𝒱₀ ER (moeRd In) (c : Thread nD τ) none (κ := K (wCell c h)) (k' := NW)
      (fun K' => (wpE_waitDma2_eq 𝒱₀ (c : Thread nD τ) none Set.univ K').trans (by rw [credit_half h])) (Set.mem_univ _) () (O := O) (W := W) (R := 0) (m := 0) (T := ∅)
      (by rw [Nat.zero_add, expect_w])) $$ [Hc HO Ha]
  · isplitr; · iapply (inv_at In K (w_mem c h)); iexact HI
    isplitl [Hc]; · iexact Hc
    isplitl [HO]; · iexact HO
    isplitr; · iapply hO; iexact Hl
    iexact Ha
  iintro ⟨HO, Ha, -, Hp⟩
  ihave Hp := (Entails.of_eq (rest_w In c h)) $$ Hp
  unfold wPay
  iapply Hk
  isplitl [HO]; · iexists _; iexact HO
  isplitl [Ha]; · iexact Ha
  iexact Hp

/-- Transfer `q` of chunk `C` is sent. -/
theorem send_step {α : Type} {Q : α → sProp 𝕄} {k : PUnit → Prog (TpuEff nD τ sig (Elt F) Λ₀ .tc) α}
    (c dev : Dev nD) (C : Fin 2) (q : Fin 12) (X : CellTallies nD τ sig Unit) (hdev : dev = nxt c (kOf q))
    {src : Memref sig .tc .vmem S56x1024 .bf16} {dst : Memref sig (Dev.tc dev : Thread nD τ).2.kind .vmem S56x1024 .bf16} {sS sR : SemLoc sig}
    (hs : src = slotM c C (iOf q)) (hd : dst = slotM c C (iOf q)) (hS : sS = .dma (sendS C q)) (hR : sR = .dma (recvS C q))
    {hsc : dst.view.ref.isScScratch = false} {hsrc : src.view.WordExact} {hdst : dst.view.WordExact}
    {hsem : DmaTarget.Typed .vmem sR (.remote (Dev.tc dev : Thread nD τ) dst sS hsc)} :
    iprop(recs In K ∗ sending In c C X q.val)
      ⊢ iprop((sending In c C X (q.val + 1) -∗ runs c (k ⟨⟩) Q)
        -∗ runs c (.op (.enqueueDma src (.remote (Dev.tc dev : Thread nD τ) dst sS hsc) sR hsrc hdst hsem) k) Q) := by
  subst hdev hs hd hS hR
  unfold sending
  iintro ⟨#HI, Hp, ⟨%W, HO⟩⟩ Hk
  ihave Hp := (progress_step (ready In c C) (sent c C) q) $$ Hp
  icases Hp with ⟨Hq, Hback⟩
  unfold ready dstPay
  icases Hq with ⟨Hsrc, ⟨Hdst, #HrR⟩, HtS, #HrS, HtR⟩
  iapply (Rounds.wp_send_pointsTo 𝒱₀ ER (moeRd In) (c : Thread nD τ) none (κ₁ := K (sendCell c C q)) (κ₂ := K (recvCell (nxt c (kOf q)) C q))
    (r₁ := 0) (r₂ := 0) (d₁ := 0) (d₂ := 0) (q := sh (kOf q)) (fs := fin In c) (fd := k0_pay1 (F := F))
    (by rw [duties_send]; exact Finset.mem_singleton_self _) (by rw [duties_recv]; exact Finset.mem_singleton_self _)
    () () NS (by exact credit_slot c C (iOf q)) (amount_send In c C q 0) (amount_recv In (nxt c (kOf q)) C q 0) (O₀ := X + owesC c C q.val) (X + owesC c C (q.val + 1))
    (by rw [owesC_step c C q.val q.isLt, add_assoc]) (W := W)
    (by rw [payload_send, set_slotM]; unfold sendPay; exact BI.Entails.refl _)
    (by
      rw [payload_recv, set_slotM]
      unfold recvPay
      rw [prv_nxt]
      exact Entails.of_eq (pointsTo_congr (land_slot In (nxt c (kOf q)) c c C (iOf q) (k0_pay1 (F := F)))))) $$ [Hsrc Hdst HO HtS HtR]
  · rw [set_slotM, set_slotM]
    isplitr; · iapply (inv_at In K (send_mem c C q)); iexact HI
    isplitr; · iapply (inv_at In K (recv_mem (nxt c (kOf q)) C q)); iexact HI
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hc, HO⟩
  iapply Hk
  isplitl [Hback Hc]
  · iapply Hback
    unfold sent
    iexact Hc
  iexists W; iexact HO

/-- The wait for the send of transfer `q` of chunk `C`. -/
theorem sent_step {α : Type} {Q : α → sProp 𝕄} {k : PUnit → Prog (TpuEff nD τ sig (Elt F) Λ₀ .tc) α}
    (c : Dev nD) (C : Fin 2) (q : Fin 12) (b : ℕ) {sm : DmaSem sig} (hm : sm = sendS C q)
    {src dst : Memref sig .tc .vmem S56x1024 .bf16} {hsrc : src.view.WordExact} {hdst : dst.view.WordExact} (hd : dst.view.dmaCredit = NS) :
    iprop(recs In K ∗ waiting In c C q.val b)
      ⊢ iprop((waiting In c C (q.val + 1) b -∗ runs c (k ⟨⟩) Q) -∗ runs c (.op (.waitDma2 sm src dst hsrc hdst) k) Q) := by
  subst hm
  unfold waiting
  iintro ⟨#HI, Hp, Hb, ⟨%W, HO⟩⟩ Hk
  ihave Hp := (progress_step (sendOut c C) (sendIn In c C) q) $$ Hp
  icases Hp with ⟨Hq, Hback⟩
  unfold sendOut
  icases Hq with ⟨Hc, Ha⟩
  iapply (Rounds.wp_wait_rest_token 𝒱₀ ER (moeRd In) (c : Thread nD τ) none (κ := K (sendCell c C q)) (k' := NS)
      (fun K' => (wpE_waitDma2_eq 𝒱₀ (c : Thread nD τ) none Set.univ K').trans (by rw [hd])) (Set.mem_univ _) () (O := 0) (W := W) (R := 0) (m := 0) (T := ∅)
      (by rw [Nat.zero_add, expect_send])) $$ [Hc HO Ha]
  · isplitr; · iapply (inv_at In K (send_mem c C q)); iexact HI
    isplitl [Hc]; · iexact Hc
    isplitl [HO]; · iexact HO
    isplitr; · rw [MayWait_zero]; iempintro
    iexact Ha
  iintro ⟨HO, Ha, -, Hp⟩
  ihave Hp := (Entails.of_eq (rest_send In c C q)) $$ Hp
  iapply Hk
  isplitl [Hback Hp Ha]
  · iapply Hback
    unfold sendIn
    isplitl [Hp] <;> iassumption
  isplitl [Hb]; · iexact Hb
  iexists _; iexact HO

/-- The wait for the receipt of transfer `q` of chunk `C`. -/
theorem received_step {α : Type} {Q : α → sProp 𝕄} {k : PUnit → Prog (TpuEff nD τ sig (Elt F) Λ₀ .tc) α}
    (c : Dev nD) (C : Fin 2) (q : Fin 12) (a : ℕ) {sm : DmaSem sig} (hm : sm = recvS C q)
    {src dst : Memref sig .tc .vmem S56x1024 .bf16} {hsrc : src.view.WordExact} {hdst : dst.view.WordExact} (hd : dst.view.dmaCredit = NS) :
    iprop(recs In K ∗ waiting In c C a q.val)
      ⊢ iprop((waiting In c C a (q.val + 1) -∗ runs c (k ⟨⟩) Q) -∗ runs c (.op (.waitDma2 sm src dst hsrc hdst) k) Q) := by
  subst hm
  unfold waiting
  iintro ⟨#HI, Hb, Hp, ⟨%W, HO⟩⟩ Hk
  ihave Hp := (progress_step (recvOut c C) (recvIn In c C) q) $$ Hp
  icases Hp with ⟨Hq, Hback⟩
  unfold recvOut
  icases Hq with ⟨Hc, Ha⟩
  iapply (Rounds.wp_wait_rest_token 𝒱₀ ER (moeRd In) (c : Thread nD τ) none (κ := K (recvCell c C q)) (k' := NS)
      (fun K' => (wpE_waitDma2_eq 𝒱₀ (c : Thread nD τ) none Set.univ K').trans (by rw [hd])) (Set.mem_univ _) () (O := 0) (W := W) (R := 0) (m := 0) (T := ∅)
      (by rw [Nat.zero_add, expect_recv])) $$ [Hc HO Ha]
  · isplitr; · iapply (inv_at In K (recv_mem c C q)); iexact HI
    isplitl [Hc]; · iexact Hc
    isplitl [HO]; · iexact HO
    isplitr; · rw [MayWait_zero]; iempintro
    iexact Ha
  iintro ⟨HO, Ha, -, Hp⟩
  ihave Hp := (Entails.of_eq (rest_recv In c C q)) $$ Hp
  iapply Hk
  isplitl [Hb]; · iexact Hb
  isplitl [Hback Hp Ha]
  · iapply Hback
    unfold recvIn
    isplitl [Hp] <;> iassumption
  iexists _; iexact HO

end Cert.KernelIdeal.Moe

end
-- ==== Proof.Loads.lean ====
/-
  Reading and writing the kernel's buffers, one step at a time: an expert's weights, a staged array, a chunk of the device's
  own block, and a chunk that has arrived.
-/
module

public import proofs.«01_k».proof.Proof.Steps

@[expose] public section

noncomputable section

namespace Cert.KernelIdeal.Moe

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (In : Inputs F) (K : GSem nD τ sig → ℕ)

/-- What is owed are transfers only, which stand above the weights' copies. -/
theorem mayWait_weight (c : Dev nD) (h : Fin 2) (O : CellTallies nD τ sig Unit)
    (hO : ∀ g u, 0 < O g u → ∃ d C q, g = recvCell d C q) :
    (levAts L lv : sProp 𝕄) ⊢ MayWait (c : Thread nD τ) (.dma (wS h)) () O :=
  MayOwe.of_cut (L := L) (lev := lv) 0 (fun p hp => by rw [Finset.mem_singleton.mp hp, L_tc]; exact Finset.mem_singleton_self _)
    (fun g u hg => by obtain ⟨d, C, q, rfl⟩ := hO g u hg; rw [L_tc]; exact Finset.mem_singleton_self _)
    (fun p hp => by
      rw [Finset.mem_singleton.mp hp]
      exact le_of_eq (show levelOf (role (.dma (wS h))) = 0 by rw [role_weight]; rfl))
    (fun g u hg => by obtain ⟨d, C, q, rfl⟩ := hO g u hg; rw [lv_recv]; decide)

/-- All that a device owes for its transfers is owed to receive cells. -/
theorem owesT_recv (c : Dev nD) : ∀ g u, 0 < owesT c g u → ∃ d C q, g = recvCell d C q := fun g u h => by
  obtain ⟨C, q, h⟩ := owesT_pos h; exact ⟨_, C, q, h⟩

/-- What it owes after the first chunk's transfers likewise. -/
theorem owes_second_recv (c : Dev nD) : ∀ g u, 0 < (owesC c 1 0 + owesC c 0 12) g u → ∃ d C q, g = recvCell d C q := fun g u h => by
  rw [owesC_end, add_zero] at h
  obtain ⟨q, h⟩ := owesC_pos h; exact ⟨_, 1, q, h⟩

/-- An expert's weights lie in its half. -/
theorem row_subset (e : Fin 8) (h : Fin 2) (he : e.val / 4 = h.val) (inb) :
    ((Memref.whole cc0_scratch1 : Memref sig .tc .vmem S8x512x1024 .f32).access
      (Rect.unit (s := S8x512x1024) ![e.val, 0, 0] S1x512x1024.size inb)).set ⊆ halfSet h := by
  show ((View.whole cc0_scratch1).slice _).set ⊆ _
  rw [View.set_slice_whole]
  intro i hi
  rw [Rect.mem_set_unit] at hi
  have h0 := hi 0
  simp only [Matrix.cons_val_zero] at h0
  change e.val ≤ _ ∧ _ < e.val + 1 at h0
  rw [mem_halfSet]
  omega

/-- A load of one expert's weights. -/
theorem row_step {α : Type} {Q : α → sProp 𝕄} {k : Vec F S1x512x1024 .f32 → Prog (TpuEff nD τ sig (Elt F) Λ₀ .tc) α}
    (c : Dev nD) (e : Fin 8) (h : Fin 2) (he : e.val / 4 = h.val) {off : Fin 3 → ℕ} {inb} (ho : off = ![e.val, 0, 0])
    (f : Vec F S8x512x1024 .f32) {hl} :
    kept c (halfSet h) f
      ⊢ iprop((kept c (halfSet h) f -∗ runs c (k (wRow f e)) Q)
        -∗ runs c (.op (.load (Memref.whole cc0_scratch1 : Memref sig .tc .vmem S8x512x1024 .f32)
            (Rect.unit (s := S8x512x1024) off S1x512x1024.size inb).toLoadRect hl) k) Q) := by
  subst ho
  have hs := row_subset e h he inb
  rw [show ((Memref.whole cc0_scratch1 : Memref sig .tc .vmem S8x512x1024 .f32).access (Rect.unit (s := S8x512x1024) ![e.val, 0, 0] S1x512x1024.size inb)).set = _ from View.set_slice _ _] at hs
  have hw := wp_load (Q := Q) (k := k) (hl := hl) 𝒱₀ (defs := defs₀ (F := F)) (Lvl := ℕ) (Name := ℕ) (U := UU) (Γ := .empty) (c : Thread nD τ) none Set.univ
    (m := (Memref.whole cc0_scratch1 : Memref sig .tc .vmem S8x512x1024 .f32)) (S := halfSet h) (q := fullShare) (f := f) hs
  exact hw

/-- The offsets of a load of the whole. -/
theorem zeros2 : (![0, 0] : Fin 2 → ℕ) = fun _ => 0 := funext fun a => by fin_cases a <;> rfl

/-- A load from a buffer held whole. -/
theorem whole_step {α : Type} {Q : α → sProp 𝕄} (c : Dev nD) {cs : CoreSpace} {s : Shape} {e : EltTy} {m : Memref sig .tc cs s e}
    {r : LoadRect s} {q : PosShare TreeShare} {f : Buf (Elt F) (m.view.loc (c : Thread nD τ))} {g : r.shape.Idx → Elt F e}
    {hl : m.view.LoadsAt r} {k : (r.shape.Idx → Elt F e) → Prog (TpuEff nD τ sig (Elt F) Λ₀ .tc) α} (h : m.view.readAt (Elt F) r f = g) :
    ((m.view.loc (c : Thread nD τ) ↦{q} f : sProp 𝕄))
      ⊢ iprop(((m.view.loc (c : Thread nD τ) ↦{q} f) -∗ runs c (k g) Q) -∗ runs c (.op (.load m r hl) k) Q) := by
  subst h
  iintro H Hk
  iapply (wp_load 𝒱₀ (c : Thread nD τ) none Set.univ (m := m) (Finset.subset_univ _)) $$ H
  iexact Hk

/-- The rows of chunk `C` of device `c`'s own block of a buffer. -/
def ownRows (f : Vec F S2048x1024 .bf16) (c : Dev nD) (C : Fin 2) : Vec F S256x1024 .bf16 := (commM.access (ownR c C)).read (Elt F) f
/-- The rectangle of the first chunk of device `c`'s own block. -/
abbrev ownR3 (c : Dev nD) : Rect S2048x1024 := Rect.unit (s := S2048x1024) (k0_off3 c) S256x1024.size (k0_off3_inb c)
/-- The first rows of device `c`'s own block of a buffer. -/
def ownRows3 (f : Vec F S2048x1024 .bf16) (c : Dev nD) : Vec F S256x1024 .bf16 := (commM.access (ownR3 c)).read (Elt F) f
/-- The rectangle of chunk `C` of the block of the device `k + 1` places before `c`. -/
abbrev awayR (c : Dev nD) (k : Fin 3) (C : Fin 2) : Rect S2048x1024 :=
  Rect.unit (s := S2048x1024) (k0_off4 c (BitVec.ofNat 32 (1 + k.val)) (BitVec.ofNat 32 (256 * C.val))) S256x1024.size (k0_off4_inb c k C)
/-- The rows of that chunk of a buffer. -/
def awayRows (f : Vec F S2048x1024 .bf16) (c : Dev nD) (k : Fin 3) (C : Fin 2) : Vec F S256x1024 .bf16 :=
  (commM.access (awayR c k C)).read (Elt F) f

/-- A load of a chunk of the own block. -/
theorem own_step {α : Type} {Q : α → sProp 𝕄} {k : Vec F S256x1024 .bf16 → Prog (TpuEff nD τ sig (Elt F) Λ₀ .tc) α}
    (c : Dev nD) (C : Fin 2) (q : PosShare TreeShare) (f : Vec F S2048x1024 .bf16) {hl : commM.view.LoadsAt (ownR c C).toLoadRect} :
    comm c (chunkSet c C) q f
      ⊢ iprop((comm c (chunkSet c C) q f -∗ runs c (k (ownRows f c C)) Q)
        -∗ runs c (.op (.load commM (ownR c C).toLoadRect hl) k) Q) := by
  have h := wp_load_rect (Q := Q) (k := k) (hl := hl) 𝒱₀ (defs := defs₀ (F := F)) (Lvl := ℕ) (Name := ℕ) (U := UU) (Γ := .empty) (c : Thread nD τ) none Set.univ
    (m := commM) (S := chunkSet c C) (q := q) (f := f) (own_set c C).subset
  iintro H Hk
  iapply h $$ H
  iexact Hk

/-- A load of the first rows of the own block. -/
theorem own3_step {α : Type} {Q : α → sProp 𝕄} {k : Vec F S256x1024 .bf16 → Prog (TpuEff nD τ sig (Elt F) Λ₀ .tc) α}
    (c : Dev nD) (q : PosShare TreeShare) (f : Vec F S2048x1024 .bf16) {hl : commM.view.LoadsAt (ownR3 c).toLoadRect} :
    comm c (chunkSet c 0) q f
      ⊢ iprop((comm c (chunkSet c 0) q f -∗ runs c (k (ownRows3 f c)) Q)
        -∗ runs c (.op (.load commM (ownR3 c).toLoadRect hl) k) Q) := by
  have h := wp_load_rect (Q := Q) (k := k) (hl := hl) 𝒱₀ (defs := defs₀ (F := F)) (Lvl := ℕ) (Name := ℕ) (U := UU) (Γ := .empty) (c : Thread nD τ) none Set.univ
    (m := commM) (S := chunkSet c 0) (q := q) (f := f) (own3_set c).subset
  iintro H Hk
  iapply h $$ H
  iexact Hk

/-- The store of a chunk of the own block. -/
theorem store_step {α : Type} {Q : α → sProp 𝕄} {k : PUnit → Prog (TpuEff nD τ sig (Elt F) Λ₀ .tc) α}
    (c : Dev nD) (C : Fin 2) (f : Vec F S2048x1024 .bf16) {w : Vec F S256x1024 .bf16} (hw : w = chunkVal In c C) {hx hm} :
    comm c (chunkSet c C) fullShare f
      ⊢ iprop((comm c (chunkSet c C) fullShare (fin In c) -∗ runs c (k ⟨⟩) Q)
        -∗ runs c (.op (.store commM (ownR c C) w Finset.univ hx hm) k) Q) := by
  subst hw
  have h := wp_store (Q := Q) 𝒱₀ (defs := defs₀ (F := F)) (Lvl := ℕ) (Name := ℕ) (U := UU) (Γ := .empty) (c : Thread nD τ) none Set.univ (m := commM) (r := ownR c C) (hx := hx) (hm := hm) (k := k) (w := chunkVal In c C)
    (S := chunkSet c C) (f := f) (Eq.subset (by rw [View.setOn_univ]; exact own_set c C))
  refine h.trans ?_
  iintro H Hk
  iapply H
  iintro H
  iapply Hk
  iapply (Entails.of_eq (pointsTo_congr (store_own In c C f)))
  iexact H

/-- A load of a chunk that has arrived: its slots came with the receipts, and its tail was never written. -/
theorem away_step {α : Type} {Q : α → sProp 𝕄} {k : Vec F S256x1024 .bf16 → Prog (TpuEff nD τ sig (Elt F) Λ₀ .tc) α}
    (c : Dev nD) (k' : Fin 3) (C : Fin 2) (a b : ℕ) (hb : 4 * k'.val + 4 ≤ b) {hl} :
    iprop(waiting In c C a b ∗ comm c (tailSet (prv c k') C) fullShare (k0_pay1 (F := F)))
      ⊢ iprop(((waiting In c C a b ∗ comm c (tailSet (prv c k') C) fullShare (k0_pay1 (F := F))) -∗ runs c (k (awayRows (fin In c) c k' C)) Q)
        -∗ runs c (.op (.load commM (awayR c k' C).toLoadRect hl) k) Q) := by
  have hS : ∀ q ∈ toward k', q.val < b := fun q hq => by
    have h := congrArg Fin.val (mem_toward.mp hq)
    simp only [kOf] at h
    omega
  have hpay : (bigSep (toward k') (recvIn In c C) : sProp 𝕄)
      = iprop((bigSep (toward k') fun t => comm c (slotSet (prv c k') C (iOf t)) fullShare (fin In c))
        ∗ bigSep (toward k') fun t => atPos ER (recvCell c C t) 1 ∅ 0) := by
    refine (bigSep_congr fun t ht => ?_).trans (bigSep_sep _ _ _)
    unfold recvIn recvPay
    rw [mem_toward.mp ht]
    rfl
  have htail : (comm c (tailSet (prv c k') C) fullShare (k0_pay1 (F := F)) : sProp 𝕄) = comm c (tailSet (prv c k') C) fullShare (fin In c) :=
    pointsTo_congr (fin_tail In c k' C)
  have hload := wp_load_rect (Q := Q) (k := k) (hl := hl) 𝒱₀ (defs := defs₀ (F := F)) (Lvl := ℕ) (Name := ℕ) (U := UU) (Γ := .empty) (c : Thread nD τ) none Set.univ (m := commM) (q := fullShare) (f := fin In c)
    (away_set c k' C).subset
  have hchunk := comm_chunk c (prv c k') C k' fullShare (fin In c)
  rw [htail]
  unfold waiting
  iintro ⟨⟨Hs, Hr, HO⟩, Ht⟩ Hk
  ihave Hr := (progress_take (recvOut c C) (recvIn In c C) b (toward k') hS) $$ Hr
  icases Hr with ⟨Hp, Hback⟩
  ihave Hp := (Entails.of_eq hpay) $$ Hp
  icases Hp with ⟨Hp, Ha⟩
  ihave Hc := (Entails.of_eq hchunk.symm) $$ [Hp Ht]
  · isplitl [Hp] <;> iassumption
  iapply hload $$ Hc
  iintro Hc
  ihave Hc := (Entails.of_eq hchunk) $$ Hc
  icases Hc with ⟨Hp, Ht⟩
  iapply Hk
  isplitr [Ht]
  · isplitl [Hs]; · iexact Hs
    isplitr [HO]
    · iapply Hback
      iapply (Entails.of_eq hpay.symm)
      isplitl [Hp] <;> iassumption
    iexact HO
  iexact Ht

end Cert.KernelIdeal.Moe

end
-- ==== Proof.Sends.lean ====
/-
  The sends: the pieces of the kernel's body that send the chunks, at any device.
-/
module

public import proofs.«01_k».proof.Proof.Loads

@[expose] public section

noncomputable section

namespace Cert.KernelIdeal.Moe

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (In : Inputs F) (K : GSem nD τ sig → ℕ)

/-- A piece of the kernel's body, at the buffers and semaphores it is run with. -/
abbrev atBufs {β : Sort*} (p : (a0 : Memref sig .tc .vmem S2048x512 .f32) → a0.IsWhole → (a1 : Memref sig .tc .vmem S2048x1 .i32) → a1.IsWhole
    → (a2 : Memref sig .tc .vmem S2048x1 .i32) → a2.IsWhole → (a3 : Memref sig .tc .hbm S8x512x1024 .f32) → a3.IsWhole
    → (a4 : Memref sig .tc .vmem S2048x1024 .bf16) → a4.IsWhole → (a5 : Memref sig .tc .vmem S2048x1024 .bf16) → a5.IsWhole
    → (a6 : Memref sig .tc .vmem S8x512x1024 .f32) → a6.IsWhole → DmaSems sig S2 → DmaSems sig S24 → DmaSems sig S24 → β) : β :=
  p (Memref.whole cc0_stg0_0) (Memref.isWhole_whole _) (Memref.whole cc0_stg1_0) (Memref.isWhole_whole _)
    (Memref.whole cc0_stg2_0) (Memref.isWhole_whole _) (Memref.whole main_arg3) (Memref.isWhole_whole _)
    (Memref.whole cc0_stg3_0) (Memref.isWhole_whole _) (Memref.whole cc0_scratch0) (Memref.isWhole_whole _)
    (Memref.whole cc0_scratch1) (Memref.isWhole_whole _) cc0_scratch2 cc0_scratch3 cc0_scratch4

/-- The semaphore a slice of an array of 24 names. -/
theorem send_sem (C : Fin 2) (q : Fin 12) (j : ℕ) (hj : j = ((kOf q).val * 2 + C.val) * 4 + (iOf q).val) (inb) :
    ((cc0_scratch3.slice (Rect.unit (s := S24) ![j] S1.size inb)).squeeze S_ squeezes_S1_S_).sem = sendS C q := by
  subst hj
  revert C q
  decide

/-- The receive semaphore a transfer names. -/
theorem recv_sem (C : Fin 2) (q : Fin 12) (j : ℕ) (hj : j = ((kOf q).val * 2 + C.val) * 4 + (iOf q).val) (inb) :
    ((cc0_scratch4.slice (Rect.unit (s := S24) ![j] S1.size inb)).squeeze S_ squeezes_S1_S_).sem = recvS C q := by
  subst hj
  revert C q
  decide

/-- A program that only returns. -/
theorem runs_ret {α : Type} {Q : α → sProp 𝕄} (c : Dev nD) (a : α) : Q a ⊢ runs c (.ret a) Q := by
  unfold runs
  rw [wp_ret]
  iintro H
  imodintro
  iexact H

/-- The send of transfer `n` of chunk `C`, as the body writes it: of band `i`, to the device `d` places on, at semaphores `j`. -/
theorem send {α : Type} {Q : α → sProp 𝕄} {k : PUnit → Prog (TpuEff nD τ sig (Elt F) Λ₀ .tc) α}
    (c : Dev nD) (C : Fin 2) (n : ℕ) (d : ℕ) (i : Fin 4) (j : ℕ) (X : CellTallies nD τ sig Unit)
    {dev : Dev nD} (hdev : dev.val = (c.val + d) % 4)
    (hn : n < 12 ∧ d = n / 4 + 1 ∧ i.val = n % 4 ∧ j = (n / 4 * 2 + C.val) * 4 + n % 4) {inb inb'}
    {hsc : (slotM c C i).view.ref.isScScratch = false} {hsrc hdst : (slotM c C i).view.WordExact}
    {hsem : DmaTarget.Typed .vmem (.dma ((cc0_scratch4.slice (Rect.unit (s := S24) ![j] S1.size inb')).squeeze S_ squeezes_S1_S_).sem)
      (.remote (Dev.tc dev : Thread nD τ) (slotM c C i) (.dma ((cc0_scratch3.slice (Rect.unit (s := S24) ![j] S1.size inb)).squeeze S_ squeezes_S1_S_).sem) hsc)} :
    recs In K ⊢ iprop(sending In c C X n -∗ (sending In c C X (n + 1) -∗ runs c (k ⟨⟩) Q)
        -∗ runs c (.op (.enqueueDma (slotM c C i) (.remote (Dev.tc dev : Thread nD τ) (slotM c C i)
            (.dma ((cc0_scratch3.slice (Rect.unit (s := S24) ![j] S1.size inb)).squeeze S_ squeezes_S1_S_).sem) hsc)
            (.dma ((cc0_scratch4.slice (Rect.unit (s := S24) ![j] S1.size inb')).squeeze S_ squeezes_S1_S_).sem) hsrc hdst hsem) k) Q) := by
  obtain ⟨hn, rfl, hi, rfl⟩ := hn
  have hi : i = iOf ⟨n, hn⟩ := Fin.ext hi
  subst hi
  have hd : dev = nxt c (kOf ⟨n, hn⟩) := Fin.ext (hdev.trans (by show _ = (c.val + 1 + n / 4) % 4; omega))
  exact BI.wand_intro (send_step In K c dev C ⟨n, hn⟩ X hd rfl rfl (congrArg SemLoc.dma (send_sem C ⟨n, hn⟩ _ rfl inb))
    (congrArg SemLoc.dma (recv_sem C ⟨n, hn⟩ _ rfl inb')))

/-- Sends 1 to 2 of chunk 0. -/
theorem part4 (c : Dev nD) (v2 v3 z : BitVec 32) (X : CellTallies nD τ sig Unit) {Q} :
    iprop(recs In K ∗ sending In c 0 X 1)
      ⊢ iprop((∀ r, sending In c 0 X 3 -∗ Q r) -∗ runs c (atBufs (k0_part4 (F := F)) c v2 v3 z) Q) := by
  unfold atBufs
  rw [k0_part4_eq_skeleton]
  unfold k0_part4_skel
  simp only [Prog.lift, Prog.bind_op, Prog.bind_ret, Prog.pure_eq_ret, Prog.bind_assoc]
  iintro ⟨#HI, H⟩ Hk
  iapply (send In K c 0 1 1 1 1 X (dev := ⟨_, k0_dev5_lt c⟩) (k0_dev5_eq c) (by decide)) $$ HI H; iintro H
  iapply (send In K c 0 2 1 2 2 X (dev := ⟨_, k0_dev6_lt c⟩) (k0_dev6_eq c) (by decide)) $$ HI H; iintro H
  iapply (runs_ret c)
  iapply Hk
  iexact H

/-- Sends 3 to 5 of chunk 0. -/
theorem part5 (c : Dev nD) (v2 v3 : BitVec 32) (X : CellTallies nD τ sig Unit) {Q} :
    iprop(recs In K ∗ sending In c 0 X 3)
      ⊢ iprop((∀ r, sending In c 0 X 6 -∗ Q r) -∗ runs c (atBufs (k0_part5 (F := F)) c v2 v3) Q) := by
  unfold atBufs
  rw [k0_part5_eq_skeleton]
  unfold k0_part5_skel
  simp only [Prog.lift, Prog.bind_op, Prog.bind_ret, Prog.pure_eq_ret, Prog.bind_assoc]
  iintro ⟨#HI, H⟩ Hk
  iapply (send In K c 0 3 1 3 3 X (dev := ⟨_, k0_dev7_lt c⟩) (k0_dev7_eq c) (by decide)) $$ HI H; iintro H
  iapply (send In K c 0 4 2 0 8 X (dev := ⟨_, k0_dev8_lt c⟩) (k0_dev8_eq c) (by decide)) $$ HI H; iintro H
  iapply (send In K c 0 5 2 1 9 X (dev := ⟨_, k0_dev9_lt c⟩) (k0_dev9_eq c) (by decide)) $$ HI H; iintro H
  iapply (runs_ret c)
  iapply Hk
  iexact H

/-- Sends 6 to 7 of chunk 0. -/
theorem part6 (c : Dev nD) (v2 v3 z : BitVec 32) (X : CellTallies nD τ sig Unit) {Q} :
    iprop(recs In K ∗ sending In c 0 X 6)
      ⊢ iprop((∀ r, sending In c 0 X 8 -∗ Q r) -∗ runs c (atBufs (k0_part6 (F := F)) c v2 v3 z) Q) := by
  unfold atBufs
  rw [k0_part6_eq_skeleton]
  unfold k0_part6_skel
  simp only [Prog.lift, Prog.bind_op, Prog.bind_ret, Prog.pure_eq_ret, Prog.bind_assoc]
  iintro ⟨#HI, H⟩ Hk
  iapply (send In K c 0 6 2 2 10 X (dev := ⟨_, k0_dev10_lt c⟩) (k0_dev10_eq c) (by decide)) $$ HI H; iintro H
  iapply (send In K c 0 7 2 3 11 X (dev := ⟨_, k0_dev11_lt c⟩) (k0_dev11_eq c) (by decide)) $$ HI H; iintro H
  iapply (runs_ret c)
  iapply Hk
  iexact H

/-- Sends 8 to 10 of chunk 0. -/
theorem part7 (c : Dev nD) (v2 v3 : BitVec 32) (X : CellTallies nD τ sig Unit) {Q} :
    iprop(recs In K ∗ sending In c 0 X 8)
      ⊢ iprop((∀ r, sending In c 0 X 11 -∗ Q r) -∗ runs c (atBufs (k0_part7 (F := F)) c v2 v3) Q) := by
  unfold atBufs
  rw [k0_part7_eq_skeleton]
  unfold k0_part7_skel
  simp only [Prog.lift, Prog.bind_op, Prog.bind_ret, Prog.pure_eq_ret, Prog.bind_assoc]
  iintro ⟨#HI, H⟩ Hk
  iapply (send In K c 0 8 3 0 16 X (dev := ⟨_, k0_dev12_lt c⟩) (k0_dev12_eq c) (by decide)) $$ HI H; iintro H
  iapply (send In K c 0 9 3 1 17 X (dev := ⟨_, k0_dev13_lt c⟩) (k0_dev13_eq c) (by decide)) $$ HI H; iintro H
  iapply (send In K c 0 10 3 2 18 X (dev := ⟨_, k0_dev14_lt c⟩) (k0_dev14_eq c) (by decide)) $$ HI H; iintro H
  iapply (runs_ret c)
  iapply Hk
  iexact H

/-- Sends 1 to 3 of chunk 1. -/
theorem part10 (c : Dev nD) (v2 v3 z : BitVec 32) (X : CellTallies nD τ sig Unit) {Q} :
    iprop(recs In K ∗ sending In c 1 X 1)
      ⊢ iprop((∀ r, sending In c 1 X 4 -∗ Q r) -∗ runs c (atBufs (k0_part10 (F := F)) c v2 v3 z) Q) := by
  unfold atBufs
  rw [k0_part10_eq_skeleton]
  unfold k0_part10_skel
  simp only [Prog.lift, Prog.bind_op, Prog.bind_ret, Prog.pure_eq_ret, Prog.bind_assoc]
  iintro ⟨#HI, H⟩ Hk
  iapply (send In K c 1 1 1 1 5 X (dev := ⟨_, k0_dev17_lt c⟩) (k0_dev17_eq c) (by decide)) $$ HI H; iintro H
  iapply (send In K c 1 2 1 2 6 X (dev := ⟨_, k0_dev18_lt c⟩) (k0_dev18_eq c) (by decide)) $$ HI H; iintro H
  iapply (send In K c 1 3 1 3 7 X (dev := ⟨_, k0_dev19_lt c⟩) (k0_dev19_eq c) (by decide)) $$ HI H; iintro H
  iapply (runs_ret c)
  iapply Hk
  iexact H

/-- Sends 4 to 5 of chunk 1. -/
theorem part11 (c : Dev nD) (v2 v3 : BitVec 32) (X : CellTallies nD τ sig Unit) {Q} :
    iprop(recs In K ∗ sending In c 1 X 4)
      ⊢ iprop((∀ r, sending In c 1 X 6 -∗ Q r) -∗ runs c (atBufs (k0_part11 (F := F)) c v2 v3) Q) := by
  unfold atBufs
  rw [k0_part11_eq_skeleton]
  unfold k0_part11_skel
  simp only [Prog.lift, Prog.bind_op, Prog.bind_ret, Prog.pure_eq_ret, Prog.bind_assoc]
  iintro ⟨#HI, H⟩ Hk
  iapply (send In K c 1 4 2 0 12 X (dev := ⟨_, k0_dev20_lt c⟩) (k0_dev20_eq c) (by decide)) $$ HI H; iintro H
  iapply (send In K c 1 5 2 1 13 X (dev := ⟨_, k0_dev21_lt c⟩) (k0_dev21_eq c) (by decide)) $$ HI H; iintro H
  iapply (runs_ret c)
  iapply Hk
  iexact H

/-- Sends 6 to 8 of chunk 1. -/
theorem part12 (c : Dev nD) (v2 v3 : BitVec 32) (X : CellTallies nD τ sig Unit) {Q} :
    iprop(recs In K ∗ sending In c 1 X 6)
      ⊢ iprop((∀ r, sending In c 1 X 9 -∗ Q r) -∗ runs c (atBufs (k0_part12 (F := F)) c v2 v3) Q) := by
  unfold atBufs
  rw [k0_part12_eq_skeleton]
  unfold k0_part12_skel
  simp only [Prog.lift, Prog.bind_op, Prog.bind_ret, Prog.pure_eq_ret, Prog.bind_assoc]
  iintro ⟨#HI, H⟩ Hk
  iapply (send In K c 1 6 2 2 14 X (dev := ⟨_, k0_dev22_lt c⟩) (k0_dev22_eq c) (by decide)) $$ HI H; iintro H
  iapply (send In K c 1 7 2 3 15 X (dev := ⟨_, k0_dev23_lt c⟩) (k0_dev23_eq c) (by decide)) $$ HI H; iintro H
  iapply (send In K c 1 8 3 0 20 X (dev := ⟨_, k0_dev24_lt c⟩) (k0_dev24_eq c) (by decide)) $$ HI H; iintro H
  iapply (runs_ret c)
  iapply Hk
  iexact H

/-- Sends 9 to 10 of chunk 1. -/
theorem part13 (c : Dev nD) (v2 v3 z : BitVec 32) (X : CellTallies nD τ sig Unit) {Q} :
    iprop(recs In K ∗ sending In c 1 X 9)
      ⊢ iprop((∀ r, sending In c 1 X 11 -∗ Q r) -∗ runs c (atBufs (k0_part13 (F := F)) c v2 v3 z) Q) := by
  unfold atBufs
  rw [k0_part13_eq_skeleton]
  unfold k0_part13_skel
  simp only [Prog.lift, Prog.bind_op, Prog.bind_ret, Prog.pure_eq_ret, Prog.bind_assoc]
  iintro ⟨#HI, H⟩ Hk
  iapply (send In K c 1 9 3 1 21 X (dev := ⟨_, k0_dev25_lt c⟩) (k0_dev25_eq c) (by decide)) $$ HI H; iintro H
  iapply (send In K c 1 10 3 2 22 X (dev := ⟨_, k0_dev26_lt c⟩) (k0_dev26_eq c) (by decide)) $$ HI H; iintro H
  iapply (runs_ret c)
  iapply Hk
  iexact H

end Cert.KernelIdeal.Moe

end
-- ==== Proof.Waits.lean ====
/-
  The waits: the pieces of the kernel's body that wait for the transfers and read the chunks that came, at any device.
-/
module

public import proofs.«01_k».proof.Proof.Sends

@[expose] public section

noncomputable section

namespace Cert.KernelIdeal.Moe

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (In : Inputs F) (K : GSem nD τ sig → ℕ)

/-- All slots, as the kernel's staged array holds them. -/
abbrev slots (c : Dev nD) : sProp 𝕄 := (((c : Thread nD τ).loc cc0_stg2_0) ↦{fullShare} In.slot c)
/-- The rows of another device's chunk that never travel. -/
abbrev tail (c : Dev nD) (k : Fin 3) (C : Fin 2) : sProp 𝕄 := comm c (tailSet (prv c k) C) fullShare (k0_pay1 (F := F))

/-- The transfers of a chunk, all to be waited for, -/
def outs (c : Dev nD) (C : Fin 2) : sProp 𝕄 := iprop(bigSep Finset.univ (sendOut c C) ∗ bigSep Finset.univ (recvOut c C))
/-- and all waited for. -/
def arrived (c : Dev nD) (C : Fin 2) : sProp 𝕄 := iprop(bigSep Finset.univ (sendIn In c C) ∗ bigSep Finset.univ (recvIn In c C))

/-- Before the first wait of a chunk nothing has come back. -/
theorem waiting_open (c : Dev nD) (C : Fin 2) : iprop(outs c C ∗ ∃ W, owes (c : Thread nD τ) 0 W) ⊢ waiting In c C 0 0 := by
  unfold outs waiting
  rw [progress_none, progress_none]
  iintro ⟨⟨Ha, Hb⟩, HO⟩
  isplitl [Ha]; · iexact Ha
  isplitl [Hb]; · iexact Hb
  iexact HO

/-- After the last wait of a chunk all has. -/
theorem waiting_close (c : Dev nD) (C : Fin 2) : waiting In c C 12 12 ⊢ iprop(arrived In c C ∗ ∃ W, owes (c : Thread nD τ) 0 W) := by
  unfold arrived waiting
  rw [progress_all, progress_all]
  iintro ⟨Ha, Hb, HO⟩
  isplitr [HO]
  · isplitl [Ha]; · iexact Ha
    iexact Hb
  iexact HO

/-- The wait for the send of transfer `n` of chunk `C`, as the body writes it: of band `i`, at semaphore `j`. -/
theorem sent_wait {α : Type} {Q : α → sProp 𝕄} {k : PUnit → Prog (TpuEff nD τ sig (Elt F) Λ₀ .tc) α}
    (c : Dev nD) (C : Fin 2) (n b : ℕ) (i : Fin 4) (j : ℕ)
    (hn : n < 12 ∧ i.val = n % 4 ∧ j = (n / 4 * 2 + C.val) * 4 + n % 4) {inb} {hsrc hdst : (slotM c C i).view.WordExact} :
    recs In K ⊢ iprop(waiting In c C n b -∗ (waiting In c C (n + 1) b -∗ runs c (k ⟨⟩) Q)
        -∗ runs c (.op (.waitDma2 ((cc0_scratch3.slice (Rect.unit (s := S24) ![j] S1.size inb)).squeeze S_ squeezes_S1_S_).sem
            (slotM c C i) (slotM c C i) hsrc hdst) k) Q) := by
  obtain ⟨hn, hi, rfl⟩ := hn
  exact BI.wand_intro (sent_step In K c C ⟨n, hn⟩ b (send_sem C ⟨n, hn⟩ _ rfl inb) (credit_slot c C i))

/-- The wait for the receipt of transfer `n` of chunk `C`. -/
theorem received_wait {α : Type} {Q : α → sProp 𝕄} {k : PUnit → Prog (TpuEff nD τ sig (Elt F) Λ₀ .tc) α}
    (c : Dev nD) (C : Fin 2) (n a : ℕ) (i : Fin 4) (j : ℕ)
    (hn : n < 12 ∧ i.val = n % 4 ∧ j = (n / 4 * 2 + C.val) * 4 + n % 4) {inb} {hsrc hdst : (slotM c C i).view.WordExact} :
    recs In K ⊢ iprop(waiting In c C a n -∗ (waiting In c C a (n + 1) -∗ runs c (k ⟨⟩) Q)
        -∗ runs c (.op (.waitDma2 ((cc0_scratch4.slice (Rect.unit (s := S24) ![j] S1.size inb)).squeeze S_ squeezes_S1_S_).sem
            (slotM c C i) (slotM c C i) hsrc hdst) k) Q) := by
  obtain ⟨hn, hi, rfl⟩ := hn
  exact BI.wand_intro (received_step In K c C ⟨n, hn⟩ a (recv_sem C ⟨n, hn⟩ _ rfl inb) (credit_slot c C i))

/-- A load of all slots. -/
theorem slots_step {α : Type} {Q : α → sProp 𝕄} {k : Vec F S2048x1 .i32 → Prog (TpuEff nD τ sig (Elt F) Λ₀ .tc) α} (c : Dev nD) {inb}
    {hl : (Memref.whole cc0_stg2_0 : Memref sig .tc .vmem S2048x1 .i32).view.LoadsAt (Rect.unit (s := S2048x1) ![0, 0] S2048x1.size inb).toLoadRect} :
    slots In c ⊢ iprop((slots In c -∗ runs c (k (In.slot c)) Q)
      -∗ runs c (.op (.load (Memref.whole cc0_stg2_0 : Memref sig .tc .vmem S2048x1 .i32)
          (Rect.unit (s := S2048x1) ![0, 0] S2048x1.size inb).toLoadRect hl) k) Q) :=
  whole_step c (m := (Memref.whole cc0_stg2_0 : Memref sig .tc .vmem S2048x1 .i32)) (k := k) (hl := hl) (f := In.slot c)
    (Memref.readAt_unit_zero (Elt F) cc0_stg2_0 zeros2 inb (In.slot c))

/-- A load of a chunk that has arrived, as the body writes it: the chunk at `o` of the block `d` places before. -/
theorem away_load {α : Type} {Q : α → sProp 𝕄} {k : Vec F S256x1024 .bf16 → Prog (TpuEff nD τ sig (Elt F) Λ₀ .tc) α}
    (c : Dev nD) (k' : Fin 3) (C : Fin 2) (a b : ℕ) (hb : 4 * k'.val + 4 ≤ b) {hl : commM.view.LoadsAt (awayR c k' C).toLoadRect} :
    waiting In c C a b ⊢ iprop(tail c k' C -∗ ((waiting In c C a b ∗ tail c k' C) -∗ runs c (k (awayRows (fin In c) c k' C)) Q)
        -∗ runs c (.op (.load commM (awayR c k' C).toLoadRect hl) k) Q) :=
  BI.wand_intro (away_step In c k' C a b hb)

/-- The second to fourth departures and the first three landings of the first chunk. -/
theorem part15 (c : Dev nD) (v1 v2 : BitVec 32) {Q} :
    iprop(recs In K ∗ waiting In c 0 1 0)
      ⊢ iprop((∀ r, waiting In c 0 4 3 -∗ Q r) -∗ runs c (atBufs (k0_part15 (F := F)) c v1 v2) Q) := by
  unfold atBufs
  rw [k0_part15_eq_skeleton]
  unfold k0_part15_skel
  simp only [Prog.lift, Prog.bind_op, Prog.bind_ret, Prog.pure_eq_ret, Prog.bind_assoc]
  iintro ⟨#HI, H⟩ Hk
  iapply (received_wait In K c 0 0 1 0 0 (by decide)) $$ HI H; iintro H
  iapply (sent_wait In K c 0 1 1 1 1 (by decide)) $$ HI H; iintro H
  iapply (received_wait In K c 0 1 2 1 1 (by decide)) $$ HI H; iintro H
  iapply (sent_wait In K c 0 2 2 2 2 (by decide)) $$ HI H; iintro H
  iapply (received_wait In K c 0 2 3 2 2 (by decide)) $$ HI H; iintro H
  iapply (sent_wait In K c 0 3 3 3 3 (by decide)) $$ HI H; iintro H
  iapply (runs_ret c)
  iapply Hk
  iexact H

/-- The fourth landing, the product with that chunk, and the next departure. -/
theorem part16 (c : Dev nD) (v2 v3 v4 : BitVec 32) (acc : FVec F S2048x1024 .f32) {Q} :
    iprop(recs In K ∗ waiting In c 0 4 3 ∗ slots In c ∗ tail c 0 0)
      ⊢ iprop(((waiting In c 0 5 4 ∗ slots In c ∗ tail c 0 0) -∗ Q (k0_pay13 v2 cols acc (In.slot c) (awayRows (fin In c) c 0 0)))
        -∗ runs c (atBufs (k0_part16 (F := F)) c v2 cols v3 v4 acc) Q) := by
  unfold atBufs
  rw [k0_part16_eq_skeleton]
  unfold k0_part16_skel
  simp only [Prog.lift, Prog.bind_op, Prog.bind_ret, Prog.pure_eq_ret, Prog.bind_assoc]
  iintro ⟨#HI, H, Hs, Ht⟩ Hk
  iapply (received_wait In K c 0 3 4 3 3 (by decide)) $$ HI H; iintro H
  iapply (slots_step In c) $$ Hs; iintro Hs
  iapply (away_load In c 0 0 4 4 (by decide)) $$ H Ht; iintro ⟨H, Ht⟩
  iapply (sent_wait In K c 0 4 4 0 8 (by decide)) $$ HI H; iintro H
  iapply (runs_ret c)
  iapply Hk
  isplitl [H]; · iexact H
  isplitl [Hs]; · iexact Hs
  iexact Ht

/-- Departures and landings from the second device before. -/
theorem part17 (c : Dev nD) (v1 v2 : BitVec 32) {Q} :
    iprop(recs In K ∗ waiting In c 0 5 4)
      ⊢ iprop((∀ r, waiting In c 0 8 7 -∗ Q r) -∗ runs c (atBufs (k0_part17 (F := F)) c v1 v2) Q) := by
  unfold atBufs
  rw [k0_part17_eq_skeleton]
  unfold k0_part17_skel
  simp only [Prog.lift, Prog.bind_op, Prog.bind_ret, Prog.pure_eq_ret, Prog.bind_assoc]
  iintro ⟨#HI, H⟩ Hk
  iapply (received_wait In K c 0 4 5 0 8 (by decide)) $$ HI H; iintro H
  iapply (sent_wait In K c 0 5 5 1 9 (by decide)) $$ HI H; iintro H
  iapply (received_wait In K c 0 5 6 1 9 (by decide)) $$ HI H; iintro H
  iapply (sent_wait In K c 0 6 6 2 10 (by decide)) $$ HI H; iintro H
  iapply (received_wait In K c 0 6 7 2 10 (by decide)) $$ HI H; iintro H
  iapply (sent_wait In K c 0 7 7 3 11 (by decide)) $$ HI H; iintro H
  iapply (runs_ret c)
  iapply Hk
  iexact H

/-- The last landing from the second device before, and the product with its first chunk. -/
theorem part18 (c : Dev nD) (v2 v3 v4 v5 : BitVec 32) (acc : FVec F S2048x1024 .f32) {Q} :
    iprop(recs In K ∗ waiting In c 0 8 7 ∗ slots In c ∗ tail c 1 0)
      ⊢ iprop(((waiting In c 0 9 9 ∗ slots In c ∗ tail c 1 0) -∗ Q (k0_pay14 v2 cols acc (In.slot c) (awayRows (fin In c) c 1 0)))
        -∗ runs c (atBufs (k0_part18 (F := F)) c v2 cols v3 v4 acc v5) Q) := by
  unfold atBufs
  rw [k0_part18_eq_skeleton]
  unfold k0_part18_skel
  simp only [Prog.lift, Prog.bind_op, Prog.bind_ret, Prog.pure_eq_ret, Prog.bind_assoc]
  iintro ⟨#HI, H, Hs, Ht⟩ Hk
  iapply (received_wait In K c 0 7 8 3 11 (by decide)) $$ HI H; iintro H
  iapply (slots_step In c) $$ Hs; iintro Hs
  iapply (away_load In c 1 0 8 8 (by decide)) $$ H Ht; iintro ⟨H, Ht⟩
  iapply (sent_wait In K c 0 8 8 0 16 (by decide)) $$ HI H; iintro H
  iapply (received_wait In K c 0 8 9 0 16 (by decide)) $$ HI H; iintro H
  iapply (runs_ret c)
  iapply Hk
  isplitl [H]; · iexact H
  isplitl [Hs]; · iexact Hs
  iexact Ht

/-- Departures and landings from the third device before. -/
theorem part19 (c : Dev nD) (v1 v2 v3 : BitVec 32) {Q} :
    iprop(recs In K ∗ waiting In c 0 9 9)
      ⊢ iprop((∀ r, waiting In c 0 12 11 -∗ Q r) -∗ runs c (atBufs (k0_part19 (F := F)) c v1 v2 v3) Q) := by
  unfold atBufs
  rw [k0_part19_eq_skeleton]
  unfold k0_part19_skel
  simp only [Prog.lift, Prog.bind_op, Prog.bind_ret, Prog.pure_eq_ret, Prog.bind_assoc]
  iintro ⟨#HI, H⟩ Hk
  iapply (sent_wait In K c 0 9 9 1 17 (by decide)) $$ HI H; iintro H
  iapply (received_wait In K c 0 9 10 1 17 (by decide)) $$ HI H; iintro H
  iapply (sent_wait In K c 0 10 10 2 18 (by decide)) $$ HI H; iintro H
  iapply (received_wait In K c 0 10 11 2 18 (by decide)) $$ HI H; iintro H
  iapply (sent_wait In K c 0 11 11 3 19 (by decide)) $$ HI H; iintro H
  iapply (runs_ret c)
  iapply Hk
  iexact H

/-- The last landing of the first chunk, the product, and the first wait of the second chunk. -/
theorem part20 (c : Dev nD) (v2 v3 v4 : BitVec 32) (acc : FVec F S2048x1024 .f32) {Q} :
    iprop(recs In K ∗ waiting In c 0 12 11 ∗ slots In c ∗ tail c 2 0 ∗ outs c 1)
      ⊢ iprop(((arrived In c 0 ∗ waiting In c 1 1 1 ∗ slots In c ∗ tail c 2 0) -∗ Q (k0_pay15 v2 cols acc (In.slot c) (awayRows (fin In c) c 2 0)))
        -∗ runs c (atBufs (k0_part20 (F := F)) c v2 cols v3 acc v4) Q) := by
  unfold atBufs
  rw [k0_part20_eq_skeleton]
  unfold k0_part20_skel
  simp only [Prog.lift, Prog.bind_op, Prog.bind_ret, Prog.pure_eq_ret, Prog.bind_assoc]
  iintro ⟨#HI, H, Hs, Ht, H1⟩ Hk
  iapply (received_wait In K c 0 11 12 3 19 (by decide)) $$ HI H; iintro H
  iapply (slots_step In c) $$ Hs; iintro Hs
  iapply (away_load In c 2 0 12 12 (by decide)) $$ H Ht; iintro ⟨H, Ht⟩
  ihave H := (waiting_close In c 0) $$ H
  icases H with ⟨H0, HO⟩
  ihave H := (waiting_open In c 1) $$ [H1 HO]
  · isplitl [H1] <;> iassumption
  iapply (sent_wait In K c 1 0 0 0 4 (by decide)) $$ HI H; iintro H
  iapply (received_wait In K c 1 0 1 0 4 (by decide)) $$ HI H; iintro H
  iapply (runs_ret c)
  iapply Hk
  isplitl [H0]; · iexact H0
  isplitl [H]; · iexact H
  isplitl [Hs]; · iexact Hs
  iexact Ht

/-- Departures and landings of the second chunk from the device before. -/
theorem part21 (c : Dev nD) (v1 v2 v3 : BitVec 32) {Q} :
    iprop(recs In K ∗ waiting In c 1 1 1)
      ⊢ iprop((∀ r, waiting In c 1 4 3 -∗ Q r) -∗ runs c (atBufs (k0_part21 (F := F)) c v1 v2 v3) Q) := by
  unfold atBufs
  rw [k0_part21_eq_skeleton]
  unfold k0_part21_skel
  simp only [Prog.lift, Prog.bind_op, Prog.bind_ret, Prog.pure_eq_ret, Prog.bind_assoc]
  iintro ⟨#HI, H⟩ Hk
  iapply (sent_wait In K c 1 1 1 1 5 (by decide)) $$ HI H; iintro H
  iapply (received_wait In K c 1 1 2 1 5 (by decide)) $$ HI H; iintro H
  iapply (sent_wait In K c 1 2 2 2 6 (by decide)) $$ HI H; iintro H
  iapply (received_wait In K c 1 2 3 2 6 (by decide)) $$ HI H; iintro H
  iapply (sent_wait In K c 1 3 3 3 7 (by decide)) $$ HI H; iintro H
  iapply (runs_ret c)
  iapply Hk
  iexact H

/-- The last of these, and the product with that chunk. -/
theorem part22 (c : Dev nD) (v2 v3 v4 v5 : BitVec 32) (acc : FVec F S2048x1024 .f32) {Q} :
    iprop(recs In K ∗ waiting In c 1 4 3 ∗ slots In c ∗ tail c 0 1)
      ⊢ iprop(((waiting In c 1 5 5 ∗ slots In c ∗ tail c 0 1) -∗ Q (k0_pay16 v2 cols acc (In.slot c) (awayRows (fin In c) c 0 1)))
        -∗ runs c (atBufs (k0_part22 (F := F)) c v2 cols v3 acc v4 v5) Q) := by
  unfold atBufs
  rw [k0_part22_eq_skeleton]
  unfold k0_part22_skel
  simp only [Prog.lift, Prog.bind_op, Prog.bind_ret, Prog.pure_eq_ret, Prog.bind_assoc]
  iintro ⟨#HI, H, Hs, Ht⟩ Hk
  iapply (received_wait In K c 1 3 4 3 7 (by decide)) $$ HI H; iintro H
  iapply (slots_step In c) $$ Hs; iintro Hs
  iapply (away_load In c 0 1 4 4 (by decide)) $$ H Ht; iintro ⟨H, Ht⟩
  iapply (sent_wait In K c 1 4 4 0 12 (by decide)) $$ HI H; iintro H
  iapply (received_wait In K c 1 4 5 0 12 (by decide)) $$ HI H; iintro H
  iapply (runs_ret c)
  iapply Hk
  isplitl [H]; · iexact H
  isplitl [Hs]; · iexact Hs
  iexact Ht

/-- Departures and landings of the second chunk from the second device before. -/
theorem part23 (c : Dev nD) (v1 v2 v3 : BitVec 32) {Q} :
    iprop(recs In K ∗ waiting In c 1 5 5)
      ⊢ iprop((∀ r, waiting In c 1 8 7 -∗ Q r) -∗ runs c (atBufs (k0_part23 (F := F)) c v1 v2 v3) Q) := by
  unfold atBufs
  rw [k0_part23_eq_skeleton]
  unfold k0_part23_skel
  simp only [Prog.lift, Prog.bind_op, Prog.bind_ret, Prog.pure_eq_ret, Prog.bind_assoc]
  iintro ⟨#HI, H⟩ Hk
  iapply (sent_wait In K c 1 5 5 1 13 (by decide)) $$ HI H; iintro H
  iapply (received_wait In K c 1 5 6 1 13 (by decide)) $$ HI H; iintro H
  iapply (sent_wait In K c 1 6 6 2 14 (by decide)) $$ HI H; iintro H
  iapply (received_wait In K c 1 6 7 2 14 (by decide)) $$ HI H; iintro H
  iapply (sent_wait In K c 1 7 7 3 15 (by decide)) $$ HI H; iintro H
  iapply (runs_ret c)
  iapply Hk
  iexact H

/-- The last of these, and the product with that chunk. -/
theorem part24 (c : Dev nD) (v2 v3 : BitVec 32) (acc : FVec F S2048x1024 .f32) {Q} :
    iprop(recs In K ∗ waiting In c 1 8 7 ∗ slots In c ∗ tail c 1 1)
      ⊢ iprop(((waiting In c 1 9 9 ∗ slots In c ∗ tail c 1 1) -∗ Q (k0_pay17 v2 cols acc (In.slot c) (awayRows (fin In c) c 1 1)))
        -∗ runs c (atBufs (k0_part24 (F := F)) c v2 cols v3 acc) Q) := by
  unfold atBufs
  rw [k0_part24_eq_skeleton]
  unfold k0_part24_skel
  simp only [Prog.lift, Prog.bind_op, Prog.bind_ret, Prog.pure_eq_ret, Prog.bind_assoc]
  iintro ⟨#HI, H, Hs, Ht⟩ Hk
  iapply (received_wait In K c 1 7 8 3 15 (by decide)) $$ HI H; iintro H
  iapply (slots_step In c) $$ Hs; iintro Hs
  iapply (away_load In c 1 1 8 8 (by decide)) $$ H Ht; iintro ⟨H, Ht⟩
  iapply (sent_wait In K c 1 8 8 0 20 (by decide)) $$ HI H; iintro H
  iapply (received_wait In K c 1 8 9 0 20 (by decide)) $$ HI H; iintro H
  iapply (runs_ret c)
  iapply Hk
  isplitl [H]; · iexact H
  isplitl [Hs]; · iexact Hs
  iexact Ht

/-- Departures and landings of the second chunk from the third device before. -/
theorem part25 (c : Dev nD) (v1 v2 v3 : BitVec 32) {Q} :
    iprop(recs In K ∗ waiting In c 1 9 9)
      ⊢ iprop((∀ r, waiting In c 1 12 11 -∗ Q r) -∗ runs c (atBufs (k0_part25 (F := F)) c v1 v2 v3) Q) := by
  unfold atBufs
  rw [k0_part25_eq_skeleton]
  unfold k0_part25_skel
  simp only [Prog.lift, Prog.bind_op, Prog.bind_ret, Prog.pure_eq_ret, Prog.bind_assoc]
  iintro ⟨#HI, H⟩ Hk
  iapply (sent_wait In K c 1 9 9 1 21 (by decide)) $$ HI H; iintro H
  iapply (received_wait In K c 1 9 10 1 21 (by decide)) $$ HI H; iintro H
  iapply (sent_wait In K c 1 10 10 2 22 (by decide)) $$ HI H; iintro H
  iapply (received_wait In K c 1 10 11 2 22 (by decide)) $$ HI H; iintro H
  iapply (sent_wait In K c 1 11 11 3 23 (by decide)) $$ HI H; iintro H
  iapply (runs_ret c)
  iapply Hk
  iexact H

end Cert.KernelIdeal.Moe

end
-- ==== Proof.Starts.lean ====
/-
  The pieces of the kernel's body that start the copies, meet the other devices at the barrier, compute the chunks and read them,
  at any device.
-/
module

public import proofs.«01_k».proof.Proof.Waits

@[expose] public section

noncomputable section

namespace Cert.KernelIdeal.Moe

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (In : Inputs F) (K : GSem nD τ sig → ℕ)

/-- The device's place in the mesh, as the body computes it, -/
abbrev word2 (c : Dev nD) : BitVec 32 := Scalar.remsi (Scalar.divsi (Dev.word c) 1#32) 4#32
/-- and the first row of its own block. -/
abbrev word3 (c : Dev nD) : BitVec 32 := Scalar.muli (word2 c) 512#32

/-- The barrier, as an array of one semaphore. -/
abbrev barA : Sems sig S_ := SemArray.scalar (sig.barrier 0 rfl)

/-- The rights to raise the semaphores of transfer `q` of chunk `C`. -/
def sendTok (c : Dev nD) (C : Fin 2) (q : Fin 12) : sProp 𝕄 :=
  iprop(dutyTok ER (sendCell c C q) 0 0 ∗ reached ER (sendCell c C q) 0 ∗ dutyTok ER (recvCell (nxt c (kOf q)) C q) 0 0)
/-- The right to raise the barrier of the device `j + 1` places on. -/
def barTok (c : Dev nD) (j : Fin 3) : sProp 𝕄 :=
  iprop(dutyTok ER (barCell (nxt c j)) 0 j ∗ reached ER (barCell (nxt c j)) 0)
/-- The right to raise a weight semaphore. -/
def wTok (c : Dev nD) (h : Fin 2) : sProp 𝕄 := iprop(dutyTok ER (wCell c h) 0 0 ∗ reached ER (wCell c h) 0)
/-- The receive semaphores' cells are at their first round. -/
def recvReached (c : Dev nD) : sProp 𝕄 :=
  bigSep Finset.univ fun C : Fin 2 => bigSep Finset.univ fun q : Fin 12 => reached ER (recvCell c C q) 0

/-- The tails of the other devices' chunks. -/
def tails (c : Dev nD) : sProp 𝕄 := bigSep Finset.univ fun C : Fin 2 => bigSep Finset.univ fun k : Fin 3 => tail (F := F) c k C

/-- Once zeroed, the buffer is the own chunks, the slots each other device may write, and the tails. -/
theorem zeroed (c : Dev nD) : iprop(comm c Finset.univ fullShare (k0_pay1 (F := F)) ∗ recvReached c)
    ⊢ iprop(comm c (chunkSet c 0) fullShare (k0_pay1 (F := F)) ∗ comm c (chunkSet c 1) fullShare (k0_pay1 (F := F))
      ∗ (barPay (nxt c 0) 0 ∗ barPay (nxt c 1) 1 ∗ barPay (nxt c 2) 2) ∗ tails c) := by
  have h1 := comm_whole c (k0_pay1 (F := F))
  have h2 : iprop((bigSep Finset.univ fun C : Fin 2 => bigSep Finset.univ fun q : Fin 12 => comm c (slotSet (prv c (kOf q)) C (iOf q)) fullShare (k0_pay1 (F := F)))
      ∗ recvReached c) ⊢ iprop(barPay (nxt c 0) 0 ∗ barPay (nxt c 1) 1 ∗ (barPay (nxt c 2) 2 : sProp 𝕄)) := by
    have h3 := give_slots (F := F) c
    rw [show (Finset.univ : Finset (Fin 3)) = {0, 1, 2} by decide, bigSep_insert (by decide), bigSep_insert (by decide), bigSep_singleton] at h3
    refine Entails.trans (Entails.of_eq ?_) (Entails.of_eq h3)
    unfold recvReached
    refine (bigSep_sep _ _ _).symm.trans ?_
    exact bigSep_congr fun C _ => (bigSep_sep _ _ _).symm
  have h0 : (bigSep Finset.univ fun C : Fin 2 => comm c (chunkSet c C) fullShare (k0_pay1 (F := F)))
      = iprop(comm c (chunkSet c 0) fullShare (k0_pay1 (F := F)) ∗ comm c (chunkSet c 1) fullShare (k0_pay1 (F := F))) := bigSep_fin_two _
  iintro ⟨H, Hr⟩
  ihave H := (Entails.of_eq h1) $$ H
  icases H with ⟨H, Hin, Ht⟩
  ihave H := (Entails.of_eq h0) $$ H
  icases H with ⟨H0, H1⟩
  isplitl [H0]; · iexact H0
  isplitl [H1]; · iexact H1
  isplitl [Hin Hr]
  · iapply h2
    isplitl [Hin] <;> iassumption
  unfold tails
  iexact Ht

/-- The shares of the own tails that go along with no transfer. -/
def lentTails (c : Dev nD) (C : Fin 2) : sProp 𝕄 := bigSep Finset.univ fun k : Fin 3 => comm c (tailSet c C) (sh k) (fin In c)

/-- Once stored, an own chunk is lent to its transfers, and a share is kept. -/
theorem lend (c : Dev nD) (C : Fin 2) :
    iprop(comm c (chunkSet c C) fullShare (fin In c) ∗ (bigSep Finset.univ fun q : Fin 12 => dstPay c C q) ∗ bigSep Finset.univ fun q : Fin 12 => sendTok c C q)
      ⊢ iprop(comm c (chunkSet c C) shKeep (fin In c) ∗ lentTails In c C ∗ progress (ready In c C) (sent c C) 0) := by
  have h1 := comm_own c C (fin In c)
  have h2 : iprop((bigSep Finset.univ fun q : Fin 12 => comm c (slotSet c C (iOf q)) (sh (kOf q)) (fin In c))
      ∗ (bigSep Finset.univ fun q : Fin 12 => dstPay c C q) ∗ bigSep Finset.univ fun q : Fin 12 => sendTok c C q)
      = (bigSep Finset.univ (ready In c C) : sProp 𝕄) :=
    Eq.symm ((bigSep_sep _ _ _).trans (congrArg (BI.sep _) (bigSep_sep _ _ _)))
  rw [progress_none]
  iintro ⟨H, Hd, Ht⟩
  ihave H := (Entails.of_eq h1) $$ H
  icases H with ⟨Hk, Hq, Hl⟩
  isplitl [Hk]; · iexact Hk
  isplitl [Hl]; · unfold lentTails; iexact Hl
  iapply (Entails.of_eq h2)
  isplitl [Hq]; · iexact Hq
  isplitl [Hd]; · iexact Hd
  iexact Ht

end Cert.KernelIdeal.Moe

end
-- ==== Proof.Pieces.lean ====
/-
  The pieces of the kernel's body that start the copies, meet the other devices at the barrier, compute the chunks and read
  the own chunks, at any device.
-/
module

public import proofs.«01_k».proof.Proof.Starts

@[expose] public section

noncomputable section

namespace Cert.KernelIdeal.Moe

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (In : Inputs F) (K : GSem nD τ sig → ℕ)

/-- The tokens, as the kernel's staged array holds them. -/
abbrev tokens (c : Dev nD) : sProp 𝕄 := (((c : Thread nD τ).loc cc0_stg0_0) ↦{fullShare} In.x c)
/-- The slots the device serves, as the kernel's staged array holds them. -/
abbrev served (c : Dev nD) : sProp 𝕄 := (((c : Thread nD τ).loc cc0_stg1_0) ↦{fullShare} In.lslot c)

/-- The semaphore a weight copy names. -/
theorem w_sem (h : Fin 2) (j : ℕ) (hj : j = h.val) (inb) :
    ((cc0_scratch2.slice (Rect.unit (s := S2) ![j] S1.size inb)).squeeze S_ squeezes_S1_S_).sem = wS h := by
  subst hj
  revert h
  decide

/-- The start of the copy of half `h` of the weights, as the body writes it. -/
theorem weight_start {α : Type} {Q : α → sProp 𝕄} {k : PUnit → Prog (TpuEff nD τ sig (Elt F) Λ₀ .tc) α}
    (c : Dev nD) (h : Fin 2) (f : Vec F S8x512x1024 .f32) {inb}
    {hsrc : (wSrc h).view.WordExact} {hdst : (wDst h).view.WordExact}
    {hsem : DmaTarget.Typed (nD := nD) (τ := τ) (p := .tc) .hbm (.dma ((cc0_scratch2.slice (Rect.unit (s := S2) ![h.val] S1.size inb)).squeeze S_ squeezes_S1_S_).sem) (.here (wDst h))} :
    recs In K ⊢ iprop((given c (halfSet h) (In.w c) ∗ kept c (halfSet h) f ∗ wTok c h)
      -∗ (cred (tallyAt (wCell c h) () NW) -∗ runs c (k ⟨⟩) Q)
      -∗ runs c (.op (.enqueueDma (wSrc h) (.here (wDst h)) (.dma ((cc0_scratch2.slice (Rect.unit (s := S2) ![h.val] S1.size inb)).squeeze S_ squeezes_S1_S_).sem) hsrc hdst hsem) k) Q) := by
  unfold wTok
  exact BI.wand_intro (weight_step In K c h rfl rfl (congrArg SemLoc.dma (w_sem h _ rfl inb)) f)

/-- The store of zeros in the whole communication buffer. -/
theorem zero_store {α : Type} {Q : α → sProp 𝕄} {k : PUnit → Prog (TpuEff nD τ sig (Elt F) Λ₀ .tc) α} (c : Dev nD) (f w : Vec F S2048x1024 .bf16)
    {inb hx hm} :
    comm c Finset.univ fullShare f
      ⊢ iprop((comm c Finset.univ fullShare w -∗ runs c (k ⟨⟩) Q)
        -∗ runs c (.op (.store commM (Rect.unit (s := S2048x1024) ![0, 0] S2048x1024.size inb) w Finset.univ hx hm) k) Q) := by
  have h := wp_store (Q := Q) 𝒱₀ (defs := defs₀ (F := F)) (Lvl := ℕ) (Name := ℕ) (U := UU) (Γ := .empty) (c : Thread nD τ) none Set.univ (m := commM)
    (r := Rect.unit (s := S2048x1024) ![0, 0] S2048x1024.size inb) (hx := hx) (hm := hm) (k := k) (w := w) (S := Finset.univ) (f := f) (Finset.subset_univ _)
  have e : (commM.access (Rect.unit (s := S2048x1024) ![0, 0] S2048x1024.size inb)).write (Elt F) f w Finset.univ = w :=
    Memref.write_access_unit_zero_univ (Elt F) cc0_scratch0 zeros2 inb f w
  rw [e] at h
  exact h

/-- Part 1: the copies of the weights start, the buffer is zeroed, and the next device hears of it. -/
theorem part1 (c : Dev nD) (f : Vec F S8x512x1024 .f32) (f' : Vec F S2048x1024 .bf16) {Q} :
    iprop(recs In K ∗ given c Finset.univ (In.w c) ∗ kept c Finset.univ f ∗ comm c Finset.univ fullShare f' ∗ wTok c 0 ∗ wTok c 1
        ∗ recvReached c ∗ barTok c 0 ∗ ∃ W, owes (c : Thread nD τ) (owesAll c) W)
      ⊢ iprop((((cred (tallyAt (wCell c 0) () NW) ∗ cred (tallyAt (wCell c 1) () NW))
            ∗ (comm c (chunkSet c 0) fullShare (k0_pay1 (F := F)) ∗ comm c (chunkSet c 1) fullShare (k0_pay1 (F := F)) ∗ tails c)
            ∗ (barPay (nxt c 1) 1 ∗ barPay (nxt c 2) 2)
            ∗ ∃ W, owes (c : Thread nD τ) (owesT c + tallyAt (barCell (nxt c 2)) () 1 + tallyAt (barCell (nxt c 1)) () 1) W) -∗ Q ⟨c, word2 c, word3 c, barA⟩)
        -∗ runs c (atBufs (k0_part1 (F := F))) Q) := by
  unfold atBufs
  rw [k0_part1_eq_skeleton]
  unfold k0_part1_skel
  simp only [semSignalWord, semWaitWord, Prog.lift, Prog.bind_op, Prog.bind_ret, Prog.pure_eq_ret, Prog.bind_assoc, wp_deviceId]
  have hg := given_halves c (In.w c)
  have hk := kept_halves c f
  iintro ⟨#HI, Hg, Hf, Hc, Hw0, Hw1, Hr, Hb, HO⟩ Hk
  ihave Hg := (Entails.of_eq hg) $$ Hg
  ihave Hf := (Entails.of_eq hk) $$ Hf
  icases Hg with ⟨Hg0, Hg1⟩
  icases Hf with ⟨Hf0, Hf1⟩
  iapply (weight_start In K c 0 f) $$ HI [Hg0 Hf0 Hw0]
  · isplitl [Hg0]; · iexact Hg0
    isplitl [Hf0]; · iexact Hf0
    iexact Hw0
  iintro Hc0
  iapply (weight_start In K c 1 f) $$ HI [Hg1 Hf1 Hw1]
  · isplitl [Hg1]; · iexact Hg1
    isplitl [Hf1]; · iexact Hf1
    iexact Hw1
  iintro Hc1
  iapply (whole_step c (m := commM) rfl) $$ Hc; iintro Hc
  iapply (zero_store c f' k0_pay1) $$ Hc; iintro Hc
  ihave Hz := (zeroed c) $$ [Hc Hr]
  · isplitl [Hc]; · iexact Hc
    iexact Hr
  icases Hz with ⟨H0, H1, ⟨Hp0, Hp1, Hp2⟩, Ht⟩
  unfold owesAll barTok
  icases Hb with ⟨Hbt, Hbr⟩
  iapply (raise_step In K c _ 0 (Fin.ext (k0_dev1_eq c)) _) $$ [HO Hbt Hbr Hp0]
  · isplitr; · iexact HI
    isplitl [HO]; · iexact HO
    isplitl [Hbt]; · iexact Hbt
    isplitl [Hbr]; · iexact Hbr
    iexact Hp0
  iintro HO
  iapply (runs_ret c)
  iapply Hk
  isplitl [Hc0 Hc1]; · isplitl [Hc0] <;> iassumption
  isplitl [H0 H1 Ht]
  · isplitl [H0]; · iexact H0
    isplitl [H1]; · iexact H1
    iexact Ht
  isplitl [Hp1 Hp2]; · isplitl [Hp1] <;> iassumption
  iexact HO

/-- Part 2: the other devices hear of the zeroed buffer, the device meets them, and the first half of the weights is there. -/
theorem part2 (c : Dev nD) {Q} :
    iprop(recs In K ∗ levAts L lv ∗ barTok c 1 ∗ barTok c 2 ∗ barPay (nxt c 1) 1 ∗ barPay (nxt c 2) 2
        ∗ (∃ W, owes (c : Thread nD τ) (owesT c + tallyAt (barCell (nxt c 2)) () 1 + tallyAt (barCell (nxt c 1)) () 1) W)
        ∗ (cred (tallyAt (barCell c) () 3) ∗ atPos ER (barCell c) 0 ∅ 0) ∗ tokens In c ∗ served In c
        ∗ cred (tallyAt (wCell c 0) () NW) ∗ atPos ER (wCell c 0) 0 ∅ 0)
      ⊢ iprop((((∃ W, owes (c : Thread nD τ) (owesT c) W) ∗ atPos ER (barCell c) 1 ∅ 0
            ∗ ((bigSep Finset.univ fun q : Fin 12 => dstPay c 0 q) ∗ bigSep Finset.univ fun q : Fin 12 => dstPay c 1 q)
            ∗ tokens In c ∗ served In c ∗ atPos ER (wCell c 0) 1 ∅ 0 ∗ kept c (halfSet 0) (In.w c) ∗ given c (halfSet 0) (In.w c))
          -∗ Q ⟨k0_pay2 (In.x c), cols, k0_pay3 (In.x c) (In.lslot c), k0_pay4 (In.x c) (In.lslot c) (wRow (In.w c) 0), k0_pay5 (In.x c) (In.lslot c)⟩)
        -∗ runs c (atBufs (k0_part2 (F := F)) c (word2 c) barA) Q) := by
  unfold atBufs
  rw [k0_part2_eq_skeleton]
  unfold k0_part2_skel
  simp only [semSignalWord, semWaitWord, Prog.lift, Prog.bind_op, Prog.bind_ret, Prog.pure_eq_ret, Prog.bind_assoc, wp_deviceId]
  have hd : (bigSep Finset.univ fun C : Fin 2 => bigSep Finset.univ fun q : Fin 12 => dstPay (F := F) c C q)
      = iprop((bigSep Finset.univ fun q : Fin 12 => dstPay c 0 q) ∗ bigSep Finset.univ fun q : Fin 12 => dstPay c 1 q) := bigSep_fin_two _
  unfold barTok
  iintro ⟨#HI, #Hl, ⟨Ht1, Hr1⟩, ⟨Ht2, Hr2⟩, Hp1, Hp2, HO, ⟨Hbc, Hba⟩, Hx, Hs, Hwc, Hwa⟩ Hk
  iapply (raise_step In K c _ 1 (Fin.ext (k0_dev2_eq c)) _) $$ [HO Ht1 Hr1 Hp1]
  · isplitr; · iexact HI
    isplitl [HO]; · iexact HO
    isplitl [Ht1]; · iexact Ht1
    isplitl [Hr1]; · iexact Hr1
    iexact Hp1
  iintro HO
  iapply (raise_step In K c _ 2 (Fin.ext (k0_dev3_eq c)) _) $$ [HO Ht2 Hr2 Hp2]
  · isplitr; · iexact HI
    isplitl [HO]; · iexact HO
    isplitl [Ht2]; · iexact Ht2
    isplitl [Hr2]; · iexact Hr2
    iexact Hp2
  iintro HO
  iapply (barrier_step In K c) $$ [HO Hbc Hba]
  · isplitr; · iexact HI
    isplitr; · iexact Hl
    isplitl [Hbc]; · iexact Hbc
    isplitl [HO]; · iexact HO
    iexact Hba
  iintro ⟨HO, Hba, Hd⟩
  ihave Hd := (Entails.of_eq hd) $$ Hd
  iapply (whole_step c (m := (Memref.whole cc0_stg0_0 : Memref sig .tc .vmem S2048x512 .f32)) (Memref.readAt_unit_zero (Elt F) cc0_stg0_0 zeros2 _ (In.x c))) $$ Hx; iintro Hx
  iapply (whole_step c (m := (Memref.whole cc0_stg1_0 : Memref sig .tc .vmem S2048x1 .i32)) (Memref.readAt_unit_zero (Elt F) cc0_stg1_0 zeros2 _ (In.lslot c))) $$ Hs; iintro Hs
  iapply (weight_wait In K c 0 rfl (w_sem 0 0 rfl _) (owesT c) (mayWait_weight c 0 _ (owesT_recv c))) $$ [HO Hwc Hwa]
  · isplitr; · iexact HI
    isplitr; · iexact Hl
    isplitl [Hwc]; · iexact Hwc
    isplitl [HO]; · iexact HO
    iexact Hwa
  iintro ⟨HO, Hwa, Hf, Hg⟩
  iapply (row_step c 0 0 rfl rfl (In.w c)) $$ Hf; iintro Hf
  iapply (runs_ret c)
  iapply Hk
  isplitl [HO]; · iexact HO
  isplitl [Hba]; · iexact Hba
  isplitl [Hd]; · iexact Hd
  isplitl [Hx]; · iexact Hx
  isplitl [Hs]; · iexact Hs
  isplitl [Hwa]; · iexact Hwa
  isplitl [Hf]; · iexact Hf
  iexact Hg

/-- What a stored chunk leaves: the share kept, and the tails' shares. -/
def stored (c : Dev nD) (C : Fin 2) : sProp 𝕄 := iprop(comm c (chunkSet c C) shKeep (fin In c) ∗ lentTails In c C)

/-- Part 3: the first chunk is stored, and its first transfer sent. -/
theorem part3 (c : Dev nD) (v2 v3 : BitVec 32) {Q} :
    iprop(recs In K ∗ kept c (halfSet 0) (In.w c) ∗ comm c (chunkSet c 0) fullShare (k0_pay1 (F := F))
        ∗ (bigSep Finset.univ fun q : Fin 12 => dstPay c 0 q) ∗ (bigSep Finset.univ fun q : Fin 12 => sendTok c 0 q)
        ∗ ∃ W, owes (c : Thread nD τ) (owesT c) W)
      ⊢ iprop((∀ r, (kept c (halfSet 0) (In.w c) ∗ stored In c 0 ∗ sending In c 0 (owesC c 1 0) 1) -∗ Q r)
        -∗ runs c (atBufs (k0_part3 (F := F)) c v2 v3 (k0_pay3 (In.x c) (In.lslot c)) (k0_pay4 (In.x c) (In.lslot c) (wRow (In.w c) 0)) (k0_pay5 (In.x c) (In.lslot c))) Q) := by
  unfold atBufs
  rw [k0_part3_eq_skeleton]
  unfold k0_part3_skel
  simp only [semSignalWord, semWaitWord, Prog.lift, Prog.bind_op, Prog.bind_ret, Prog.pure_eq_ret, Prog.bind_assoc, wp_deviceId]
  iintro ⟨#HI, Hf, Hc, Hd, Ht, HO⟩ Hk
  iapply (row_step c 1 0 rfl rfl (In.w c)) $$ Hf; iintro Hf
  iapply (row_step c 2 0 rfl rfl (In.w c)) $$ Hf; iintro Hf
  iapply (row_step c 3 0 rfl rfl (In.w c)) $$ Hf; iintro Hf
  iapply (own_step c 0 fullShare (k0_pay1 (F := F))) $$ Hc; iintro Hc
  iapply (store_step In c 0 (k0_pay1 (F := F)) rfl) $$ Hc; iintro Hc
  ihave Hl := (lend In c 0) $$ [Hc Hd Ht]
  · isplitl [Hc]; · iexact Hc
    isplitl [Hd]; · iexact Hd
    iexact Ht
  icases Hl with ⟨Hkeep, Htl, Hp⟩
  iapply (send In K c 0 0 1 0 0 (owesC c 1 0) (dev := ⟨_, k0_dev4_lt c⟩) (k0_dev4_eq c) (by decide)) $$ HI [Hp HO]
  · unfold sending owesT
    isplitl [Hp]; · iexact Hp
    iexact HO
  iintro H
  iapply (runs_ret c)
  iapply Hk
  isplitl [Hf]; · iexact Hf
  isplitl [Hkeep Htl]
  · unfold stored
    isplitl [Hkeep] <;> iassumption
  iexact H

/-- Part 8: the last transfer of the first chunk is sent, and the second half of the weights is there. -/
theorem part8 (c : Dev nD) (v1 v2 : BitVec 32) {Q} :
    iprop(recs In K ∗ levAts L lv ∗ sending In c 0 (owesC c 1 0) 11 ∗ served In c ∗ cred (tallyAt (wCell c 1) () NW) ∗ atPos ER (wCell c 1) 0 ∅ 0)
      ⊢ iprop(((sending In c 0 (owesC c 1 0) 12 ∗ served In c ∗ atPos ER (wCell c 1) 1 ∅ 0 ∗ kept c (halfSet 1) (In.w c) ∗ given c (halfSet 1) (In.w c))
          -∗ Q ⟨k0_pay7 (k0_pay2 (In.x c)) cols (In.lslot c), k0_pay8 (k0_pay2 (In.x c)) cols (In.lslot c) (wRow (In.w c) 4),
            k0_pay9 (k0_pay2 (In.x c)) cols (In.lslot c) (wRow (In.w c) 5), k0_pay10 (k0_pay2 (In.x c)) cols (In.lslot c)⟩)
        -∗ runs c (atBufs (k0_part8 (F := F)) c (k0_pay2 (In.x c)) cols v1 v2) Q) := by
  unfold atBufs
  rw [k0_part8_eq_skeleton]
  unfold k0_part8_skel
  simp only [semSignalWord, semWaitWord, Prog.lift, Prog.bind_op, Prog.bind_ret, Prog.pure_eq_ret, Prog.bind_assoc, wp_deviceId]
  iintro ⟨#HI, #Hl, H, Hs, Hwc, Hwa⟩ Hk
  iapply (send In K c 0 11 3 3 19 (owesC c 1 0) (dev := ⟨_, k0_dev15_lt c⟩) (k0_dev15_eq c) (by decide)) $$ HI H; iintro H
  iapply (whole_step c (m := (Memref.whole cc0_stg1_0 : Memref sig .tc .vmem S2048x1 .i32)) (Memref.readAt_unit_zero (Elt F) cc0_stg1_0 zeros2 _ (In.lslot c))) $$ Hs; iintro Hs
  unfold sending
  icases H with ⟨Hp, HO⟩
  iapply (weight_wait In K c 1 rfl (w_sem 1 1 rfl _) (owesC c 1 0 + owesC c 0 12) (mayWait_weight c 1 _ (owes_second_recv c))) $$ [HO Hwc Hwa]
  · isplitr; · iexact HI
    isplitr; · iexact Hl
    isplitl [Hwc]; · iexact Hwc
    isplitl [HO]; · iexact HO
    iexact Hwa
  iintro ⟨HO, Hwa, Hf, Hg⟩
  iapply (row_step c 4 1 rfl rfl (In.w c)) $$ Hf; iintro Hf
  iapply (row_step c 5 1 rfl rfl (In.w c)) $$ Hf; iintro Hf
  iapply (runs_ret c)
  iapply Hk
  isplitl [Hp HO]; · isplitl [Hp] <;> iassumption
  isplitl [Hs]; · iexact Hs
  isplitl [Hwa]; · iexact Hwa
  isplitl [Hf]; · iexact Hf
  iexact Hg

/-- All sends of a chunk are out. -/
def allSent (c : Dev nD) (C : Fin 2) : sProp 𝕄 := bigSep Finset.univ fun q : Fin 12 => (sent c C q : sProp 𝕄)

/-- Part 9: the second chunk is stored, and its first transfer sent. -/
theorem part9 (c : Dev nD) (v2 v3 : BitVec 32) {Q} :
    iprop(recs In K ∗ kept c (halfSet 1) (In.w c) ∗ comm c (chunkSet c 1) fullShare (k0_pay1 (F := F))
        ∗ (bigSep Finset.univ fun q : Fin 12 => dstPay c 1 q) ∗ (bigSep Finset.univ fun q : Fin 12 => sendTok c 1 q)
        ∗ sending In c 0 (owesC c 1 0) 12)
      ⊢ iprop((∀ r, (kept c (halfSet 1) (In.w c) ∗ stored In c 1 ∗ allSent c 0 ∗ sending In c 1 0 1) -∗ Q r)
        -∗ runs c (atBufs (k0_part9 (F := F)) c v2 v3 (k0_pay7 (k0_pay2 (In.x c)) cols (In.lslot c)) (k0_pay8 (k0_pay2 (In.x c)) cols (In.lslot c) (wRow (In.w c) 4))
            (k0_pay9 (k0_pay2 (In.x c)) cols (In.lslot c) (wRow (In.w c) 5)) (k0_pay10 (k0_pay2 (In.x c)) cols (In.lslot c))) Q) := by
  unfold atBufs
  rw [k0_part9_eq_skeleton]
  unfold k0_part9_skel
  simp only [semSignalWord, semWaitWord, Prog.lift, Prog.bind_op, Prog.bind_ret, Prog.pure_eq_ret, Prog.bind_assoc, wp_deviceId]
  have hO : owesC c 1 0 + owesC c 0 12 = 0 + owesC c 1 0 := by rw [owesC_end, add_zero, zero_add]
  iintro ⟨#HI, Hf, Hc, Hd, Ht, H⟩ Hk
  iapply (row_step c 6 1 rfl rfl (In.w c)) $$ Hf; iintro Hf
  iapply (row_step c 7 1 rfl rfl (In.w c)) $$ Hf; iintro Hf
  iapply (own_step c 1 fullShare (k0_pay1 (F := F))) $$ Hc; iintro Hc
  iapply (store_step In c 1 (k0_pay1 (F := F)) rfl) $$ Hc; iintro Hc
  ihave Hl := (lend In c 1) $$ [Hc Hd Ht]
  · isplitl [Hc]; · iexact Hc
    isplitl [Hd]; · iexact Hd
    iexact Ht
  icases Hl with ⟨Hkeep, Htl, Hp⟩
  unfold sending
  rw [hO, progress_all]
  icases H with ⟨Ha, HO⟩
  iapply (send In K c 1 0 1 0 4 0 (dev := ⟨_, k0_dev16_lt c⟩) (k0_dev16_eq c) (by decide)) $$ HI [Hp HO]
  · unfold sending
    isplitl [Hp]; · iexact Hp
    iexact HO
  iintro H
  iapply (runs_ret c)
  iapply Hk
  isplitl [Hf]; · iexact Hf
  isplitl [Hkeep Htl]
  · unfold stored
    isplitl [Hkeep] <;> iassumption
  isplitl [Ha]; · unfold allSent; iexact Ha
  unfold sending
  iexact H

/-- The positions and the receipts' credits the waits of a chunk use. -/
def toWait (c : Dev nD) (C : Fin 2) : sProp 𝕄 :=
  iprop((bigSep Finset.univ fun q : Fin 12 => atPos ER (sendCell c C q) 0 ∅ 0) ∗ bigSep Finset.univ fun q : Fin 12 => recvOut (F := F) c C q)

/-- What is sent and the places to wait at, transfer by transfer. -/
theorem outs_intro (c : Dev nD) (C : Fin 2) : iprop(allSent c C ∗ toWait c C) ⊢ (outs c C : sProp 𝕄) := by
  have h : iprop((bigSep Finset.univ fun q : Fin 12 => (sent c C q : sProp 𝕄)) ∗ (bigSep Finset.univ fun q : Fin 12 => atPos ER (sendCell c C q) 0 ∅ 0))
      = (bigSep Finset.univ (sendOut c C) : sProp 𝕄) := (bigSep_sep _ _ _).symm
  unfold allSent toWait outs
  iintro ⟨Hs, Ha, Hr⟩
  isplitr [Hr]
  · iapply (Entails.of_eq h)
    isplitl [Hs] <;> iassumption
  iexact Hr

/-- Part 14: the last transfer is sent, the own chunks are read, and the waits begin. -/
theorem part14 (c : Dev nD) (v : BitVec 32) {Q} :
    iprop(recs In K ∗ sending In c 1 0 11 ∗ slots In c ∗ stored In c 0 ∗ stored In c 1 ∗ outs c 0)
      ⊢ iprop(((waiting In c 0 1 0 ∗ allSent c 1 ∗ slots In c ∗ stored In c 0 ∗ stored In c 1)
          -∗ Q (k0_pay12 (word3 c) cols (In.slot c) (ownRows3 (fin In c) c) (In.slot c) (ownRows (fin In c) c 1)))
        -∗ runs c (atBufs (k0_part14 (F := F)) c (word3 c) cols v) Q) := by
  unfold atBufs
  rw [k0_part14_eq_skeleton]
  unfold k0_part14_skel
  simp only [semSignalWord, semWaitWord, Prog.lift, Prog.bind_op, Prog.bind_ret, Prog.pure_eq_ret, Prog.bind_assoc, wp_deviceId]
  have hO : (0 : CellTallies nD τ sig Unit) + owesC c 1 12 = 0 := by rw [owesC_end, add_zero]
  unfold stored
  iintro ⟨#HI, H, Hs, ⟨H0, Ht0⟩, ⟨H1, Ht1⟩, Ho⟩ Hk
  iapply (send In K c 1 11 3 3 23 0 (dev := ⟨_, k0_dev27_lt c⟩) (k0_dev27_eq c) (by decide)) $$ HI H; iintro H
  unfold sending
  rw [hO, progress_all]
  icases H with ⟨Ha, HO⟩
  iapply (slots_step In c) $$ Hs; iintro Hs
  iapply (own3_step c shKeep (fin In c)) $$ H0; iintro H0
  iapply (slots_step In c) $$ Hs; iintro Hs
  iapply (own_step c 1 shKeep (fin In c)) $$ H1; iintro H1
  ihave H := (waiting_open In c 0) $$ [Ho HO]
  · isplitl [Ho] <;> iassumption
  iapply (sent_wait In K c 0 0 0 0 0 (by decide)) $$ HI H; iintro H
  iapply (runs_ret c)
  iapply Hk
  isplitl [H]; · iexact H
  isplitl [Ha]; · unfold allSent; iexact Ha
  isplitl [Hs]; · iexact Hs
  isplitl [H0 Ht0]; · isplitl [H0] <;> iassumption
  isplitl [H1] <;> iassumption

end Cert.KernelIdeal.Moe

end
-- ==== Proof.Finish.lean ====
/-
  What a device's kernel leaves: its result, and its buffers put together again.
-/
module

public import proofs.«01_k».proof.Proof.Pieces

@[expose] public section

noncomputable section

namespace Cert.KernelIdeal.Moe

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (In : Inputs F) (K : GSem nD τ sig → ℕ)

/-- The products of the own chunks. -/
def acc0 (c : Dev nD) : FVec F S2048x1024 .f32 :=
  k0_pay12 (word3 c) cols (In.slot c) (ownRows3 (fin In c) c) (In.slot c) (ownRows (fin In c) c 1)
/-- The products of the first chunks as well, from the nearest device on. -/
def acc1 (c : Dev nD) : FVec F S2048x1024 .f32 := k0_pay13 (word2 c) cols (acc0 In c) (In.slot c) (awayRows (fin In c) c 0 0)
/-- Then the first chunk of the device two places before. -/
def acc2 (c : Dev nD) : FVec F S2048x1024 .f32 := k0_pay14 (word2 c) cols (acc1 In c) (In.slot c) (awayRows (fin In c) c 1 0)
/-- Then that of the device three places before. -/
def acc3 (c : Dev nD) : FVec F S2048x1024 .f32 := k0_pay15 (word2 c) cols (acc2 In c) (In.slot c) (awayRows (fin In c) c 2 0)
/-- The products of the second chunks as well. -/
def acc4 (c : Dev nD) : FVec F S2048x1024 .f32 := k0_pay16 (word2 c) cols (acc3 In c) (In.slot c) (awayRows (fin In c) c 0 1)
/-- Then the second chunk of the device two places before. -/
def acc5 (c : Dev nD) : FVec F S2048x1024 .f32 := k0_pay17 (word2 c) cols (acc4 In c) (In.slot c) (awayRows (fin In c) c 1 1)
/-- What device `c`'s kernel stores. -/
def result (c : Dev nD) : FVec F S2048x1024 .bf16 := k0_pay18 (word2 c) cols (acc5 In c) (In.slot c) (awayRows (fin In c) c 2 1)

/-- The staged result. -/
abbrev staged (c : Dev nD) (f : Vec F S2048x1024 .bf16) : sProp 𝕄 := (((c : Thread nD τ).loc cc0_stg3_0) ↦{fullShare} f)

/-- The store of the result. -/
theorem out_store {α : Type} {Q : α → sProp 𝕄} {k : PUnit → Prog (TpuEff nD τ sig (Elt F) Λ₀ .tc) α} (c : Dev nD) (f w : Vec F S2048x1024 .bf16)
    {inb hx hm} :
    staged c f
      ⊢ iprop((staged c w -∗ runs c (k ⟨⟩) Q)
        -∗ runs c (.op (.store (Memref.whole cc0_stg3_0 : Memref sig .tc .vmem S2048x1024 .bf16) (Rect.unit (s := S2048x1024) ![0, 0] S2048x1024.size inb) w Finset.univ hx hm) k) Q) := by
  have h := wp_store (Q := Q) 𝒱₀ (defs := defs₀ (F := F)) (Lvl := ℕ) (Name := ℕ) (U := UU) (Γ := .empty) (c : Thread nD τ) none Set.univ
    (m := (Memref.whole cc0_stg3_0 : Memref sig .tc .vmem S2048x1024 .bf16))
    (r := Rect.unit (s := S2048x1024) ![0, 0] S2048x1024.size inb) (hx := hx) (hm := hm) (k := k) (w := w) (S := Finset.univ) (f := f) (Finset.subset_univ _)
  have e : ((Memref.whole cc0_stg3_0 : Memref sig .tc .vmem S2048x1024 .bf16).access (Rect.unit (s := S2048x1024) ![0, 0] S2048x1024.size inb)).write (Elt F) f w Finset.univ = w :=
    Memref.write_access_unit_zero_univ (Elt F) cc0_stg3_0 zeros2 inb f w
  rw [e] at h
  exact h

/-- Something for each of three, one by one. -/
theorem bigSep_three (Φ : Fin 3 → sProp 𝕄) : bigSep Finset.univ Φ = iprop(Φ 0 ∗ Φ 1 ∗ Φ 2) := by
  rw [show (Finset.univ : Finset (Fin 3)) = {0, 1, 2} by decide, bigSep_insert (by decide), bigSep_insert (by decide), bigSep_singleton]
  rfl

/-- Something for each of two, one by one. -/
theorem bigSep_two (Φ : Fin 2 → sProp 𝕄) : bigSep Finset.univ Φ = iprop(Φ 0 ∗ Φ 1) := bigSep_fin_two _

/-- The six tails. -/
theorem tails_six (c : Dev nD) : (tails c : sProp 𝕄)
    = iprop((tail c 0 0 ∗ tail c 1 0 ∗ tail c 2 0) ∗ (tail c 0 1 ∗ tail c 1 1 ∗ tail (F := F) c 2 1)) := by
  unfold tails
  rw [bigSep_two, bigSep_three, bigSep_three]

/-- The positions of a chunk's cells once all is waited for. -/
def waited (c : Dev nD) (C : Fin 2) : sProp 𝕄 :=
  iprop((bigSep Finset.univ fun q : Fin 12 => atPos ER (sendCell c C q) 1 ∅ 0) ∗ bigSep Finset.univ fun q : Fin 12 => atPos ER (recvCell c C q) 1 ∅ 0)

/-- An own chunk, its transfers over, is whole again. -/
theorem rejoin_own (c : Dev nD) (C : Fin 2) : iprop(stored In c C ∗ arrived In c C)
    ⊢ iprop(comm c (chunkSet c C) fullShare (fin In c)
      ∗ (bigSep Finset.univ fun q : Fin 12 => comm c (slotSet (prv c (kOf q)) C (iOf q)) fullShare (fin In c)) ∗ waited c C) := by
  have h1 : (bigSep Finset.univ (sendIn In c C) : sProp 𝕄) = iprop((bigSep Finset.univ fun q : Fin 12 => comm c (slotSet c C (iOf q)) (sh (kOf q)) (fin In c))
      ∗ bigSep Finset.univ fun q : Fin 12 => atPos ER (sendCell c C q) 1 ∅ 0) := bigSep_sep _ _ _
  have h2 : (bigSep Finset.univ (recvIn In c C) : sProp 𝕄) = iprop((bigSep Finset.univ fun q : Fin 12 => comm c (slotSet (prv c (kOf q)) C (iOf q)) fullShare (fin In c))
      ∗ bigSep Finset.univ fun q : Fin 12 => atPos ER (recvCell c C q) 1 ∅ 0) := bigSep_sep _ _ _
  have h3 := comm_own c C (fin In c)
  unfold stored arrived waited
  iintro ⟨⟨Hk, Ht⟩, Hs, Hr⟩
  ihave Hs := (Entails.of_eq h1) $$ Hs
  ihave Hr := (Entails.of_eq h2) $$ Hr
  icases Hs with ⟨Hs, Has⟩
  icases Hr with ⟨Hr, Har⟩
  isplitl [Hk Ht Hs]
  · iapply (Entails.of_eq h3.symm)
    isplitl [Hk]; · iexact Hk
    isplitl [Hs]; · iexact Hs
    unfold lentTails
    iexact Ht
  isplitl [Hr]; · iexact Hr
  isplitl [Has] <;> iassumption

/-- The buffer, all transfers over, is whole again. -/
theorem rejoin (c : Dev nD) : iprop((stored In c 0 ∗ arrived In c 0) ∗ (stored In c 1 ∗ arrived In c 1) ∗ tails c)
    ⊢ iprop(comm c Finset.univ fullShare (fin In c) ∗ waited c 0 ∗ waited c 1) := by
  have h1 := comm_whole c (fin In c)
  have h2 : (tails c : sProp 𝕄) = bigSep Finset.univ fun C : Fin 2 => bigSep Finset.univ fun k : Fin 3 => comm c (tailSet (prv c k) C) fullShare (fin In c) := by
    unfold tails
    exact bigSep_congr fun C _ => bigSep_congr fun k _ => pointsTo_congr (fin_tail In c k C)
  have h3 := bigSep_two (F := F) fun C : Fin 2 => comm c (chunkSet c C) fullShare (fin In c)
  have h4 := bigSep_two (F := F) fun C : Fin 2 => bigSep Finset.univ fun q : Fin 12 => comm c (slotSet (prv c (kOf q)) C (iOf q)) fullShare (fin In c)
  iintro ⟨H0, H1, Ht⟩
  ihave H0 := (rejoin_own In c 0) $$ H0
  ihave H1 := (rejoin_own In c 1) $$ H1
  ihave Ht := (Entails.of_eq h2) $$ Ht
  icases H0 with ⟨Ho0, Hi0, Hw0⟩
  icases H1 with ⟨Ho1, Hi1, Hw1⟩
  isplitr [Hw0 Hw1]
  · iapply (Entails.of_eq h1.symm)
    isplitl [Ho0 Ho1]
    · iapply (Entails.of_eq h3.symm)
      isplitl [Ho0] <;> iassumption
    isplitl [Hi0 Hi1]
    · iapply (Entails.of_eq h4.symm)
      isplitl [Hi0] <;> iassumption
    iexact Ht
  isplitl [Hw0] <;> iassumption

end Cert.KernelIdeal.Moe

end
-- ==== Proof.Body.lean ====
/-
  The whole of the kernel's body, at any device: from its buffers as staged to its result and its buffers whole again.
-/
module

public import proofs.«01_k».proof.Proof.Finish

@[expose] public section

noncomputable section

namespace Cert.KernelIdeal.Moe

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (In : Inputs F) (K : GSem nD τ sig → ℕ)

/-- A program in two parts. -/
theorem runs_bind {α β : Type} {Q : β → sProp 𝕄} (c : Dev nD) (p : Prog (TpuEff nD τ sig (Elt F) Λ₀ .tc) α)
    (f : α → Prog (TpuEff nD τ sig (Elt F) Λ₀ .tc) β) : runs c p (fun r => runs c (f r) Q) ⊢ runs c (p >>= f) Q := by
  unfold runs
  rw [wp_bind_eq]
  exact BI.Entails.refl _

/-- A program that ends, after an update of what is held. -/
theorem runs_end {α : Type} {Q : α → sProp 𝕄} (c : Dev nD) (a : α) :
    iprop(|={Set.univ}=> Q a) ⊢ runs c (.ret a : Prog (TpuEff nD τ sig (Elt F) Λ₀ .tc) α) Q := by
  unfold runs
  rw [wp_ret]

/-- What a device's kernel starts from besides its buffers: its positions, and the rights to raise. -/
def opened (c : Dev nD) : sProp 𝕄 :=
  iprop((cred (tallyAt (barCell c) () 3) ∗ atPos ER (barCell c) 0 ∅ 0)
    ∗ (barTok c 0 ∗ barTok c 1 ∗ barTok c 2)
    ∗ ((wTok c 0 ∗ atPos ER (wCell c 0) 0 ∅ 0) ∗ (wTok c 1 ∗ atPos ER (wCell c 1) 0 ∅ 0))
    ∗ ((bigSep Finset.univ fun q : Fin 12 => sendTok c 0 q) ∗ bigSep Finset.univ fun q : Fin 12 => sendTok c 1 q)
    ∗ recvReached c ∗ (toWait c 0 ∗ toWait c 1))

/-- What it ends with besides its buffers: its positions, and nothing owed. -/
def closed (c : Dev nD) : sProp 𝕄 :=
  iprop(atPos ER (barCell c) 1 ∅ 0 ∗ (atPos ER (wCell c 0) 1 ∅ 0 ∗ atPos ER (wCell c 1) 1 ∅ 0) ∗ (waited c 0 ∗ waited c 1)
    ∗ ∃ W, owes (c : Thread nD τ) 0 W)

/-- The computation of the result. -/
theorem part26 (c : Dev nD) (f : Vec F S8x512x1024 .f32) (f' : Vec F S2048x1024 .bf16) {Q} :
    iprop(recs In K ∗ levAts L lv ∗ opened c ∗ (∃ W, owes (c : Thread nD τ) (owesAll c) W)
        ∗ (tokens In c ∗ served In c ∗ slots In c) ∗ given c Finset.univ (In.w c) ∗ kept c Finset.univ f
        ∗ comm c Finset.univ fullShare f')
      ⊢ iprop(((closed c ∗ (tokens In c ∗ served In c ∗ slots In c) ∗ given c Finset.univ (In.w c) ∗ kept c Finset.univ (In.w c)
            ∗ comm c Finset.univ fullShare (fin In c)) -∗ Q (result In c))
        -∗ runs c (atBufs (k0_part26 (F := F))) Q) := by
  unfold atBufs
  rw [k0_part26_eq_skeleton]
  unfold k0_part26_skel opened result acc5 acc4 acc3 acc2 acc1 acc0
  iintro ⟨#HI, #Hl, ⟨Hbar, ⟨Hb0, Hb1, Hb2⟩, ⟨⟨Hw0, Hwa0⟩, ⟨Hw1, Hwa1⟩⟩, ⟨Hs0, Hs1⟩, Hrr, ⟨Hto0, Hto1⟩⟩, HO, ⟨Hx, Hsv, Hsl⟩, Hg, Hf, Hc⟩ Hk
  iapply (runs_bind c)
  iapply (part1 In K c f f') $$ [Hg Hf Hc Hw0 Hw1 Hrr Hb0 HO]
  · isplitr; · iexact HI
    isplitl [Hg]; · iexact Hg
    isplitl [Hf]; · iexact Hf
    isplitl [Hc]; · iexact Hc
    isplitl [Hw0]; · iexact Hw0
    isplitl [Hw1]; · iexact Hw1
    isplitl [Hrr]; · iexact Hrr
    isplitl [Hb0]; · iexact Hb0
    iexact HO
  iintro ⟨⟨Hwc0, Hwc1⟩, ⟨Hc0, Hc1, Htl⟩, ⟨Hp1, Hp2⟩, HO⟩
  dsimp only
  iapply (runs_bind c)
  iapply (part2 In K c) $$ [Hb1 Hb2 Hp1 Hp2 HO Hbar Hx Hsv Hwc0 Hwa0]
  · isplitr; · iexact HI
    isplitr; · iexact Hl
    isplitl [Hb1]; · iexact Hb1
    isplitl [Hb2]; · iexact Hb2
    isplitl [Hp1]; · iexact Hp1
    isplitl [Hp2]; · iexact Hp2
    isplitl [HO]; · iexact HO
    isplitl [Hbar]; · iexact Hbar
    isplitl [Hx]; · iexact Hx
    isplitl [Hsv]; · iexact Hsv
    isplitl [Hwc0]; · iexact Hwc0
    iexact Hwa0
  iintro ⟨HO, Hba, ⟨Hd0, Hd1⟩, Hx, Hsv, Hwa0, Hf0, Hg0⟩
  dsimp only
  iapply (runs_bind c)
  iapply (part3 In K c) $$ [Hf0 Hc0 Hd0 Hs0 HO]
  · isplitr; · iexact HI
    isplitl [Hf0]; · iexact Hf0
    isplitl [Hc0]; · iexact Hc0
    isplitl [Hd0]; · iexact Hd0
    isplitl [Hs0]; · iexact Hs0
    iexact HO
  iintro %r ⟨Hf0, Hst0, H⟩
  obtain ⟨v81, z⟩ := r
  dsimp only
  iapply (runs_bind c)
  iapply (part4 In K c _ _ _ (owesC c 1 0)) $$ [H]
  · isplitr; · iexact HI
    iexact H
  iintro %r H
  obtain ⟨v93, v105, v117⟩ := r
  dsimp only
  iapply (runs_bind c)
  iapply (part5 In K c _ _ (owesC c 1 0)) $$ [H]
  · isplitr; · iexact HI
    iexact H
  iintro %r H
  obtain ⟨v129, v141, v152⟩ := r
  dsimp only
  iapply (runs_bind c)
  iapply (part6 In K c _ _ _ (owesC c 1 0)) $$ [H]
  · isplitr; · iexact HI
    iexact H
  iintro %r H
  obtain ⟨v153, v165, v177⟩ := r
  dsimp only
  iapply (runs_bind c)
  iapply (part7 In K c _ _ (owesC c 1 0)) $$ [H]
  · isplitr; · iexact HI
    iexact H
  iintro %r H
  obtain ⟨v189, v201, v213, z7⟩ := r
  dsimp only
  iapply (runs_bind c)
  iapply (part8 In K c) $$ [H Hsv Hwc1 Hwa1]
  · isplitr; · iexact HI
    isplitr; · iexact Hl
    isplitl [H]; · iexact H
    isplitl [Hsv]; · iexact Hsv
    isplitl [Hwc1]; · iexact Hwc1
    iexact Hwa1
  iintro ⟨H, Hsv, Hwa1, Hf1, Hg1⟩
  dsimp only
  iapply (runs_bind c)
  iapply (part9 In K c) $$ [Hf1 Hc1 Hd1 Hs1 H]
  · isplitr; · iexact HI
    isplitl [Hf1]; · iexact Hf1
    isplitl [Hc1]; · iexact Hc1
    isplitl [Hd1]; · iexact Hd1
    isplitl [Hs1]; · iexact Hs1
    iexact H
  iintro %r ⟨Hf1, Hst1, Has0, H⟩
  obtain ⟨v270, v282⟩ := r
  dsimp only
  iapply (runs_bind c)
  iapply (part10 In K c _ _ _ 0) $$ [H]
  · isplitr; · iexact HI
    iexact H
  iintro %r H
  obtain ⟨v294, v306⟩ := r
  dsimp only
  iapply (runs_bind c)
  iapply (part11 In K c _ _ 0) $$ [H]
  · isplitr; · iexact HI
    iexact H
  iintro %r H
  obtain ⟨v318, v330, v342⟩ := r
  dsimp only
  iapply (runs_bind c)
  iapply (part12 In K c _ _ 0) $$ [H]
  · isplitr; · iexact HI
    iexact H
  iintro %r H
  obtain ⟨v354, v366, z12⟩ := r
  dsimp only
  iapply (runs_bind c)
  iapply (part13 In K c _ _ _ 0) $$ [H]
  · isplitr; · iexact HI
    iexact H
  iintro %r H
  obtain ⟨v378, v390, v402⟩ := r
  ihave Ho0 := (outs_intro c 0) $$ [Has0 Hto0]
  · isplitl [Has0] <;> iassumption
  iapply (runs_bind c)
  iapply (part14 In K c) $$ [H Hsl Hst0 Hst1 Ho0]
  · isplitr; · iexact HI
    isplitl [H]; · iexact H
    isplitl [Hsl]; · iexact Hsl
    isplitl [Hst0]; · iexact Hst0
    isplitl [Hst1]; · iexact Hst1
    iexact Ho0
  iintro ⟨H, Has1, Hsl, Hst0, Hst1⟩
  ihave Ho1 := (outs_intro c 1) $$ [Has1 Hto1]
  · isplitl [Has1] <;> iassumption
  ihave Htl := (Entails.of_eq (tails_six c)) $$ Htl
  icases Htl with ⟨⟨Ht00, Ht10, Ht20⟩, ⟨Ht01, Ht11, Ht21⟩⟩
  iapply (runs_bind c)
  iapply (part15 In K c) $$ [H]
  · isplitr; · iexact HI
    iexact H
  iintro %r15 H
  iapply (runs_bind c)
  iapply (part16 In K c) $$ [H Hsl Ht00]
  · isplitr; · iexact HI
    isplitl [H]; · iexact H
    isplitl [Hsl]; · iexact Hsl
    iexact Ht00
  iintro ⟨H, Hsl, Ht00⟩
  iapply (runs_bind c)
  iapply (part17 In K c) $$ [H]
  · isplitr; · iexact HI
    iexact H
  iintro %z17 H
  iapply (runs_bind c)
  iapply (part18 In K c) $$ [H Hsl Ht10]
  · isplitr; · iexact HI
    isplitl [H]; · iexact H
    isplitl [Hsl]; · iexact Hsl
    iexact Ht10
  iintro ⟨H, Hsl, Ht10⟩
  iapply (runs_bind c)
  iapply (part19 In K c) $$ [H]
  · isplitr; · iexact HI
    iexact H
  iintro %v587 H
  iapply (runs_bind c)
  iapply (part20 In K c) $$ [H Hsl Ht20 Ho1]
  · isplitr; · iexact HI
    isplitl [H]; · iexact H
    isplitl [Hsl]; · iexact Hsl
    isplitl [Ht20]; · iexact Ht20
    iexact Ho1
  iintro ⟨Har0, H, Hsl, Ht20⟩
  iapply (runs_bind c)
  iapply (part21 In K c) $$ [H]
  · isplitr; · iexact HI
    iexact H
  iintro %r H
  obtain ⟨v645, z21⟩ := r
  iapply (runs_bind c)
  iapply (part22 In K c) $$ [H Hsl Ht01]
  · isplitr; · iexact HI
    isplitl [H]; · iexact H
    isplitl [Hsl]; · iexact Hsl
    iexact Ht01
  iintro ⟨H, Hsl, Ht01⟩
  iapply (runs_bind c)
  iapply (part23 In K c) $$ [H]
  · isplitr; · iexact HI
    iexact H
  iintro %r23 H
  iapply (runs_bind c)
  iapply (part24 In K c) $$ [H Hsl Ht11]
  · isplitr; · iexact HI
    isplitl [H]; · iexact H
    isplitl [Hsl]; · iexact Hsl
    iexact Ht11
  iintro ⟨H, Hsl, Ht11⟩
  iapply (runs_bind c)
  iapply (part25 In K c) $$ [H]
  · isplitr; · iexact HI
    iexact H
  iintro %r25 H
  simp only [Prog.lift, Prog.bind_op, Prog.bind_ret, Prog.pure_eq_ret]
  iapply (received_wait In K c 1 11 12 3 23 (by decide)) $$ HI H; iintro H
  iapply (slots_step In c) $$ Hsl; iintro Hsl
  iapply (away_load In c 2 1 12 12 (by decide)) $$ H Ht21; iintro ⟨H, Ht21⟩
  ihave H := (waiting_close In c 1) $$ H
  icases H with ⟨Har1, HO⟩
  ihave Htl := (Entails.of_eq (tails_six c).symm) $$ [Ht00 Ht10 Ht20 Ht01 Ht11 Ht21]
  · isplitl [Ht00 Ht10 Ht20]
    · isplitl [Ht00]; · iexact Ht00
      isplitl [Ht10]; · iexact Ht10
      iexact Ht20
    isplitl [Ht01]; · iexact Ht01
    isplitl [Ht11]; · iexact Ht11
    iexact Ht21
  ihave Hr := (rejoin In c) $$ [Hst0 Hst1 Har0 Har1 Htl]
  · isplitl [Hst0 Har0]
    · isplitl [Hst0] <;> iassumption
    isplitl [Hst1 Har1]
    · isplitl [Hst1] <;> iassumption
    iexact Htl
  icases Hr with ⟨Hc, Hwt0, Hwt1⟩
  ihave Hg := (Entails.of_eq (given_halves c (In.w c)).symm) $$ [Hg0 Hg1]
  · isplitl [Hg0] <;> iassumption
  ihave Hf := (Entails.of_eq (kept_halves c (In.w c)).symm) $$ [Hf0 Hf1]
  · isplitl [Hf0] <;> iassumption
  iapply (runs_ret c)
  iapply Hk
  isplitl [Hba Hwa0 Hwa1 Hwt0 Hwt1 HO]
  · unfold closed
    isplitl [Hba]; · iexact Hba
    isplitl [Hwa0 Hwa1]
    · isplitl [Hwa0] <;> iassumption
    isplitl [Hwt0 Hwt1]
    · isplitl [Hwt0] <;> iassumption
    iexact HO
  isplitl [Hx Hsv Hsl]
  · isplitl [Hx]; · iexact Hx
    isplitl [Hsv]; · iexact Hsv
    iexact Hsl
  isplitl [Hg]; · iexact Hg
  isplitl [Hf]; · iexact Hf
  iexact Hc

/-- The whole body. -/
theorem run_body (c : Dev nD) (f : Vec F S8x512x1024 .f32) (f' g : Vec F S2048x1024 .bf16) {Q} :
    iprop(recs In K ∗ levAts L lv ∗ opened c ∗ (∃ W, owes (c : Thread nD τ) (owesAll c) W)
        ∗ (tokens In c ∗ served In c ∗ slots In c) ∗ given c Finset.univ (In.w c) ∗ kept c Finset.univ f
        ∗ comm c Finset.univ fullShare f' ∗ staged c g)
      ⊢ iprop(((closed c ∗ (tokens In c ∗ served In c ∗ slots In c) ∗ given c Finset.univ (In.w c) ∗ kept c Finset.univ (In.w c)
            ∗ comm c Finset.univ fullShare (fin In c) ∗ staged c (result In c)) -∗ |={Set.univ}=> Q ⟨⟩)
        -∗ runs c (atBufs (cc0_body (F := F))) Q) := by
  unfold atBufs
  rw [cc0_body_eq_skeleton]
  unfold cc0_body_skel
  iintro ⟨#HI, #Hl, Ho, HO, Hst, Hg, Hf, Hc, Hout⟩ Hk
  iapply (runs_bind c)
  iapply (part26 In K c f f') $$ [Ho HO Hst Hg Hf Hc]
  · isplitr; · iexact HI
    isplitr; · iexact Hl
    isplitl [Ho]; · iexact Ho
    isplitl [HO]; · iexact HO
    isplitl [Hst]; · iexact Hst
    isplitl [Hg]; · iexact Hg
    isplitl [Hf]; · iexact Hf
    iexact Hc
  iintro ⟨Hcl, Hst, Hg, Hf, Hc⟩
  simp only [Prog.lift, Prog.bind_op, Prog.bind_ret, Prog.pure_eq_ret]
  iapply (whole_step c (m := (Memref.whole cc0_stg3_0 : Memref sig .tc .vmem S2048x1024 .bf16)) rfl) $$ Hout; iintro Hout
  iapply (out_store c g (result In c)) $$ Hout; iintro Hout
  iapply (runs_end c)
  iapply Hk
  isplitl [Hcl]; · iexact Hcl
  isplitl [Hst]; · iexact Hst
  isplitl [Hg]; · iexact Hg
  isplitl [Hf]; · iexact Hf
  isplitl [Hc]; · iexact Hc
  iexact Hout

end Cert.KernelIdeal.Moe

end
-- ==== Proof.Cells.lean ====
/-
  The cells of the kernel's own semaphores, sorted by what the semaphores serve for, opened when the kernel starts and closed
  when it ends.
-/
module

public import proofs.«01_k».proof.Proof.Body

@[expose] public section

noncomputable section

namespace Cert.KernelIdeal.Moe

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (In : Inputs F) (K : GSem nD τ sig → ℕ)

/-- Where the semaphores of the weights, of the sends and of the receives stand among the kernel's own. -/
def place : Fin 2 ⊕ ((Fin 2 × Fin 12) ⊕ (Fin 2 × Fin 12)) → Fin 50
  | .inl h => wIdx h
  | .inr (.inl x) => sendIdx x.1 x.2
  | .inr (.inr x) => recvIdx x.1 x.2

/-- The numbering meets every semaphore once. -/
theorem place_bijective : Function.Bijective place := by decide

/-- Something for every semaphore of the kernel's own: for the weights', for the sends' and for the receives'. -/
theorem own_cells (Φ : SemLoc sig → sProp 𝕄) : (bigSep Finset.univ fun j : Fin 50 => Φ (osem j))
    = iprop((bigSep Finset.univ fun h : Fin 2 => Φ (.dma (wS h)))
      ∗ (bigSep Finset.univ fun C : Fin 2 => bigSep Finset.univ fun q : Fin 12 => Φ (.dma (sendS C q)))
      ∗ (bigSep Finset.univ fun C : Fin 2 => bigSep Finset.univ fun q : Fin 12 => Φ (.dma (recvS C q)))) := by
  refine (bigSep_univ_equiv (Equiv.ofBijective place place_bijective) _).trans ((bigSep_univ_sum _).trans (congrArg₂ BI.sep ?_ ((bigSep_univ_sum _).trans (congrArg₂ BI.sep ?_ ?_))))
  · exact bigSep_congr fun h _ => congrArg Φ (osem_w h)
  · exact (bigSep_univ_prod _).trans (bigSep_congr fun C _ => bigSep_congr fun q _ => congrArg Φ (osem_send C q))
  · exact (bigSep_univ_prod _).trans (bigSep_congr fun C _ => bigSep_congr fun q _ => congrArg Φ (osem_recv C q))

/-- What may be consulted by each of many is consulted by all. -/
theorem bigSep_consult {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

/-- The kernel's own cells are opened with their counters at zero. -/
theorem enter (c : Dev nD) :
    iprop(recs In K ∗ (bigSep Finset.univ fun j : Fin 50 => openTok ER ((c : Thread nD τ), osem j))
        ∗ (bigSep Finset.univ fun j : Fin 50 => semVal ((c : Thread nD τ), osem j) 0))
      ⊢ |={Set.univ}=> iprop((bigSep Finset.univ fun j : Fin 50 => atPos ER ((c : Thread nD τ), osem j) 0 ∅ 0)
        ∗ (bigSep Finset.univ fun j : Fin 50 => reached ER ((c : Thread nD τ), osem j) 0)) := by
  rw [← bigSep_sep', ← bigSep_sep']
  refine BI.Entails.trans (bigSep_consult fun j _ => ?_) (bigSep_fupd _ _)
  iintro ⟨#HI, Ho, Hv⟩
  iapply (Rounds.cell_open ER (moeRd In) (Set.mem_univ (K ((c : Thread nD τ), osem j)))) $$ [Ho Hv]
  isplitr; · iapply (inv_at In K (own_mem c j)); iexact HI
  isplitl [Ho] <;> iassumption

/-- Their round over, they are closed, and the counters are at zero. -/
theorem leave (c : Dev nD) :
    iprop(recs In K ∗ (bigSep Finset.univ fun j : Fin 50 => atPos ER ((c : Thread nD τ), osem j) 1 ∅ 0))
      ⊢ |={Set.univ}=> iprop(bigSep Finset.univ fun j : Fin 50 => semVal ((c : Thread nD τ), osem j) 0) := by
  refine BI.Entails.trans (bigSep_consult fun j _ => ?_) (bigSep_fupd _ _)
  iintro ⟨#HI, Ha⟩
  iapply (Rounds.cell_close ER (moeRd In) (Set.mem_univ (K ((c : Thread nD τ), osem j))) (fun h => h) (duties_later In _)) $$ [Ha]
  isplitr; · iapply (inv_at In K (own_mem c j)); iexact HI
  iexact Ha

/-- The barrier's cell is closed likewise. -/
theorem leave_bar (c : Dev nD) : iprop(recs In K ∗ atPos ER (barCell c) 1 ∅ 0) ⊢ |={Set.univ}=> (semVal (barCell c) 0 : sProp 𝕄) := by
  iintro ⟨#HI, Ha⟩
  iapply (Rounds.cell_close ER (moeRd In) (Set.mem_univ (K (barCell c))) (fun h => h) (duties_later In _)) $$ [Ha]
  isplitr; · iapply (inv_at In K (bar_mem c)); iexact HI
  iexact Ha

/-- What a device holds from the launch to the kernel's start: its barrier's position, the rights to open its cells, the rights to
    raise, and the credits of what the others owe it. -/
def dealt (c : Dev nD) : sProp 𝕄 :=
  iprop(atPos ER (barCell c) 0 ∅ 0 ∗ (bigSep Finset.univ fun j : Fin 50 => openTok ER ((c : Thread nD τ), osem j))
    ∗ (bigSep Finset.univ fun j : Fin 3 => barTok c j)
    ∗ (bigSep Finset.univ fun h : Fin 2 => dutyTok ER (wCell c h) 0 0)
    ∗ (bigSep Finset.univ fun C : Fin 2 => bigSep Finset.univ fun q : Fin 12 => dutyTok ER (sendCell c C q) 0 0)
    ∗ (bigSep Finset.univ fun C : Fin 2 => bigSep Finset.univ fun q : Fin 12 => dutyTok ER (recvCell (nxt c (kOf q)) C q) 0 0)
    ∗ cred (tallyAt (barCell c) () 3)
    ∗ (bigSep Finset.univ fun C : Fin 2 => bigSep Finset.univ fun q : Fin 12 => cred (tallyAt (recvCell c C q) () NS)))

/-- The kernel starts: its cells are opened. -/
theorem start (c : Dev nD) : iprop(recs In K ∗ dealt c ∗ (bigSep Finset.univ fun j : Fin 50 => semVal ((c : Thread nD τ), osem j) 0))
    ⊢ |={Set.univ}=> (opened c : sProp 𝕄) := by
  have hw (Φ : Fin 2 → sProp 𝕄) : bigSep Finset.univ Φ = iprop(Φ 0 ∗ Φ 1) := bigSep_fin_two _
  have hb : (bigSep Finset.univ fun j : Fin 3 => (barTok c j : sProp 𝕄)) = iprop(barTok c 0 ∗ barTok c 1 ∗ barTok c 2) := bigSep_three _
  unfold dealt
  iintro ⟨#HI, ⟨Hab, Ho, Hb, Htw, Hts, Htr, Hcb, Hcr⟩, Hv⟩
  imod (enter In K c) $$ [Ho Hv] with ⟨Ha, #Hr⟩
  · isplitr; · iexact HI
    isplitl [Ho] <;> iassumption
  imodintro
  ihave Ha := (Entails.of_eq (own_cells fun sm => atPos ER ((c : Thread nD τ), sm) 0 ∅ 0)) $$ Ha
  icases Ha with ⟨Haw, Has, Har⟩
  ihave Hr' := (Entails.of_eq (own_cells fun sm => reached ER ((c : Thread nD τ), sm) 0)) $$ Hr
  icases Hr' with ⟨#Hrw, #Hrs, #Hrr⟩
  ihave Hb := (Entails.of_eq hb) $$ Hb
  ihave Htw := (Entails.of_eq (hw _)) $$ Htw
  ihave Haw := (Entails.of_eq (hw _)) $$ Haw
  ihave Hrw := (Entails.of_eq (hw _)) $$ Hrw
  icases Htw with ⟨Htw0, Htw1⟩
  icases Haw with ⟨Haw0, Haw1⟩
  icases Hrw with ⟨Hrw0, Hrw1⟩
  have hs (C : Fin 2) : iprop((bigSep Finset.univ fun q : Fin 12 => dutyTok ER (sendCell c C q) 0 0) ∗ (bigSep Finset.univ fun q : Fin 12 => reached ER (sendCell c C q) 0)
      ∗ (bigSep Finset.univ fun q : Fin 12 => dutyTok ER (recvCell (nxt c (kOf q)) C q) 0 0)) = (bigSep Finset.univ fun q : Fin 12 => (sendTok c C q : sProp 𝕄)) :=
    Eq.symm ((bigSep_sep _ _ _).trans (congrArg (BI.sep _) (bigSep_sep _ _ _)))
  have hq (C : Fin 2) : iprop((bigSep Finset.univ fun q : Fin 12 => cred (tallyAt (recvCell c C q) () NS)) ∗ (bigSep Finset.univ fun q : Fin 12 => atPos ER (recvCell c C q) 0 ∅ 0))
      = (bigSep Finset.univ fun q : Fin 12 => (recvOut c C q : sProp 𝕄)) :=
    Eq.symm (bigSep_sep _ _ _)
  ihave Hts := (Entails.of_eq (hw _)) $$ Hts
  ihave Htr := (Entails.of_eq (hw _)) $$ Htr
  ihave Has := (Entails.of_eq (hw _)) $$ Has
  ihave Har := (Entails.of_eq (hw _)) $$ Har
  ihave Hcr := (Entails.of_eq (hw _)) $$ Hcr
  ihave Hrs := (Entails.of_eq (hw _)) $$ Hrs
  icases Hts with ⟨Hts0, Hts1⟩
  icases Htr with ⟨Htr0, Htr1⟩
  icases Has with ⟨Has0, Has1⟩
  icases Har with ⟨Har0, Har1⟩
  icases Hcr with ⟨Hcr0, Hcr1⟩
  icases Hrs with ⟨Hrs0, Hrs1⟩
  unfold opened
  isplitl [Hab Hcb]
  · isplitl [Hcb] <;> iassumption
  isplitl [Hb]; · iexact Hb
  isplitl [Htw0 Htw1 Haw0 Haw1 Hrw0 Hrw1]
  · unfold wTok
    isplitl [Htw0 Haw0 Hrw0]
    · isplitl [Htw0 Hrw0]
      · isplitl [Htw0] <;> iassumption
      iexact Haw0
    isplitl [Htw1 Hrw1]
    · isplitl [Htw1] <;> iassumption
    iexact Haw1
  isplitl [Hts0 Hts1 Htr0 Htr1 Hrs0 Hrs1]
  · isplitl [Hts0 Htr0 Hrs0]
    · iapply (Entails.of_eq (hs 0))
      isplitl [Hts0]; · iexact Hts0
      isplitl [Hrs0]; · iexact Hrs0
      iexact Htr0
    iapply (Entails.of_eq (hs 1))
    isplitl [Hts1]; · iexact Hts1
    isplitl [Hrs1]; · iexact Hrs1
    iexact Htr1
  isplitr
  · unfold recvReached; iexact Hrr
  unfold toWait
  isplitl [Has0 Har0 Hcr0]
  · isplitl [Has0]; · iexact Has0
    iapply (Entails.of_eq (hq 0))
    isplitl [Hcr0] <;> iassumption
  isplitl [Has1]; · iexact Has1
  iapply (Entails.of_eq (hq 1))
  isplitl [Hcr1] <;> iassumption

/-- The kernel ends: its cells are closed, and every counter is at zero. -/
theorem stop (c : Dev nD) : iprop(recs In K ∗ closed c)
    ⊢ |={Set.univ}=> iprop((bigSep Finset.univ fun j : Fin 50 => semVal ((c : Thread nD τ), osem j) 0) ∗ semVal (barCell c) 0
      ∗ ∃ W, owes (c : Thread nD τ) 0 W) := by
  have hw (Φ : Fin 2 → sProp 𝕄) : bigSep Finset.univ Φ = iprop(Φ 0 ∗ Φ 1) := bigSep_fin_two _
  unfold closed waited
  iintro ⟨#HI, Hb, ⟨Hw0, Hw1⟩, ⟨⟨Hs0, Hr0⟩, ⟨Hs1, Hr1⟩⟩, HO⟩
  imod (leave_bar In K c) $$ [Hb] with Hb
  · isplitr; · iexact HI
    iexact Hb
  imod (leave In K c) $$ [Hw0 Hw1 Hs0 Hs1 Hr0 Hr1] with Hv
  · isplitr; · iexact HI
    iapply (Entails.of_eq (own_cells fun sm => atPos ER ((c : Thread nD τ), sm) 1 ∅ 0).symm)
    isplitl [Hw0 Hw1]
    · iapply (Entails.of_eq (hw _).symm)
      isplitl [Hw0] <;> iassumption
    isplitl [Hs0 Hs1]
    · iapply (Entails.of_eq (hw _).symm)
      isplitl [Hs0] <;> iassumption
    iapply (Entails.of_eq (hw _).symm)
    isplitl [Hr0] <;> iassumption
  imodintro
  isplitl [Hv]; · iexact Hv
  isplitl [Hb]; · iexact Hb
  iexact HO

end Cert.KernelIdeal.Moe

end
-- ==== Proof.Region.lean ====
/-
  The kernel's run on a device as one step of the program: what it is entered from and what it leaves.
-/
module

public import proofs.«01_k».proof.Proof.Cells
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit

@[expose] public section

noncomputable section

namespace Cert.KernelIdeal.Moe

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (V : Dev nD → Valuation τ sig (Elt F))

/-- What the kernel is given on each device when the arrays are as `V` says. -/
def ins : Inputs F where
  x c := V c (Proc.devRef .tc main_arg0)
  lslot c := V c (Proc.devRef .tc main_v40)
  slot c := V c (Proc.devRef .tc main_v41)
  w c := V c (Proc.devRef .tc main_arg3)

/-- The arrays after the kernel: its result in its array, all else as it was. -/
def leaves (c : Dev nD) : Valuation τ sig (Elt F) := Function.update (V c) (Proc.devRef .tc main_v42) (result (ins V) c)

/-- The call leaves its result in the result's array, -/
theorem leaves_result (c : Dev nD) : leaves V c (Proc.devRef .tc main_v42) = result (ins V) c := by
  unfold leaves
  rw [Function.update_self]

/-- and every other array as it was. -/
theorem leaves_of (c : Dev nD) (b : DevRef τ sig) (h : b ≠ Proc.devRef .tc main_v42) : leaves V c b = V c b := by
  unfold leaves
  rw [Function.update_of_ne h]

/-- The array the kernel reads where it lies: the weights. -/
def there : Finset (DevRef τ sig) := {Proc.devRef .tc main_arg3}
/-- The arrays the kernel does not stage. -/
def others : Finset (DevRef τ sig) := Pipeline.ucRefs τ sig \ Pipeline.arrRefs (τ := τ) spec0

/-- The array that stays where it is holds the weights. -/
theorem there_held (c : Dev nD) (W : Valuation τ sig (Elt F)) :
    (StableHlo.held (c.tc : Thread nD τ) there W : sProp 𝕄) = given c Finset.univ (W (Proc.devRef .tc main_arg3)) := by
  unfold StableHlo.held there
  rw [bigSep_singleton]

/-- What a device's kernel is entered with besides its arrays. -/
def atEntry (c : Dev nD) : sProp 𝕄 := iprop(∃ K, recs (ins V) K ∗ levAts L lv ∗ opened c)
/-- What the program keeps for it from the launch on. -/
def kept₀ (c : Dev nD) : sProp 𝕄 := iprop(∃ K, recs (ins V) K ∗ dealt c)

/-- What a device is dealt opens the protocol's cells. -/
theorem enters (c : Dev nD) : iprop(kept₀ V c ∗ Pipeline.ownSems0 osem c ∗ levAts L lv) ⊢ |={Set.univ}=> atEntry V c := by
  unfold kept₀ atEntry Pipeline.ownSems0
  iintro ⟨⟨%K, #HI, Hd⟩, Hv, #Hl⟩
  imod (start (ins V) K c) $$ [Hd Hv] with Ho
  · isplitr; · iexact HI
    isplitl [Hd] <;> iassumption
  imodintro
  iexists K
  isplitr; · iexact HI
  isplitr; · iexact Hl
  iexact Ho

/-- The kernel's invariant before its only step, -/
def before (c : Dev nD) : sProp 𝕄 :=
  iprop(Pipeline.scopedRest spec0 c ∗ (∃ r, prngReg c r) ∗ StableHlo.held (c.tc : Thread nD τ) there (V c) ∗ atEntry V c)
/-- and after it. -/
def after (c : Dev nD) : sProp 𝕄 :=
  iprop(Pipeline.scopedRest spec0 c ∗ (∃ r, prngReg c r) ∗ StableHlo.held (c.tc : Thread nD τ) there (leaves V c)
    ∗ Pipeline.ownSems0 osem c ∗ semVal (barCell c) 0)

/-- The data of the kernel's run: the arrays it is given, its result, its invariants, what it owes. -/
def dats (_ : Fin 1) (c : Dev nD) : Dat τ (Elt F) Unit ℕ UU ℕ cfg0 c where
  A w := match w with
    | ⟨0, _⟩ => V c (Proc.devRef .tc main_arg0)
    | ⟨1, _⟩ => V c (Proc.devRef .tc main_v40)
    | ⟨2, _⟩ => V c (Proc.devRef .tc main_v41)
    | ⟨3, _⟩ => V c (Proc.devRef .tc main_v42)
  after w _ := match w with
    | ⟨0, _⟩ => (ins V).x c
    | ⟨1, _⟩ => (ins V).lslot c
    | ⟨2, _⟩ => (ins V).slot c
    | ⟨3, _⟩ => result (ins V) c
  Φ t := match t with
    | ⟨0, _⟩ => before V c
    | ⟨_ + 1, _⟩ => after V c
  q _ := fullShare
  owed t := match t with
    | ⟨0, _⟩ => owesAll c
    | ⟨_ + 1, _⟩ => 0

/-- Something for each of the four staged arrays, one by one. -/
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

/-- A whole buffer owned at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Owning a whole buffer through its view is owning the buffer. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- The staged inputs are the arrays: the tokens, -/
theorem fetched_x (c : Dev nD) (d) : (dats V 0 c).before (0 : Fin 4) t0_0 d = (ins V).x c := by
  unfold Dat.before
  rw [if_pos (fetch0_0 t0_0)]
  show (win0_0.blk t0_0).view.read (Elt F) (V c (Proc.devRef .tc main_arg0)) = _
  funext i
  rw [View.read_apply]
  refine congrArg (V c (Proc.devRef .tc main_arg0)) (funext fun a => Fin.ext ?_)
  exact Pipeline.Window.rect_emb_val_of_index_zero win0_0 t0_0 a (by revert a; decide) i

/-- the slots the device serves, -/
theorem fetched_lslot (c : Dev nD) (d) : (dats V 0 c).before (1 : Fin 4) t0_0 d = (ins V).lslot c := by
  unfold Dat.before
  rw [if_pos (fetch0_1 t0_0)]
  show (win0_1.blk t0_0).view.read (Elt F) (V c (Proc.devRef .tc main_v40)) = _
  funext i
  rw [View.read_apply]
  refine congrArg (V c (Proc.devRef .tc main_v40)) (funext fun a => Fin.ext ?_)
  exact Pipeline.Window.rect_emb_val_of_index_zero win0_1 t0_0 a (by revert a; decide) i

/-- and all slots. -/
theorem fetched_slot (c : Dev nD) (d) : (dats V 0 c).before (2 : Fin 4) t0_0 d = (ins V).slot c := by
  unfold Dat.before
  rw [if_pos (fetch0_2 t0_0)]
  show (win0_2.blk t0_0).view.read (Elt F) (V c (Proc.devRef .tc main_v41)) = _
  funext i
  rw [View.read_apply]
  refine congrArg (V c (Proc.devRef .tc main_v41)) (funext fun a => Fin.ext ?_)
  exact Pipeline.Window.rect_emb_val_of_index_zero win0_2 t0_0 a (by revert a; decide) i

/-- What the step is entered with, -/
def bodyPre (c : Dev nD) : sProp 𝕄 :=
  iprop(before V c ∗ (dats V 0 c).owesAt () t0_0.castSucc
    ∗ (∃ d, stg c cc0_stg0_0 ((dats V 0 c).before (0 : Fin 4) t0_0 d))
    ∗ (∃ d, stg c cc0_stg1_0 ((dats V 0 c).before (1 : Fin 4) t0_0 d))
    ∗ (∃ d, stg c cc0_stg2_0 ((dats V 0 c).before (2 : Fin 4) t0_0 d))
    ∗ (∃ d, stg c cc0_stg3_0 ((dats V 0 c).before (3 : Fin 4) t0_0 d)))
/-- and what it leaves. -/
def bodyPost (c : Dev nD) : sProp 𝕄 :=
  iprop(after V c ∗ (dats V 0 c).owesAt () t0_0.succ
    ∗ stg c cc0_stg0_0 ((ins V).x c) ∗ stg c cc0_stg1_0 ((ins V).lslot c) ∗ stg c cc0_stg2_0 ((ins V).slot c)
    ∗ stg c cc0_stg3_0 (result (ins V) c))

/-- The kernel's body runs from what the staging hands it to what the staging takes back. -/
theorem body_runs (c : Dev nD) : bodyPre V c ⊢ runs c (atBufs (cc0_body (F := F))) (fun _ => bodyPost V c) := by
  unfold bodyPre before atEntry
  rw [there_held, scopedRest0_eq]
  iintro ⟨⟨⟨⟨%f', Hc⟩, %f, Hf⟩, Hp, Hg, %K, #HI, #Hl, Ho⟩, HO, ⟨%d0, %g0, %h0, H0⟩, ⟨%d1, %g1, %h1, H1⟩, ⟨%d2, %g2, %h2, H2⟩, ⟨%d3, %g3, %h3, H3⟩⟩
  have e0 : g0 = (ins V).x c := h0.trans (fetched_x V c d0)
  have e1 : g1 = (ins V).lslot c := h1.trans (fetched_lslot V c d1)
  have e2 : g2 = (ins V).slot c := h2.trans (fetched_slot V c d2)
  subst e0 e1 e2
  unfold Dat.owesAt Pipeline.owesWithin
  icases HO with ⟨%W, -, HO⟩
  rw [show (dats V 0 c).owed t0_0.castSucc = owesAll c from rfl]
  iapply (run_body (ins V) K c f f' g3) $$ [Ho HO H0 H1 H2 H3 Hg Hf Hc]
  · isplitr; · iexact HI
    isplitr; · iexact Hl
    isplitl [Ho]; · iexact Ho
    isplitl [HO]; · iexists W; iexact HO
    isplitl [H0 H1 H2]
    · isplitl [H0]; · iexact H0
      isplitl [H1] <;> iassumption
    isplitl [Hg]; · iexact Hg
    isplitl [Hf]; · iexact Hf
    isplitl [Hc]; · iexact Hc
    iexact H3
  iintro ⟨Hcl, ⟨H0, H1, H2⟩, Hg, Hf, Hc, H3⟩
  imod (stop (ins V) K c) $$ [Hcl] with ⟨Hv, Hb, %W', HO⟩
  · isplitr; · iexact HI
    iexact Hcl
  imodintro
  unfold bodyPost after Pipeline.ownSems0 Dat.owesAt Pipeline.owesWithin
  rw [there_held, scopedRest0_eq, (leaves_of V c (Proc.devRef .tc main_arg3) (by decide)), show (dats V 0 c).owed t0_0.succ = 0 from rfl]
  isplitl [Hc Hf Hp Hg Hv Hb]
  · isplitl [Hc Hf]
    · isplitl [Hc]
      · iexists _; iexact Hc
      iexists _; iexact Hf
    isplitl [Hp]; · iexact Hp
    isplitl [Hg]; · iexact Hg
    isplitl [Hv] <;> iassumption
  isplitl [HO]
  · iexists W'; isplitr; · (ipureintro; exact fun _ _ => Or.inl trivial)
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

set_option maxRecDepth 100000 in
/-- The kernel's only step, as the run of its grid takes it. -/
theorem body_obligation (c : Dev nD) : BodyObligation (dats (F := F) V 0 c) (defs₀ (F := F)) 𝒱₀ () Set.univ := fun t => by
  rw [fin_N0 t]
  rw [bigSep_W, bigSep_W]
  simp only [owns_whole_eq]
  exact body_runs V c

/-- The staged arrays are held in full. -/
theorem share_eq (c : Dev nD) (w : Fin cfg0.W) : (dats V 0 c).share w = fullShare := by unfold Dat.share; split <;> rfl

/-- The facts the staging asks of the call. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Whatever is owed while the kernel runs is owed at a level above its staging's. -/
theorem owed_above (c : Dev nD) (t : Fin (cfg0.N + 1)) (g : GSem nD τ sig) (i : Unit) (h : 0 < (dats V 0 c).owed t g i) :
    i ∈ L g ∧ 0 < lv g i := by
  match t, h with
  | ⟨0, _⟩, h =>
    have h' : 0 < owesAll c g i := h
    rcases owesAll_pos h' with ⟨C, q, rfl⟩ | ⟨k, rfl⟩
    · exact ⟨by rw [L_tc]; exact Finset.mem_singleton_self _, by rw [lv_recv]; decide⟩
    · exact ⟨by rw [L_tc]; exact Finset.mem_singleton_self _, by rw [lv_bar]; decide⟩
  | ⟨_ + 1, _⟩, h => exact absurd h (Nat.lt_irrefl 0)

/-- A staging semaphore stands at level 0. -/
theorem staging_level (c : Dev nD) (w : Fin cfg0.W) (s : Fin (cfg0.win w).nbuf) : lv ((c : Thread nD τ), .dma ((cfg0.win w).sem s)) () = 0 := by
  show levelOf (role (.dma ((cfg0.win w).sem s))) = 0
  revert w s; decide

/-- The arrays the call starts from. -/
theorem arr_in (c : Dev nD) (w : Fin cfg0.W) : (dats V 0 c).arrAt w 0 = V c (Proc.devRef .tc (Pipeline.arrRef cfg0.spec w)) := by
  match w with
  | ⟨0, _⟩ => exact Dat.arrAt_in _ _ rfl 0
  | ⟨1, _⟩ => exact Dat.arrAt_in _ _ rfl 0
  | ⟨2, _⟩ => exact Dat.arrAt_in _ _ rfl 0
  | ⟨3, _⟩ => rfl

/-- The arrays the call ends with. -/
theorem arr_out (c : Dev nD) (w : Fin cfg0.W) : (dats V 0 c).arrAt w cfg0.N = leaves V c (Proc.devRef .tc (Pipeline.arrRef cfg0.spec w)) := by
  match w with
  | ⟨0, _⟩ => exact (Dat.arrAt_in _ _ rfl _).trans (leaves_of V c (Proc.devRef .tc main_arg0) (by decide)).symm
  | ⟨1, _⟩ => exact (Dat.arrAt_in _ _ rfl _).trans (leaves_of V c (Proc.devRef .tc main_v40) (by decide)).symm
  | ⟨2, _⟩ => exact (Dat.arrAt_in _ _ rfl _).trans (leaves_of V c (Proc.devRef .tc main_v41) (by decide)).symm
  | ⟨3, _⟩ =>
    refine Eq.trans ?_ (leaves_result V c).symm
    exact (dats V 0 c).arrAt_eq_of_after_last (3 : Fin 4) t0_0 (by decide +kernel) _ fun j => rfl

/-- The arrays the call does not name stay as they were. -/
theorem others_kept (c : Dev nD) (b : DevRef τ sig) (hb : b ∈ others \ there) : leaves V c b = V c b := by
  refine leaves_of V c b fun h => ?_
  subst h
  exact absurd (Finset.mem_sdiff.mp (Finset.mem_sdiff.mp hb).1).2 (by decide)

/-- The weights' array is not a staged one. -/
theorem there_others : there ⊆ others := by
  refine Finset.singleton_subset_iff.mpr (Finset.mem_sdiff.mpr ⟨Finset.mem_filter.mpr ⟨StableHlo.devRef_mem_tcRefs main_arg3, by decide⟩, by decide⟩)

set_option backward.isDefEq.respectTransparency.types false in
/-- The kernel as one step of the program. -/
def reg : Pipeline.RegionSeg (pcfgs (F := F)) adm (dats V) () defs₀ 𝒱₀ L lv 0 :=
  Pipeline.RegionSeg.ofTalk (pcfgs (F := F)) adm (dats V) () defs₀ 𝒱₀ L lv 0 osem (by decide : Pipeline.OwnSemFacts spec0 osem)
    there others there_others kitP rfl (fun c => (body_obligation V c).loose)
    (fun _ => 0) owesAll (fun c => (zero_add _).symm) (fun _ => rfl) (fun _ => rfl) (share_eq V)
    V (leaves V) (others_kept V)
    (kept₀ V) (fun c => semVal (barCell c) 0) (atEntry V) (fun c => semVal (barCell c) 0)
    (enters V) (fun c => BI.Entails.refl _) (fun c => BI.Entails.refl _)
    (fun c => by iintro H; imodintro; iexact H)
    (fun _ => 0)
    ⟨fun _ _ _ => Finset.mem_singleton_self _, fun c w s => le_of_eq (staging_level c w s), owed_above V⟩
    (fun _ => iprop(emp))
    (arr_in V) (arr_out V)

end Cert.KernelIdeal.Moe

end
-- ==== Proof.Tokens.lean ====
/-
  The launch's tokens and credits, dealt to the devices that use them.
-/
module

public import proofs.«01_k».proof.Proof.Region

@[expose] public section

noncomputable section

namespace Cert.KernelIdeal.Moe

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The tokens -/

/-- The barrier is no copy's semaphore. -/
theorem bar_ne_dma (s : Fin 54) : (SemLoc.reg barS : SemLoc sig) ≠ .dma s := fun h => by cases h

/-- A duty of a device's cells: one of three at its barrier's, or the only one at a cell of the kernel's own. -/
def tokEmb : Dev nD × (Fin 3 ⊕ Fin 50) ↪ GSem nD τ sig × ℕ × Fin 3 :=
  ⟨fun x => match x.2 with
    | .inl j => (barCell x.1, 0, j)
    | .inr j => (((x.1 : Thread nD τ), osem j), 0, 0), by
    rintro ⟨a, i⟩ ⟨b, j⟩ h
    match i, j, h with
    | .inl i, .inl j, h =>
      have h1 : a = b := congrArg (fun g : GSem nD τ sig × ℕ × Fin 3 => g.1.1.1) h
      have h2 : i = j := congrArg (fun g : GSem nD τ sig × ℕ × Fin 3 => g.2.2) h
      rw [h1, h2]
    | .inl i, .inr j, h => exact (bar_ne_dma _ (congrArg (fun g : GSem nD τ sig × ℕ × Fin 3 => g.1.2) h)).elim
    | .inr i, .inl j, h => exact (bar_ne_dma _ (congrArg (fun g : GSem nD τ sig × ℕ × Fin 3 => g.1.2) h).symm).elim
    | .inr i, .inr j, h =>
      have h1 : ownEmb (a, i) = ownEmb (b, j) := congrArg (fun g : GSem nD τ sig × ℕ × Fin 3 => g.1) h
      have h2 := ownEmb.injective h1
      have h3 : a = b := congrArg Prod.fst h2
      have h4 : i = j := congrArg Prod.snd h2
      rw [h3, h4]⟩
/-- All duties. -/
def toks : Finset (GSem nD τ sig × ℕ × Fin 3) := Finset.univ.map tokEmb

/-- Barrier cells are apart from the kernel's own. -/
theorem disjoint_cells : Disjoint barCells ownCells := by
  rw [Finset.disjoint_left]
  rintro g h₁ h₂
  obtain ⟨c, -, rfl⟩ := Finset.mem_map.mp h₁
  obtain ⟨x, -, h⟩ := Finset.mem_map.mp h₂
  exact bar_ne_dma _ (congrArg (fun g : GSem nD τ sig => g.2) h).symm

/-- Devices in a ring, `k + 1` places on. -/
def ring (k : Fin 3) : Dev nD ≃ Dev nD := ⟨fun c => nxt c k, fun c => prv c k, fun c => prv_nxt c k, fun c => nxt_prv c k⟩

/-- What every device has for each of several distances is had by those at these distances. -/
theorem around {J : Type} [Fintype J] (k : J → Fin 3) (Φ : Dev nD → J → sProp 𝕄) :
    (bigSep Finset.univ fun c => bigSep Finset.univ fun j => Φ c j) = bigSep Finset.univ fun c => bigSep Finset.univ fun j => Φ (nxt c (k j)) j := by
  rw [bigSep_univ_comm, bigSep_univ_comm fun c j => Φ (nxt c (k j)) j]
  exact bigSep_congr fun j _ => bigSep_univ_equiv (ring (k j)) fun c => Φ c j

/-- The tokens with the devices that raise: each barrier token `j + 1` places before its cell, a receive token with the sender. -/
theorem toks_dealt : bigSep toks (fun x => (dutyTok ER x.1 x.2.1 x.2.2 : sProp 𝕄))
    = bigSep Finset.univ fun c : Dev nD => iprop((bigSep Finset.univ fun j : Fin 3 => dutyTok ER (barCell (nxt c j)) 0 j)
      ∗ (bigSep Finset.univ fun h : Fin 2 => dutyTok ER (wCell c h) 0 0)
      ∗ (bigSep Finset.univ fun C : Fin 2 => bigSep Finset.univ fun q : Fin 12 => dutyTok ER (sendCell c C q) 0 0)
      ∗ (bigSep Finset.univ fun C : Fin 2 => bigSep Finset.univ fun q : Fin 12 => dutyTok ER (recvCell (nxt c (kOf q)) C q) 0 0)) := by
  have e (c : Dev nD) : (bigSep Finset.univ fun y : Fin 3 ⊕ Fin 50 => (dutyTok ER (tokEmb (c, y)).1 (tokEmb (c, y)).2.1 (tokEmb (c, y)).2.2 : sProp 𝕄))
      = iprop((bigSep Finset.univ fun j : Fin 3 => dutyTok ER (barCell c) 0 j)
      ∗ (bigSep Finset.univ fun h : Fin 2 => dutyTok ER (wCell c h) 0 0)
      ∗ (bigSep Finset.univ fun C : Fin 2 => bigSep Finset.univ fun q : Fin 12 => dutyTok ER (sendCell c C q) 0 0)
      ∗ (bigSep Finset.univ fun C : Fin 2 => bigSep Finset.univ fun q : Fin 12 => dutyTok ER (recvCell c C q) 0 0)) :=
    (bigSep_univ_sum _).trans (congrArg (BI.sep _) (own_cells fun sm => dutyTok ER ((c : Thread nD τ), sm) 0 0))
  unfold toks
  rw [bigSep_map, bigSep_univ_prod, bigSep_congr fun c _ => e c]
  rw [bigSep_sep', bigSep_sep', bigSep_sep', bigSep_sep', bigSep_sep', bigSep_sep', around (fun j => j) fun c j => dutyTok ER (barCell c) 0 j]
  rw [bigSep_univ_comm fun (c : Dev nD) (C : Fin 2) => bigSep Finset.univ fun q : Fin 12 => (dutyTok ER (recvCell c C q) 0 0 : sProp 𝕄),
    bigSep_congr fun C _ => around kOf fun c (q : Fin 12) => (dutyTok ER (recvCell c C q) 0 0 : sProp 𝕄),
    ← bigSep_univ_comm fun (c : Dev nD) (C : Fin 2) => bigSep Finset.univ fun q : Fin 12 => (dutyTok ER (recvCell (nxt c (kOf q)) C q) 0 0 : sProp 𝕄)]

/-! ## The credits -/

/-- Barrier cells are one where their devices are. -/
theorem bar_eq (c d : Dev nD) : barCell c = barCell d ↔ c = d := ⟨fun h => barEmb.injective h, fun h => by rw [h]⟩

/-- Receive cells are one where device, chunk and transfer are. -/
theorem recv_eq (c d : Dev nD) (C D : Fin 2) (q r : Fin 12) : recvCell c C q = recvCell d D r ↔ c = d ∧ C = D ∧ q = r := by
  constructor
  · intro h
    have h1 : c = d := congrArg (fun g : GSem nD τ sig => g.1.1) h
    have h2 : Role.recv C q = Role.recv D r := by
      rw [← role_recv, ← role_recv]
      exact congrArg (fun g : GSem nD τ sig => role g.2) h
    injection h2 with h3 h4
    exact ⟨h1, h3, h4⟩
  · rintro ⟨rfl, rfl, rfl⟩; rfl

/-- A receive cell is no barrier cell. -/
theorem recv_ne_bar (c d : Dev nD) (C : Fin 2) (q : Fin 12) : recvCell c C q ≠ barCell d :=
  fun h => bar_ne_dma _ (congrArg (fun g : GSem nD τ sig => g.2) h).symm

/-- What a device owes a receive cell for a chunk's transfers. -/
theorem owesC_recv (d c : Dev nD) (C D : Fin 2) (q : Fin 12) :
    owesC d D 0 (recvCell c C q) () = if C = D then (if d = prv c (kOf q) then NS else 0) else 0 := by
  unfold owesC
  rw [Finset.sum_apply, Finsupp.finset_sum_apply]
  have e : ∀ r ∈ Ring.rangeSet 12 0 12, (tallyAt (recvCell (nxt d (kOf r)) D r) () NS : CellTallies nD τ sig Unit) (recvCell c C q) ()
      = if r = q then (if C = D then (if d = prv c (kOf q) then NS else 0) else 0) else 0 := by
    intro r _
    rw [tallyAt_apply]
    by_cases hr : r = q
    · subst hr
      rw [if_pos rfl]
      by_cases hC : C = D
      · subst hC
        rw [if_pos rfl]
        by_cases hd : d = prv c (kOf r)
        · subst hd
          rw [nxt_prv, if_pos ⟨rfl, rfl⟩, if_pos rfl]
        · rw [if_neg hd, if_neg fun h => hd (by rw [((recv_eq _ _ _ _ _ _).mp h.1).1, prv_nxt])]
      · rw [if_neg hC, if_neg fun h => hC ((recv_eq _ _ _ _ _ _).mp h.1).2.1]
    · rw [if_neg hr, if_neg fun h => hr ((recv_eq _ _ _ _ _ _).mp h.1).2.2.symm]
  rw [Finset.sum_congr rfl e, Finset.sum_ite_eq' _ q, if_pos ((Ring.mem_rangeSet 0 12 q).mpr ⟨Nat.zero_le _, q.isLt⟩)]

/-- Nothing is owed to a barrier for a transfer. -/
theorem owesC_bar (d c : Dev nD) (D : Fin 2) : owesC d D 0 (barCell c) () = 0 := by
  by_contra h
  obtain ⟨q, hq⟩ := owesC_pos (Nat.pos_of_ne_zero h)
  exact recv_ne_bar _ _ _ _ hq.symm

/-- What a device owes a barrier cell. -/
theorem owesAll_bar (d c : Dev nD) : owesAll d (barCell c) () = (if c = nxt d 2 then 1 else 0) + (if c = nxt d 1 then 1 else 0) + (if c = nxt d 0 then 1 else 0) := by
  unfold owesAll owesT
  simp only [Pi.add_apply, Finsupp.add_apply, tallyAt_apply, owesC_bar, bar_eq, and_true, zero_add]

/-- What a device owes a receive cell. -/
theorem owesAll_recv (d c : Dev nD) (C : Fin 2) (q : Fin 12) : owesAll d (recvCell c C q) () = if d = prv c (kOf q) then NS else 0 := by
  unfold owesAll owesT
  simp only [Pi.add_apply, Finsupp.add_apply, tallyAt_apply, owesC_recv, recv_ne_bar, false_and, if_false, add_zero]
  match C with
  | 0 => rw [if_neg (show (0 : Fin 2) ≠ 1 by decide), if_pos rfl, zero_add]
  | 1 => rw [if_pos rfl, if_neg (show (1 : Fin 2) ≠ 0 by decide), add_zero]

/-- A barrier cell is owed three units at launch. -/
theorem credit_bar (c : Dev nD) :
    tallyOn (barCell c) (launchCredit (Pipeline.owing owesAll) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owesAll_bar d c]
  revert c; decide

/-- A receive cell is owed one transfer's units at launch. -/
theorem credit_recv (c : Dev nD) (C : Fin 2) (q : Fin 12) :
    tallyOn (recvCell c C q) (launchCredit (Pipeline.owing owesAll) 0 (recvCell c C q)) = (tallyAt (recvCell c C q) () NS : CellTallies nD τ sig Unit) := by
  unfold tallyAt; refine congrArg _ (Finsupp.ext fun u => ?_); cases u
  rw [Pipeline.launchCredit_owing, Finsupp.single_eq_same, Finset.sum_congr rfl fun d _ => owesAll_recv d c C q, Finset.sum_ite_eq' Finset.univ (prv c (kOf q)) fun _ => NS,
    if_pos (Finset.mem_univ _)]

/-- The semaphores a device is credited at besides its barrier: the receives'. -/
def recvEmb : Fin 2 × Fin 12 ↪ SemLoc sig := ⟨fun x => .dma (recvS x.1 x.2), fun x y h => by
  have e := congrArg role h
  dsimp only at e
  rw [role_recv, role_recv] at e
  injection e with e1 e2
  exact Prod.ext e1 e2⟩

/-- A device's credits at launch. -/
theorem credits (c : Dev nD) : (Pipeline.launchCred owesAll c : sProp 𝕄) ⊢ iprop(cred (tallyAt (barCell c) () 3)
    ∗ bigSep Finset.univ fun C : Fin 2 => bigSep Finset.univ fun q : Fin 12 => cred (tallyAt (recvCell c C q) () NS)) := by
  unfold Pipeline.launchCred
  rw [bigSep_univ_at _ (SemLoc.reg barS), credit_bar]
  refine sep_mono_right ?_
  have hs : Finset.univ.map recvEmb ⊆ (Finset.univ : Finset (SemLoc sig)).erase (.reg barS) := by
    intro x hx
    obtain ⟨y, -, rfl⟩ := Finset.mem_map.mp hx
    exact Finset.mem_erase.mpr ⟨(bar_ne_dma _).symm, Finset.mem_univ _⟩
  refine BI.Entails.trans (bigSep_subset hs) ?_
  rw [bigSep_map, bigSep_univ_prod]
  exact bigSep_mono fun C _ => bigSep_mono fun q _ => by
    show cred (tallyOn (recvCell c C q) (launchCredit (Pipeline.owing owesAll) 0 (recvCell c C q))) ⊢ _
    rw [credit_recv]

end Cert.KernelIdeal.Moe

end
-- ==== Proof.Launch.lean ====
/-
  The program runs from launch to end: every device's arguments stay as they are and its result is the kernel's.
-/
module

public import proofs.«01_k».proof.Proof.Tokens

@[expose] public section

noncomputable section

namespace Cert.KernelIdeal.Moe

open Idealize.ShloMosaic Idealize.ShloMosaic.TcCoe
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The launch's elements -/

/-- The launch's state: the staging's and the cells'. -/
def u₀ : UU := (initOf (Pipeline.cells cfgs cellOf_inj) (Pipeline.launchToks cfgs cellOf_inj), launchOf barCells ownCells toks)

/-- The cells' state is given by the first device, for all. -/
def G (c : Dev nD) : sProp 𝕄 := if c = 0 then BI.own (ER (launchOf barCells ownCells toks)) else iprop(emp)

/-- The launch's part over all devices is the protocol's whole starting resource. -/
theorem G_all : bigSep Finset.univ (G (F := F)) = BI.own (ER (launchOf barCells ownCells toks)) := by
  have hw : bigSep Finset.univ (G (F := F)) = iprop(G 0 ∗ bigSep ((Finset.univ : Finset (Dev nD)).erase 0) G) := bigSep_univ_at _ (0 : Dev nD)
  have h : bigSep ((Finset.univ : Finset (Dev nD)).erase 0) (G (F := F)) = (iprop(emp) : sProp 𝕄) :=
    (bigSep_congr fun c hc => by unfold G; rw [if_neg (Finset.ne_of_mem_erase hc)]; rfl).trans (bigSep_emp_const _)
  have e (P : sProp 𝕄) : iprop(P ∗ emp) = P := equiv_iff.mp BI.sep_emp
  rw [hw, h, e]
  unfold G
  rw [if_pos rfl]

/-- Its cells' part: its place at its barrier, its semaphores' cells not yet open, the tokens for all it raises. -/
def linear (c : Dev nD) : sProp 𝕄 :=
  iprop(atPos ER (barCell c) 0 ∅ 0 ∗ (bigSep Finset.univ fun j : Fin 50 => openTok ER ((c : Thread nD τ), osem j))
    ∗ (bigSep Finset.univ fun j : Fin 3 => dutyTok ER (barCell (nxt c j)) 0 j)
    ∗ (bigSep Finset.univ fun h : Fin 2 => dutyTok ER (wCell c h) 0 0)
    ∗ (bigSep Finset.univ fun C : Fin 2 => bigSep Finset.univ fun q : Fin 12 => dutyTok ER (sendCell c C q) 0 0)
    ∗ (bigSep Finset.univ fun C : Fin 2 => bigSep Finset.univ fun q : Fin 12 => dutyTok ER (recvCell (nxt c (kOf q)) C q) 0 0))

/-- A device's own part: its credits, its random state, what it owes. -/
def own (c : Dev nD) : sProp 𝕄 :=
  iprop((cred (tallyAt (barCell c) () 3)
    ∗ bigSep Finset.univ fun C : Fin 2 => bigSep Finset.univ fun q : Fin 12 => cred (tallyAt (recvCell c C q) () NS))
    ∗ (∃ r, prngReg c r) ∗ ∃ W, owes (c : Thread nD τ) (owesAll c) W)

variable (V : Dev nD → Valuation τ sig (Elt F))

/-- What a device holds beside its arrays before the kernel. -/
def rest (c : Dev nD) : sProp 𝕄 := iprop(kept₀ V c ∗ (∃ r, prngReg c r) ∗ ∃ W, owes (c : Thread nD τ) (owesAll c) W)
/-- And after it. -/
def done (c : Dev nD) : sProp 𝕄 := iprop(semVal (barCell c) 0 ∗ ∃ W, owes (c : Thread nD τ) (0 : CellTallies nD τ sig Unit) W)

/-- The barrier cells are reached. -/
def started : sProp 𝕄 := bigSep barCells fun g => reached ER g 0

/-- That all barriers have started may be used again and again. -/
instance started_persistent : BI.Persistent (started (F := F)) := by unfold started; infer_instance

/-- Each barrier cell has started. -/
theorem started_at (c : Dev nD) : (started (F := F)) ⊢ reached ER (barCell c) 0 := bigSep_elim (Finset.mem_map.mpr ⟨c, Finset.mem_univ _, rfl⟩)

/-- A device's barrier tokens, each with the fact that its cell has started. -/
theorem tokens_started (c : Dev nD) : iprop((started (F := F)) ∗ bigSep Finset.univ fun j : Fin 3 => dutyTok ER (barCell (nxt c j)) 0 j)
    ⊢ bigSep Finset.univ fun j : Fin 3 => (barTok c j : sProp 𝕄) :=
  bigSep_consult fun j _ => by
    unfold barTok
    iintro ⟨#HI, H⟩
    isplitl [H]; · iexact H
    iapply (started_at (F := F) (nxt c j)) $$ HI

/-- What a device is dealt makes what its call needs besides the arrays. -/
theorem dealt_intro (K : GSem nD τ sig → ℕ) (c : Dev nD) :
    iprop((recs (ins V) K ∗ started (F := F)) ∗ (linear (F := F) c ∗ own c)) ⊢ rest V c := by
  unfold rest kept₀ linear own dealt
  iintro ⟨⟨#HI, #Hr⟩, ⟨Hat, Hop, Htb, Htw, Hts, Htr⟩, ⟨Hcb, Hcr⟩, Hp, HO⟩
  isplitr [Hp HO]
  · iexists K
    isplitr; · iexact HI
    isplitl [Hat]; · iexact Hat
    isplitl [Hop]; · iexact Hop
    isplitl [Htb]
    · iapply (tokens_started (F := F) c) $$ [Htb]
      isplitr; · iexact Hr
      iexact Htb
    isplitl [Htw]; · iexact Htw
    isplitl [Hts]; · iexact Hts
    isplitl [Htr]; · iexact Htr
    isplitl [Hcb] <;> iassumption
  isplitl [Hp] <;> iassumption

/-- The only semaphore that outlives the call is the barrier. -/
theorem unscopedSems0_eq (c : Dev nD) : (unscopedSems0 c : sProp 𝕄) = semVal (barCell c) 0 := by
  unfold unscopedSems0
  rw [bigSep_eq_bigSepL_of_eq [SemLoc.reg barS] (by decide) (by decide)]
  rfl

/-- The launch deals to every device what it runs with. -/
theorem deal :
    iprop((bigSep Finset.univ fun c : Dev nD => iprop(unscopedSems0 c ∗ owes (c : Thread nD τ) (owesAll c) ∅ ∗ Pipeline.launchCred owesAll c ∗ prngReg c (ρ c) ∗ G c)) ∗ levAts L lv)
      ⊢ (|={Set.univ}=> bigSep Finset.univ (rest V) : sProp 𝕄) := by
  have hcore (c : Dev nD) : iprop(unscopedSems0 c ∗ owes (c : Thread nD τ) (owesAll c) ∅ ∗ Pipeline.launchCred owesAll c ∗ prngReg c (ρ c) ∗ G c)
      ⊢ (iprop(own c ∗ (semVal (barCell c) 0 ∗ G c)) : sProp 𝕄) := by
    rw [unscopedSems0_eq]
    unfold own
    iintro ⟨Hv, HO, Hcr, Hp, HG⟩
    isplitl [HO Hcr Hp]
    · isplitl [Hcr]; · iapply (credits (F := F) c) $$ Hcr
      isplitl [Hp]
      · iexists (ρ c); iexact Hp
      iexists ∅; iexact HO
    isplitl [Hv] <;> iassumption
  have hall : (bigSep Finset.univ fun c : Dev nD => iprop(unscopedSems0 c ∗ owes (c : Thread nD τ) (owesAll c) ∅ ∗ Pipeline.launchCred owesAll c ∗ prngReg c (ρ c) ∗ G c))
      ⊢ (iprop(bigSep Finset.univ (own (F := F)) ∗ (bigSep barCells fun g => semVal g 0) ∗ BI.own (ER (launchOf barCells ownCells toks))) : sProp 𝕄) := by
    rw [← G_all]
    unfold barCells
    rw [bigSep_map, ← bigSep_sep', ← bigSep_sep']
    exact bigSep_mono fun c _ => hcore c
  have hlin : iprop((bigSep barCells fun g => atPos ER g 0 ∅ 0) ∗ (bigSep ownCells fun g => openTok ER g) ∗ bigSep toks fun x => dutyTok ER x.1 x.2.1 x.2.2)
      ⊢ (bigSep Finset.univ (linear (F := F)) : sProp 𝕄) := by
    rw [toks_dealt]
    unfold barCells ownCells
    rw [bigSep_map, bigSep_map, bigSep_univ_prod, ← bigSep_sep', ← bigSep_sep']
    exact BI.Entails.refl _
  have hgive (K : GSem nD τ sig → ℕ) : iprop((recs (ins V) K ∗ started (F := F)) ∗ bigSep Finset.univ fun c => iprop(linear (F := F) c ∗ own c)) ⊢ bigSep Finset.univ (rest V) :=
    bigSep_consult fun c _ => dealt_intro V K c
  iintro ⟨H, -⟩
  ihave H := hall $$ H
  icases H with ⟨HB, Hv, Hu⟩
  imod (Rounds.fund_launch ER (moeRd (ins V)) disjoint_cells (fun g _ h => h) toks) $$ [Hv Hu] with ⟨%K, -, #Hinv, #Hr, Hat, Hopen, Htok⟩
  · isplitl [Hv] <;> iassumption
  ihave Hl := hlin $$ [Hat Hopen Htok]
  · isplitl [Hat]; · iexact Hat
    isplitl [Hopen] <;> iassumption
  imodintro
  iapply (hgive K)
  isplitr
  · isplitr
    · unfold recs; iexact Hinv
    unfold started; iexact Hr
  rw [bigSep_sep']
  isplitl [Hl] <;> iassumption

/-! ## The kernel between the host's steps -/

/-- The call's arrays are among the program's. -/
theorem arrays_sub : Pipeline.arrRefs (τ := τ) spec0 ⊆ Pipeline.ucRefs τ sig := Pipeline.arrRefs_sub_ucRefs spec0 (by decide)

/-- The arrays and the device's part are what the call starts from. -/
theorem reg_pre (c : Dev nD) : iprop(StableHlo.held (c : Thread nD τ) (Pipeline.ucRefs τ sig) (V c) ∗ rest V c) ⊢ (reg V).pre c := by
  show _ ⊢ iprop(StableHlo.held (c : Thread nD τ) (Pipeline.arrRefs (τ := τ) spec0) (V c) ∗ (∃ r, prngReg c r) ∗ (StableHlo.held (c : Thread nD τ) others (V c) ∗ iprop(emp))
    ∗ kept₀ V c ∗ ∃ Wd, owes (c : Thread nD τ) (0 + owesAll c) Wd)
  rw [StableHlo.held_sub_split (c : Thread nD τ) arrays_sub (V c), zero_add]
  unfold rest others
  iintro ⟨⟨Ha, Hh⟩, Hk, Hp, HO⟩
  isplitl [Ha]; · iexact Ha
  isplitl [Hp]; · iexact Hp
  isplitl [Hh]
  · isplitl [Hh]; · iexact Hh
    iempintro
  isplitl [Hk] <;> iassumption

/-- What the call ends with: the arrays as it leaves them, and the barrier at zero. -/
theorem reg_post (c : Dev nD) : (reg V).post c ⊢ iprop((StableHlo.held (c : Thread nD τ) (Pipeline.ucRefs τ sig) (leaves V c) ∗ semVal (barCell c) 0)
    ∗ ∃ W, owes (c : Thread nD τ) (0 : CellTallies nD τ sig Unit) W) := by
  show iprop(StableHlo.held (c : Thread nD τ) (Pipeline.arrRefs (τ := τ) spec0) (leaves V c) ∗ (∃ r, prngReg c r) ∗ (StableHlo.held (c : Thread nD τ) others (leaves V c) ∗ iprop(emp))
    ∗ semVal (barCell c) 0 ∗ ∃ Wd, owes (c : Thread nD τ) 0 Wd) ⊢ _
  rw [StableHlo.held_sub_split (c : Thread nD τ) arrays_sub (leaves V c)]
  unfold others
  iintro ⟨Ha, -, ⟨Hh, -⟩, Hv, HO⟩
  isplitr [HO]
  · isplitr [Hv]
    · isplitl [Ha] <;> iassumption
    iexact Hv
  iexact HO

/-- A semaphore that outlives the call is the barrier. -/
theorem unscoped_eq : ∀ sm : SemLoc sig, sm.isScoped .tc = false → sm = .reg barS := by decide

/-! ## The run -/

/-- What a device holds beside its arrays: before the kernel and after it. -/
def beside (V : Dev nD → Valuation τ sig (Elt F)) (i : Fin 2) (c : Dev nD) : sProp 𝕄 := if i = 0 then rest V c else done c

/-- The launch makes the staging's starting resource and the devices' parts. -/
theorem launch_state : (ownU u₀ : sProp 𝕄) ⊢ |={Set.univ}=> iprop(BI.own (EP (initOf (Pipeline.cells cfgs cellOf_inj) (Pipeline.launchToks cfgs cellOf_inj)))
    ∗ bigSep Finset.univ (G (F := F))) := by
  unfold u₀
  iintro Hu
  ihave H := (ownU_pair _ _) $$ Hu
  icases H with ⟨HP, HX⟩
  imodintro
  isplitl [HP]; · iexact HP
  rw [G_all]; iexact HX

/-- From what all devices hold at launch, each gets its arrays and its part. -/
theorem launch_all (W : Dev nD → Valuation τ sig (Elt F)) :
    iprop((bigSep Finset.univ fun c : Dev nD => iprop(unscopedBufs c (fun b => m ((c : Thread nD τ).loc b)) ∗ unscopedSems0 c
        ∗ owes (c : Thread nD τ) (owesAll c) ∅ ∗ Pipeline.launchCred owesAll c ∗ prngReg c (ρ c) ∗ G c)) ∗ levAts L lv)
      ⊢ (|={Set.univ}=> bigSep Finset.univ fun c : Dev nD => iprop(StableHlo.held (c : Thread nD τ) (Pipeline.ucRefs τ sig) (V0 m c) ∗ beside W 0 c) : sProp 𝕄) := by
  have hsplit : (bigSep Finset.univ fun c : Dev nD => iprop(unscopedBufs c (fun b => m ((c : Thread nD τ).loc b)) ∗ unscopedSems0 c
        ∗ owes (c : Thread nD τ) (owesAll c) ∅ ∗ Pipeline.launchCred owesAll c ∗ prngReg c (ρ c) ∗ G c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (owesAll c) ∅ ∗ Pipeline.launchCred owesAll c ∗ prngReg c (ρ c) ∗ G c)) : sProp 𝕄) := by
    rw [← bigSep_sep']
    exact bigSep_mono fun c _ => by
      rw [← Pipeline.unscopedBufs_held (Ix := Unit) (Name := ℕ) (U := UU) (Lvl := ℕ) c (V0 m c)]; exact BI.Entails.refl _
  iintro ⟨H, Hla⟩
  ihave H' := hsplit $$ H
  icases H' with ⟨Hh, Hr⟩
  imod (deal ρ W) $$ [Hr Hla] with HE
  · isplitl [Hr] <;> iassumption
  imodintro
  rw [bigSep_sep']
  isplitl [Hh]; · iexact Hh
  iexact HE

/-- What a device's arrays read at the end. -/
def reads (W : Dev nD → Valuation τ sig (Elt F)) (c : Dev nD) (s : MemSt nD τ sig (Elt F)) : Prop :=
  (∀ x ∈ Pipeline.ucRefs τ sig, s.mem (c, x) = W c x) ∧ s.sem (barCell c) = 0

set_option backward.isDefEq.respectTransparency.types false in
/-- The program runs to its end from any memory, and every device's arrays are then those it had after the host's steps but for
    the kernel's result, and every semaphore is at zero. -/
theorem run_reads : θ_run defs (onTc (τ := τ) (main (F := F))) ⟨m, fun _ => 0, ρ⟩
    (fun r => (∀ c : Dev nD, ∀ x ∈ Pipeline.ucRefs τ sig, r.2.mem (c, x) = leaves (V7 m) c x) ∧ r.2.sem = fun _ => 0) := by
  refine Pipeline.θ_run_regions_kit_dev_sems (pcfgs (F := F)) adm (dats (V7 m)) () cellOf_inj EP defs₀ 𝒱₀ L lv m ρ main
    (segs m 𝒱₀ L lv (beside (V7 m)) () (dats (V7 m)) (reg (V7 m)))
    (fun c Q => by
      rewrite [main_chain c, Pipeline.Seg.run_eq_chain,
        show (segs m 𝒱₀ L lv (beside (V7 m)) () (dats (V7 m)) (reg (V7 m)) c).map Pipeline.Seg.prog = [
          StableHlo.seq hostOps0,
          StableHlo.seq hostOps0_1,
          StableHlo.seq hostOps0_2,
          StableHlo.seq hostOps0_3,
          StableHlo.seq (hostOps0_4 c),
          StableHlo.seq hostOps0_5,
          StableHlo.seq hostOps0_6,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) owesAll L_of_ne G u₀ launch_state
    (T₀ := fun c => iprop(StableHlo.held (c : Thread nD τ) (Pipeline.ucRefs τ sig) (V0 m c) ∗ beside (V7 m) 0 c))
    (Tₙ := fun c => iprop(StableHlo.held (c : Thread nD τ) (Pipeline.ucRefs τ sig) (leaves (V7 m) c) ∗ semVal (barCell c) 0))
    (hch := fun c => ⟨.rfl, .rfl, .rfl, .rfl, .rfl, .rfl, .rfl, reg_pre (V7 m) c, reg_post (V7 m) c⟩)
    (hinit := launch_all m ρ (V7 m)) (QY := reads (leaves (V7 m)))
    (hfin := fun c s' => ?_) (hQ := fun s h hs => ⟨fun c => (h c).1, sem_eq_zero hs fun c sm hsm => by
        obtain rfl := unscoped_eq sm hsm
        exact (h c).2⟩)
  unfold StableHlo.held reads
  iintro ⟨⟨Hh, Hb⟩, HSI⟩
  icombine HSI Hb gives %hb
  ihave Hr := (pointsTo_read_all (Pipeline.ucRefs τ sig) (fun b => ((c : Thread nD τ).1, b)) (leaves (V7 m) c) s') $$ [Hh HSI]
  · isplitl [Hh] <;> iassumption
  icases Hr with ⟨%h, HSI⟩
  imodintro
  isplitr
  · ipureintro
    exact ⟨h, by simpa using hb⟩
  iexact HSI

/-- An array of the program outside the kernel's own memory is among those the program holds. -/
theorem held_mem (b : Ref sig .tc) (h : ¬(Proc.tc.devRef b : DevRef τ sig).isScoped = true) : (Proc.devRef .tc b : DevRef τ sig) ∈ Pipeline.ucRefs τ sig :=
  Finset.mem_filter.mpr ⟨StableHlo.devRef_mem_tcRefs b, h⟩

/-- The tokens end as they were, -/
theorem kept_arg0 (c : Dev nD) : leaves (V7 m) c (Proc.devRef .tc main_arg0) = m ((c : Thread nD τ).loc main_arg0) :=
  (leaves_of (V7 m) c _ (by decide)).trans <| (V7_of m c main_arg0 (by decide)).trans <| (V6_of m c main_arg0 (by decide)).trans <| (V5_of m c main_arg0 (by decide)).trans
    <| (V4_of m c main_arg0 (by decide)).trans <| (V3_of m c main_arg0 (by decide)).trans <| (V2_of m c main_arg0 (by decide)).trans <| (V1_of m c main_arg0 (by decide)).trans rfl

/-- the router's weights, -/
theorem kept_arg1 (c : Dev nD) : leaves (V7 m) c (Proc.devRef .tc main_arg1) = m ((c : Thread nD τ).loc main_arg1) :=
  (leaves_of (V7 m) c _ (by decide)).trans <| (V7_of m c main_arg1 (by decide)).trans <| (V6_of m c main_arg1 (by decide)).trans <| (V5_of m c main_arg1 (by decide)).trans
    <| (V4_of m c main_arg1 (by decide)).trans <| (V3_of m c main_arg1 (by decide)).trans <| (V2_of m c main_arg1 (by decide)).trans <| (V1_of m c main_arg1 (by decide)).trans rfl

/-- the tokens' experts, -/
theorem kept_arg2 (c : Dev nD) : leaves (V7 m) c (Proc.devRef .tc main_arg2) = m ((c : Thread nD τ).loc main_arg2) :=
  (leaves_of (V7 m) c _ (by decide)).trans <| (V7_of m c main_arg2 (by decide)).trans <| (V6_of m c main_arg2 (by decide)).trans <| (V5_of m c main_arg2 (by decide)).trans
    <| (V4_of m c main_arg2 (by decide)).trans <| (V3_of m c main_arg2 (by decide)).trans <| (V2_of m c main_arg2 (by decide)).trans <| (V1_of m c main_arg2 (by decide)).trans rfl

/-- and the experts' weights. -/
theorem kept_arg3 (c : Dev nD) : leaves (V7 m) c (Proc.devRef .tc main_arg3) = m ((c : Thread nD τ).loc main_arg3) :=
  (leaves_of (V7 m) c _ (by decide)).trans <| (V7_of m c main_arg3 (by decide)).trans <| (V6_of m c main_arg3 (by decide)).trans <| (V5_of m c main_arg3 (by decide)).trans
    <| (V4_of m c main_arg3 (by decide)).trans <| (V3_of m c main_arg3 (by decide)).trans <| (V2_of m c main_arg3 (by decide)).trans <| (V1_of m c main_arg3 (by decide)).trans rfl

/-- The run in full: on every device the result is the kernel's, the arguments end as they were, and every semaphore is at zero. -/
theorem run_main : θ_run defs (onTc (τ := τ) (main (F := F))) ⟨m, fun _ => 0, ρ⟩
    (fun r => (∀ c : Dev nD, r.2.mem ((c.tc : Thread nD τ).loc main_v42) = result (ins (V7 m)) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c =>
    ⟨(h.1 c _ (held_mem main_v42 (by decide))).trans (leaves_result (V7 m) c),
      (h.1 c _ (held_mem main_arg0 (by decide))).trans (kept_arg0 m c),
      (h.1 c _ (held_mem main_arg1 (by decide))).trans (kept_arg1 m c),
      (h.1 c _ (held_mem main_arg2 (by decide))).trans (kept_arg2 m c),
      (h.1 c _ (held_mem main_arg3 (by decide))).trans (kept_arg3 m c)⟩, h.2⟩) (run_reads m ρ)

end Cert.KernelIdeal.Moe

end
-- ==== Proof.Same.lean ====
/-
  The kernel as compiled and the kernel read over the reals have the same text: at the same float values they are the same program.
-/
module

public import proofs.«01_k».proof.Proof.Gen.Kernel.Launch
public import proofs.«01_k».proof.Proof.Gen.KernelIdeal.Launch
public import Idealize.ShloMosaic.PureOps.BitExact

@[expose] public section

namespace Cert.KernelIdeal.Moe

open Idealize.ShloMosaic

set_option maxHeartbeats 2000000 in
/-- The two programs run the same. -/
theorem same_main : Cert.Kernel.main (F := Bits) = Cert.KernelIdeal.main (F := Bits) := rfl

/-- Their kernels have the same body. -/
theorem same_bodies : Cert.Kernel.defs₀ (F := Bits) = Cert.KernelIdeal.defs₀ (F := Bits) := by
  funext p l a
  match p, l, a with
  | .tc, 0, (t, s) => rfl
  | .tc, ⟨_ + 1, h⟩, _ => exact absurd h (Nat.not_lt.2 (Nat.le_add_left _ _))
  | .scScalar _, _, _ => rfl
  | .scVector _ _, _, _ => rfl

/-- And so the same table of what they may call. -/
theorem same_defs : Cert.Kernel.defs (F := Bits) = Cert.KernelIdeal.defs (F := Bits) :=
  congrArg (Pipeline.defs Cert.KernelIdeal.pcfgs) same_bodies

end Cert.KernelIdeal.Moe

end
-- ==== Proof.Select.lean ====
/-
  Selecting rows by a product with a matrix of zeros and ones, over exact numbers: entry (`t`, `j`) of the product is row `s t - off` of the chunk
  where that is one of the chunk's rows, and zero where it is not.
-/
module

public import proofs.«01_k».proof.Proof.Contents
public import Idealize.ShloMosaic.Lib.Pointwise

@[expose] public section

noncomputable section

namespace Cert.KernelIdeal.Moe

open Idealize.ShloMosaic Idealize.ShloMosaic.TcCoe
open Cert.KernelIdeal Cert.KernelIdeal.Gen

variable {F : FTy → Type} [FloatOps F]

/-- The matrix with a one where token `t`'s word is the column number plus `off`. -/
def hot (F : FTy → Type) [FloatOps F] (s : IVec S2048x1 32) (off : BitVec 32) : FVec F S2048x256 .bf16 :=
  truncf .bf16 (sitofp .f32 (extui 32 (cmpi .eq
    (broadcastTo S2048x256 (shapeCast S2048x1 s shapeCasts_S2048x1_S2048x1) broadcasts_S2048x1_S2048x256)
    (addi cols (broadcast S2048x256 off))) natLt_1_32)) bitsLt_bf16_f32

/-- The product that picks a chunk's rows for the tokens. -/
def pick (s : IVec S2048x1 32) (off : BitVec 32) (rows : FVec F S256x1024 .bf16) : FVec F S2048x1024 .f32 :=
  matmul dot_S2048x256_S256x1024_S2048x1024_1_0_0_1_n_n none (hot F s off) rows (constant S2048x1024 .f32 0x00000000#32)

/-- The product that gathers the tokens of a chunk. -/
def gather (s : IVec S2048x1 32) (off : BitVec 32) (x : FVec F S2048x512 .bf16) : FVec F S256x512 .f32 :=
  matmul dot_S2048x256_S2048x512_S256x512_0_0_1_1_n_n none (hot F s off) x (constant S256x512 .f32 0x00000000#32)

/-- A one-bit word of a test, widened, as a number. -/
theorem wide_bit (b : Bool) : ((((BitVec.ofBool b).setWidth 32).toInt : ℝ) : EReal) = if b then 1 else 0 := by
  cases b <;> simp

/-- The matrix at a token and a column. -/
theorem hot_apply (s : IVec S2048x1 32) (off : BitVec 32) (t : Fin 2048) (k : Fin 256) :
    hot Ideal s off (ix2 t k) = if s (ix2 t 0) = BitVec.ofNat 32 k.val + off then (1 : EReal) else 0 := by
  have h1 : broadcastTo S2048x256 (shapeCast S2048x1 s shapeCasts_S2048x1_S2048x1) broadcasts_S2048x1_S2048x256 (ix2 t k) = s (ix2 t 0) := by
    pointwise
  have h2 : cols (ix2 t k) = BitVec.ofNat 32 k.val := by
    unfold cols; pointwise
  have h : hot Ideal s off (ix2 t k) = ((((BitVec.ofBool
      (broadcastTo S2048x256 (shapeCast S2048x1 s shapeCasts_S2048x1_S2048x1) broadcasts_S2048x1_S2048x256 (ix2 t k) == cols (ix2 t k) + off)).setWidth 32).toInt : ℝ) : EReal) := rfl
  rw [h, h1, h2, wide_bit]
  simp

/-- The picking product at a token and a column, as a sum. -/
theorem pick_sum (s : IVec S2048x1 32) (off : BitVec 32) (rows : FVec Ideal S256x1024 .bf16) (t : Fin 2048) (j : Fin 1024) :
    pick s off rows (ix2 t j) = ∑ k : Fin 256, hot Ideal s off (ix2 t k) * rows (ix2 k j) := by
  unfold pick; pointwise

/-- The gathering product at a row and a column, as a sum. -/
theorem gather_sum (s : IVec S2048x1 32) (off : BitVec 32) (x : FVec Ideal S2048x512 .bf16) (k : Fin 256) (d : Fin 512) :
    gather s off x (ix2 k d) = ∑ t : Fin 2048, hot Ideal s off (ix2 t k) * x (ix2 t d) := by
  unfold gather; pointwise

/-- The picking product picks: with `off` the number `256 q`, it is row `n % 256` where the token's word `n` lies in block `q` of 256, else zero. -/
theorem pick_apply (s : IVec S2048x1 32) (q : ℕ) (hq : q < 8) (rows : FVec Ideal S256x1024 .bf16) (t : Fin 2048) (j : Fin 1024) :
    pick s (BitVec.ofNat 32 (256 * q)) rows (ix2 t j)
      = if (s (ix2 t 0)).toNat / 256 = q then rows (ix2 ⟨(s (ix2 t 0)).toNat % 256, Nat.mod_lt _ (by decide)⟩ j) else (0 : EReal) := by
  have hl := (s (ix2 t 0)).isLt
  have hk : ∀ k : Fin 256, s (ix2 t 0) = BitVec.ofNat 32 k.val + BitVec.ofNat 32 (256 * q) ↔ (s (ix2 t 0)).toNat = 256 * q + k.val := fun k => by
    have hk := k.isLt
    constructor
    · intro h
      have := congrArg BitVec.toNat h
      rw [BitVec.toNat_add, BitVec.toNat_ofNat, BitVec.toNat_ofNat] at this
      omega
    · intro h
      apply BitVec.eq_of_toNat_eq
      rw [BitVec.toNat_add, BitVec.toNat_ofNat, BitVec.toNat_ofNat]
      omega
  rw [pick_sum]
  split
  · next h =>
    rw [Finset.sum_eq_single (⟨(s (ix2 t 0)).toNat % 256, Nat.mod_lt _ (by decide)⟩ : Fin 256)]
    · rw [hot_apply, if_pos ((hk _).2 (by dsimp only; omega)), one_mul]
    · intro k _ hne
      rw [hot_apply, if_neg, zero_mul]
      intro he
      have := (hk k).1 he
      exact hne (Fin.ext (by have := k.isLt; dsimp only; omega))
    · exact fun hn => absurd (Finset.mem_univ _) hn
  · next h =>
    refine Finset.sum_eq_zero fun k _ => ?_
    rw [hot_apply, if_neg, zero_mul]
    intro he
    have := (hk k).1 he
    have := k.isLt
    omega

end Cert.KernelIdeal.Moe

end
-- ==== Proof.Collect.lean ====
/-
  What a device's kernel stores, over exact numbers: for every token the row of the shared buffer that the token's slot names, zero where it names none.
-/
module

public import proofs.«01_k».proof.Proof.Select
public import proofs.«01_k».proof.Proof.Finish

@[expose] public section

noncomputable section

namespace Cert.KernelIdeal.Moe

open Idealize.ShloMosaic Idealize.ShloMosaic.TcCoe
open Cert.KernelIdeal Cert.KernelIdeal.Gen

section
variable {F : FTy → Type} [FloatOps F]

/-- The first slot of chunk `C` of the block of the device `k` places before the one whose word is `w`. -/
abbrev awayOff (w k C : BitVec 32) : BitVec 32 :=
  Scalar.addi (Scalar.muli (Scalar.remsi (Scalar.addi (Scalar.subi w k) 4#32) 4#32) 512#32) C

variable (w : BitVec 32) (v : FVec F S2048x1024 .f32) (s : IVec S2048x1 32) (r r' : Vec F S256x1024 .bf16)

/-- The first stored sum: the picks from the device's own two chunks. -/
theorem pay12_eq : k0_pay12 w cols s r s r' = addf (pick s w r) (pick s (Scalar.addi w 256#32) r') := rfl
/-- The sum with the first chunk of the device one place before. -/
theorem pay13_eq : k0_pay13 w cols v s r = addf v (pick s (awayOff w 1#32 0#32) r) := rfl
/-- The sum with the first chunk of the device two places before. -/
theorem pay14_eq : k0_pay14 w cols v s r = addf v (pick s (awayOff w 2#32 0#32) r) := rfl
/-- The sum with the first chunk of the device three places before. -/
theorem pay15_eq : k0_pay15 w cols v s r = addf v (pick s (awayOff w 3#32 0#32) r) := rfl
/-- The sum with the second chunk of the device one place before. -/
theorem pay16_eq : k0_pay16 w cols v s r = addf v (pick s (awayOff w 1#32 256#32) r) := rfl
/-- The sum with the second chunk of the device two places before. -/
theorem pay17_eq : k0_pay17 w cols v s r = addf v (pick s (awayOff w 2#32 256#32) r) := rfl
/-- The result: the sum with the second chunk of the device three places before, rounded. -/
theorem pay18_eq : k0_pay18 w cols v s r = truncf .bf16 (addf v (pick s (awayOff w 3#32 256#32) r)) bitsLt_bf16_f32 := rfl

/-- The first slot of the own first chunk. -/
theorem own_off (c : Dev nD) : word3 c = BitVec.ofNat 32 (256 * (2 * c.val)) := by revert c; decide
/-- The first slot of the own second chunk. -/
theorem own_off' (c : Dev nD) : Scalar.addi (word3 c) 256#32 = BitVec.ofNat 32 (256 * (2 * c.val + 1)) := by revert c; decide
/-- The first slot of another device's chunk. -/
theorem away_off (c : Dev nD) (k : Fin 3) (C : Fin 2) : awayOff (word2 c) (BitVec.ofNat 32 (1 + k.val)) (BitVec.ofNat 32 (256 * C.val))
    = BitVec.ofNat 32 (256 * (2 * (prv c k).val + C.val)) := by revert c k C; decide

/-- The 256 rows from row `256 q` on. -/
def rows256 (f : Vec F S2048x1024 .bf16) (q : ℕ) (hq : q < 8) : Vec F S256x1024 .bf16 :=
  fun i => f (ix2 ⟨256 * q + (i (0 : Fin 2)).val, by have : (i (0 : Fin 2)).val < 256 := (i (0 : Fin 2)).isLt; omega⟩ (i (1 : Fin 2)))

/-- A load of 256 whole rows reads those rows. -/
theorem read_rows256 (f : Vec F S2048x1024 .bf16) (off : Fin 2 → ℕ) (inb : ∀ a, off a + S256x1024.size a ≤ S2048x1024.size a) (q : ℕ) (hq : q < 8)
    (ho : off = ![256 * q, 0]) : (commM.access (Rect.unit (s := S2048x1024) off S256x1024.size inb)).read (Elt F) f = rows256 f q hq := by
  subst ho
  funext i
  rw [View.read_apply]
  refine congrArg f (funext fun a => Fin.ext ?_)
  refine (ValueKit.view_emb_slice_whole_unit_val cc0_scratch0 _ _ _ i a).trans ?_
  match a with
  | ⟨0, _⟩ => rfl
  | ⟨1, _⟩ => exact Nat.zero_add _

/-- The load of the own first chunk. -/
theorem ownRows3_eq (f : Vec F S2048x1024 .bf16) (c : Dev nD) : ownRows3 f c = rows256 f (2 * c.val) (by have : c.val < 4 := c.isLt; omega) :=
  read_rows256 f _ _ _ _ ((k0_off3_eq c).trans (by rw [show 256 * (2 * c.val) = 512 * c.val by omega]))
/-- The load of the own second chunk. -/
theorem ownRows_eq (f : Vec F S2048x1024 .bf16) (c : Dev nD) : ownRows f c 1 = rows256 f (2 * c.val + 1) (by have : c.val < 4 := c.isLt; omega) :=
  read_rows256 f _ _ _ _ ((k0_off1_eq c 1).trans (by rw [show 256 * (2 * c.val + 1) = 512 * c.val + 256 * (1 : Fin 2).val from by show _ = 512 * c.val + 256 * 1; omega]))
/-- The load of another device's chunk. -/
theorem awayRows_eq (f : Vec F S2048x1024 .bf16) (c : Dev nD) (k : Fin 3) (C : Fin 2) :
    awayRows f c k C = rows256 f (2 * (prv c k).val + C.val) (by have : (prv c k).val < 4 := (prv c k).isLt; have := C.isLt; omega) :=
  read_rows256 f _ _ _ _ ((k0_off4_eq c k C).trans (by
    rw [show 256 * (2 * (prv c k).val + C.val) = 512 * ((c.val + 3 - k.val) % 4) + 256 * C.val from by
      show 256 * (2 * ((c.val + 3 - k.val) % 4) + C.val) = _; omega]))
end

/-- The part of token `t`'s row that block `q` of 256 rows gives, where the token's word is `n`. -/
def part (f : Vec Ideal S2048x1024 .bf16) (n : ℕ) (j : Fin 1024) (q : ℕ) : EReal :=
  if n / 256 = q then (if h : n < 2048 then f (ix2 ⟨n, h⟩ j) else 0) else 0

/-- Adding two blocks at an index. -/
theorem addf_at (u v : FVec Ideal S2048x1024 .f32) (i : S2048x1024.Idx) : addf u v i = (u i : EReal) + v i := rfl
/-- Changing the format keeps the number. -/
theorem truncf_at (u : FVec Ideal S2048x1024 .f32) (i : S2048x1024.Idx) : truncf .bf16 u bitsLt_bf16_f32 i = u i := rfl

/-- A pick from one block, read at a token. -/
theorem pick_part (s : IVec S2048x1 32) (f : Vec Ideal S2048x1024 .bf16) (q : ℕ) (hq : q < 8) (t : Fin 2048) (j : Fin 1024) :
    pick s (BitVec.ofNat 32 (256 * q)) (rows256 f q hq) (ix2 t j) = part f (s (ix2 t 0)).toNat j q := by
  rw [pick_apply s q hq]
  unfold part
  split
  · next h =>
    rw [dif_pos (by omega)]
    exact congrArg f (congrArg (ix2 · j) (Fin.ext (by show 256 * q + (s (ix2 t 0)).toNat % 256 = (s (ix2 t 0)).toNat; omega)))
  · rfl

/-- The parts of all eight blocks together are the row the word names. -/
theorem sum_part (f : Vec Ideal S2048x1024 .bf16) (n : ℕ) (j : Fin 1024) :
    (∑ q : Fin 8, part f n j q.val) = if h : n < 2048 then f (ix2 ⟨n, h⟩ j) else 0 := by
  unfold part
  split
  · next h =>
    rw [Finset.sum_eq_single (⟨n / 256, by omega⟩ : Fin 8)]
    · rw [if_pos rfl]
    · intro q _ hq
      exact if_neg fun he => hq (Fin.ext he.symm)
    · exact fun hn => absurd (Finset.mem_univ _) hn
  · next h => exact Finset.sum_eq_zero fun q _ => ite_self _

/-- The eight blocks in the order device `c` adds them. -/
theorem sum_order (c : Dev nD) (g : ℕ → EReal) :
    g (2 * c.val) + g (2 * c.val + 1) + g (2 * (prv c 0).val + 0) + g (2 * (prv c 1).val + 0) + g (2 * (prv c 2).val + 0)
      + g (2 * (prv c 0).val + 1) + g (2 * (prv c 1).val + 1) + g (2 * (prv c 2).val + 1) = ∑ q : Fin 8, g q.val := by
  rw [Fin.sum_univ_eight]
  have hc : c = 0 ∨ c = 1 ∨ c = 2 ∨ c = 3 := by revert c; decide
  rcases hc with rfl | rfl | rfl | rfl
  · show g 0 + g 1 + g 6 + g 4 + g 2 + g 7 + g 5 + g 3 = g 0 + g 1 + g 2 + g 3 + g 4 + g 5 + g 6 + g 7
    ac_rfl
  · show g 2 + g 3 + g 0 + g 6 + g 4 + g 1 + g 7 + g 5 = g 0 + g 1 + g 2 + g 3 + g 4 + g 5 + g 6 + g 7
    ac_rfl
  · show g 4 + g 5 + g 2 + g 0 + g 6 + g 3 + g 1 + g 7 = g 0 + g 1 + g 2 + g 3 + g 4 + g 5 + g 6 + g 7
    ac_rfl
  · show g 6 + g 7 + g 4 + g 2 + g 0 + g 5 + g 3 + g 1 = g 0 + g 1 + g 2 + g 3 + g 4 + g 5 + g 6 + g 7
    ac_rfl

variable (In : Inputs Ideal)

/-- The stored result as the eight picks added up. -/
theorem result_parts (c : Dev nD) (t : Fin 2048) (j : Fin 1024) :
    result In c (ix2 t j) = ∑ q : Fin 8, part (fin In c) (In.slot c (ix2 t 0)).toNat j q.val := by
  rw [← sum_order c]
  unfold result acc5 acc4 acc3 acc2 acc1 acc0
  rw [pay12_eq, pay13_eq, pay14_eq, pay15_eq, pay16_eq, pay17_eq, pay18_eq]
  rw [ownRows3_eq, ownRows_eq, awayRows_eq, awayRows_eq, awayRows_eq, awayRows_eq, awayRows_eq, awayRows_eq]
  have a := fun (k : Fin 3) (C : Fin 2) => away_off c k C
  rw [own_off', own_off, show awayOff (word2 c) 1#32 0#32 = _ from a 0 0, show awayOff (word2 c) 2#32 0#32 = _ from a 1 0, show awayOff (word2 c) 3#32 0#32 = _ from a 2 0,
    show awayOff (word2 c) 1#32 256#32 = _ from a 0 1, show awayOff (word2 c) 2#32 256#32 = _ from a 1 1, show awayOff (word2 c) 3#32 256#32 = _ from a 2 1]
  rw [truncf_at]
  simp only [addf_at, pick_part]
  rfl

/-- The stored result: the shared buffer's row at the token's slot, zero where the slot is past the last row. -/
theorem result_apply (c : Dev nD) (t : Fin 2048) (j : Fin 1024) :
    result In c (ix2 t j) = if h : (In.slot c (ix2 t 0)).toNat < 2048 then fin In c (ix2 ⟨_, h⟩ j) else (0 : EReal) :=
  (result_parts In c t j).trans (sum_part _ _ j)

/-- Where the gathered rows past the 51st of every group of 64 are zero, what the buffer holds at the end is what is gathered. -/
theorem fin_gathered (h : ∀ i, 51 ≤ (i (0 : Fin 2)).val % 64 → gathered In i = (0 : EReal)) (c : Dev nD) : fin In c = gathered In := by
  funext i
  unfold fin
  split
  · rfl
  · next hn => exact (Ideal.ofBits_zero .bf16).trans (h i (by omega)).symm

end Cert.KernelIdeal.Moe

end
-- ==== Proof.Chunks.lean ====
/-
  What a device's two chunks hold, over exact numbers: row `k` of chunk `C` is the product of the row the device gathered for its slot
  `256 C + k` with the weights of the device's expert `4 C + k / 64`.
-/
module

public import proofs.«01_k».proof.Proof.Select

@[expose] public section

noncomputable section

namespace Cert.KernelIdeal.Moe

open Idealize.ShloMosaic Idealize.ShloMosaic.TcCoe
open Cert.KernelIdeal Cert.KernelIdeal.Gen

variable {F : FTy → Type} [FloatOps F]

/-- Sixty-four gathered rows through one expert. -/
def through (g : FVec F S64x512 .bf16) (w : Vec F S1x512x1024 .f32) : FVec F S64x1024 .bf16 :=
  truncf .bf16 (matmul dot_S64x512_S512x1024_S64x1024_1_0_0_1_n_n none g
    (truncf .bf16 (shapeCast S512x1024 w shapeCasts_S1x512x1024_S512x1024) bitsLt_bf16_f32) (constant S64x1024 .f32 0x00000000#32)) bitsLt_bf16_f32

/-- A chunk: its rows in four groups, each through its own expert. -/
def blockOf (g : FVec F S256x512 .bf16) (w : Fin 4 → Vec F S1x512x1024 .f32) : FVec F S256x1024 .bf16 :=
  shapeCast S256x1024 (concatenate S256x1024 0
    [⟨S64x1024, through (extractStridedSlice S64x512 ![0, 0] g slices_S256x512_o0_0_S64x512) (w 0)⟩,
     ⟨S64x1024, through (extractStridedSlice S64x512 ![64, 0] g slices_S256x512_o64_0_S64x512) (w 1)⟩,
     ⟨S64x1024, through (extractStridedSlice S64x512 ![128, 0] g slices_S256x512_o128_0_S64x512) (w 2)⟩,
     ⟨S64x1024, through (extractStridedSlice S64x512 ![192, 0] g slices_S256x512_o192_0_S64x512) (w 3)⟩]
    concatenates_S64x1024_S64x1024_S64x1024_S64x1024_S256x1024_d0) shapeCasts_S256x1024_S256x1024

variable (In : Inputs F)

/-- The first chunk as the block of the gathered tokens and the first four experts. -/
theorem chunk0_eq (m : Dev nD) : chunk0 In m
    = blockOf (truncf .bf16 (gather (In.lslot m) 0#32 (k0_pay2 (In.x m))) bitsLt_bf16_f32) fun e => wRow (In.w m) ⟨e.val, by omega⟩ := rfl

/-- The second chunk as the block of the gathered tokens and the last four experts. -/
theorem chunk1_eq (m : Dev nD) : chunk1 In m
    = blockOf (truncf .bf16 (gather (In.lslot m) 256#32 (k0_pay2 (In.x m))) bitsLt_bf16_f32) fun e => wRow (In.w m) ⟨4 + e.val, by omega⟩ := rfl

/-- Rows through an expert, at a row and a column. -/
theorem through_apply (g : FVec Ideal S64x512 .bf16) (w : Vec Ideal S1x512x1024 .f32) (r : Fin 64) (j : Fin 1024) :
    through g w (ix2 r j) = ∑ d : Fin 512, (g (ix2 r d) : EReal) * w (ix3 0 d j) := by
  unfold through; pointwise

/-- One of a chunk's four groups, at a row and a column. -/
theorem group_apply (g : FVec Ideal S256x512 .bf16) (w : Vec Ideal S1x512x1024 .f32) (o : ℕ) (ho : o + 64 ≤ 256) (h : S256x512.Slices ![o, 0] S64x512)
    (r : Fin 64) (j : Fin 1024) : through (extractStridedSlice S64x512 ![o, 0] g h) w (ix2 r j)
      = ∑ d : Fin 512, (g (ix2 ⟨o + r.val, by omega⟩ d) : EReal) * w (ix3 0 d j) := by
  rw [through_apply]
  refine Finset.sum_congr rfl fun d _ => congrArg (· * _) (congrArg g (funext fun a => Fin.ext ?_))
  match a with
  | ⟨0, _⟩ => rfl
  | ⟨1, _⟩ => exact Nat.zero_add _

/-- A group of 64 rows lies inside the gathered tokens. -/
theorem slices_group (n : Fin 4) : S256x512.Slices ![64 * n.val, 0] S64x512 := by
  revert n; decide

/-- A chunk, at a row and a column. -/
theorem blockOf_apply (g : FVec Ideal S256x512 .bf16) (w : Fin 4 → Vec Ideal S1x512x1024 .f32) (k : Fin 256) (j : Fin 1024) (e : Fin 4) (he : k.val / 64 = e.val) :
    blockOf g w (ix2 k j) = ∑ d : Fin 512, (g (ix2 k d) : EReal) * w e (ix3 0 d j) := by
  have hk := k.isLt
  unfold blockOf
  rw [shapeCast_self]
  refine (concatenate_ofFn_apply (t := S256x1024) (s₁ := S64x1024) 0
    (fun n : Fin 4 => through (extractStridedSlice S64x512 ![64 * n.val, 0] g (slices_group n)) (w n))
    concatenates_S64x1024_S64x1024_S64x1024_S64x1024_S256x1024_d0 rfl 64 rfl (ix2 k j) e he (ix2 ⟨k.val % 64, Nat.mod_lt _ (by decide)⟩ j) rfl ?_).trans ?_
  · intro b hb
    match b with
    | ⟨0, _⟩ => exact absurd rfl hb
    | ⟨1, _⟩ => rfl
  · rw [group_apply g (w e) (64 * e.val) (by omega)]
    refine Finset.sum_congr rfl fun d _ => congrArg (· * _) (congrArg g (congrArg (ix2 · d) (Fin.ext ?_)))
    dsimp only
    omega

/-- Expert `e`'s weights as loaded, at a row and a column. -/
theorem wRow_apply (w : Vec F S8x512x1024 .f32) (e : Fin 8) (d : Fin 512) (j : Fin 1024) : wRow w e (ix3 0 d j) = w (ix3 e d j) := by
  unfold wRow
  refine congrArg w (funext fun a => Fin.ext ?_)
  match a with
  | ⟨0, _⟩ => exact (show e.val + 1 * 0 = e.val by omega)
  | ⟨1, _⟩ => exact (show 0 + 1 * d.val = d.val by omega)
  | ⟨2, _⟩ => exact (show 0 + 1 * j.val = j.val by omega)

/-- What the device gathers for slot `k` of a chunk whose first slot is `off`. -/
theorem gather_apply (s : IVec S2048x1 32) (off : ℕ) (x : Vec Ideal S2048x512 .f32) (k : Fin 256) (d : Fin 512) :
    truncf .bf16 (gather s (BitVec.ofNat 32 off) (k0_pay2 x)) bitsLt_bf16_f32 (ix2 k d)
      = ∑ t : Fin 2048, (if s (ix2 t 0) = BitVec.ofNat 32 (off + k.val) then (1 : EReal) else 0) * x (ix2 t d) := by
  have h : truncf .bf16 (gather s (BitVec.ofNat 32 off) (k0_pay2 x)) bitsLt_bf16_f32 (ix2 k d) = gather s (BitVec.ofNat 32 off) (k0_pay2 x) (ix2 k d) := rfl
  rw [h, gather_sum]
  refine Finset.sum_congr rfl fun t _ => ?_
  have hx : k0_pay2 (F := Ideal) x (ix2 t d) = x (ix2 t d) := by
    unfold k0_pay2; pointwise
  rw [hot_apply, hx, ← BitVec.ofNat_add, Nat.add_comm k.val off]

/-- A chunk the device stores, at a row and a column. -/
theorem chunkVal_apply (In : Inputs Ideal) (m : Dev nD) (C : Fin 2) (k : Fin 256) (j : Fin 1024) (e : Fin 8) (he : 4 * C.val + k.val / 64 = e.val) :
    chunkVal In m C (ix2 k j) = ∑ d : Fin 512,
      (∑ t : Fin 2048, (if In.lslot m (ix2 t 0) = BitVec.ofNat 32 (256 * C.val + k.val) then (1 : EReal) else 0) * In.x m (ix2 t d)) * In.w m (ix3 e d j) := by
  have hk := k.isLt
  have hq : k.val / 64 < 4 := by omega
  have hC : ∀ C : Fin 2, C = 0 ∨ C = 1 := by decide
  unfold chunkVal
  rcases hC C with rfl | rfl
  · change 4 * 0 + k.val / 64 = e.val at he
    rw [if_pos rfl, chunk0_eq, blockOf_apply _ _ k j ⟨k.val / 64, hq⟩ rfl]
    refine Finset.sum_congr rfl fun d _ => ?_
    rw [gather_apply (In.lslot m) 0, wRow_apply]
    exact congrArg (_ * ·) (congrArg (fun e => In.w m (ix3 e d j)) (Fin.ext (by dsimp only; omega)))
  · change 4 * 1 + k.val / 64 = e.val at he
    rw [if_neg (by decide), chunk1_eq, blockOf_apply _ _ k j ⟨k.val / 64, hq⟩ rfl]
    refine Finset.sum_congr rfl fun d _ => ?_
    rw [gather_apply (In.lslot m) 256, wRow_apply]
    exact congrArg (_ * ·) (congrArg (fun e => In.w m (ix3 e d j)) (Fin.ext (by dsimp only; omega)))

end Cert.KernelIdeal.Moe

end
-- ==== Proof.Reads.lean ====
/-
  What the host operations before the kernel leave in the buffers the kernel reads: each stretch of them read as one term over the buffers before it.
-/
module

public import proofs.«01_k».proof.Proof.Gen.KernelIdeal.Regions
public import Idealize.ShloMosaic.Lib.StableHlo.ReadAt

@[expose] public section

noncomputable section

namespace Cert.KernelIdeal.Moe

open Idealize.ShloMosaic Idealize.ShloMosaic.TcCoe
open Cert.KernelIdeal Cert.KernelIdeal.Gen

variable {F : FTy → Type} [FloatOps F]

/-- The tokens' experts as a vector. -/
def experts (a : IVec S2048x1 32) : IVec S2048 32 := shapeCast S2048 a shapeCasts_S2048x1_S2048

/-- Which tokens chose which expert, one row per token. -/
def chosen (a : IVec S2048x1 32) : IVec S2048x32 1 :=
  cmpi .eq (broadcastInDim S2048x32 ![0, 1] bcast_S2048x1_S2048x32_0_1 (broadcastInDim S2048x1 ![0] bcast_S2048_S2048x1_0 (experts a)))
    (broadcastInDim S2048x32 ![0, 1] bcast_S1x32_S2048x32_0_1 (broadcastInDim S1x32 ![1] bcast_S32_S1x32_1 (iotaInDim S32 32 0)))

/-- The running count of each expert's tokens, down the tokens. -/
def running (h : FVec F S2048x32 .f32) : FVec F S2048x32 .f32 :=
  Host.reduceWindowAdd ![2048, 1] ![1, 1] ![2047, 0] ![0, 0] h (broadcastInDim S_ ![] bcast_S_S_ (constant S_ .f32 0x00000000#32))
    reduceWindows_S2048x32_S2048x32_w2048s1p2047_0_w1s1p0_0 h_S_

/-- A number for every token. -/
def all (x : BitVec 32) : IVec S2048 32 := broadcastInDim S2048 ![] bcast_S_S2048 (constantI S_ 32 x)

/-- Each token's position among the tokens of its expert, counted from one. -/
def position (r : FVec F S2048x32 .f32) (h : FVec F S2048x32 .bf16) : IVec S2048 32 :=
  fptosi 32 (Host.reduceAdd (mulf r (extf .f32 h bitsLt_bf16_f32)) (constant S_ .f32 0x00000000#32) reducesTo_S2048x32_S2048_d1 h_S_)

variable (V : Valuation τ sig (Elt F)) (c : Dev nD)

/-- The list of experts. -/
theorem read_experts : StableHlo.after hostOps0 V main_v1 = experts (V main_arg2) := by
  simp only [hostOps0]; after_results_simp <;> rfl
/-- The comparisons with all experts, as numbers. -/
theorem read_hot : StableHlo.after hostOps0 V main_v8 = uitofp .bf16 (chosen (V main_arg2)) := by
  simp only [hostOps0]; after_results_simp <;> rfl
/-- The same in the wider format. -/
theorem read_hot32 : StableHlo.after hostOps0 V main_v9 = extf .f32 (uitofp .bf16 (chosen (V main_arg2))) bitsLt_bf16_f32 := by
  simp only [hostOps0]; after_results_simp <;> rfl
/-- The running counts of every expert. -/
theorem read_running : StableHlo.after hostOps0_1 V main_v10 = running (V main_v9) := by
  simp only [hostOps0_1, StableHlo.TRef.nullary, StableHlo.TRef.binary, StableHlo.TRef.unary, StableHlo.TRef.toBuf, StableHlo.TRef.ofBuf, cast_eq]
  after_results_simp <;> rfl
/-- Which tokens have a position of at most 51. -/
theorem read_kept : StableHlo.after hostOps0_2 V main_v16 = cmpi .sle (position (V main_v10) (V main_v8)) (all 51#32) := by
  simp only [hostOps0_2]; after_results_simp <;> rfl
/-- The slot a token has where it is kept. -/
theorem read_place : StableHlo.after hostOps0_2 V main_v21
    = addi (muli (V main_v1) (all 64#32)) (subi (position (V main_v10) (V main_v8)) (all 1#32)) := by
  simp only [hostOps0_2]; after_results_simp <;> rfl
/-- The number −1. -/
theorem read_none : StableHlo.after hostOps0_2 V main_c_2 = constantI S_ 32 4294967295#32 := by
  simp only [hostOps0_2]; after_results_simp <;> rfl
/-- The slots: that of a kept token, else −1. -/
theorem read_slot : StableHlo.after hostOps0_3 V main_v22 = select (V main_v16) (V main_v21) (broadcastInDim S2048 ![] bcast_S_S2048 (V main_c_2)) := by
  simp only [hostOps0_3, StableHlo.TRef.ternary, StableHlo.TRef.unary, StableHlo.TRef.toBuf, StableHlo.TRef.ofBuf, cast_eq]
  after_results_simp <;> rfl

/-- The device's number, as the host operations work it out. -/
def number : IVec S_ 32 := Host.remui (Host.divui (constantI S_ 32 (Dev.word c)) (constantI S_ 32 1#32)) (constantI S_ 32 4#32)

/-- Which tokens are kept and served by the device. -/
theorem read_mine : StableHlo.after (hostOps0_4 c) V main_v35
    = andi (andi (V main_v16) (cmpi .sge (V main_v1) (broadcastInDim S2048 ![] bcast_S_S2048 (muli (number c) (constantI S_ 32 8#32)))))
        (cmpi .slt (V main_v1) (broadcastInDim S2048 ![] bcast_S_S2048 (muli (addi (number c) (constantI S_ 32 1#32)) (constantI S_ 32 8#32)))) := by
  simp only [hostOps0_4]; after_results_simp <;> rfl
/-- The slots counted from the device's first. -/
theorem read_lplace : StableHlo.after (hostOps0_4 c) V main_v38
    = subi (V main_v22) (broadcastInDim S2048 ![] bcast_S_S2048 (muli (number c) (constantI S_ 32 512#32))) := by
  simp only [hostOps0_4]; after_results_simp <;> rfl
/-- The number −1 again. -/
theorem read_lnone : StableHlo.after (hostOps0_4 c) V main_c_9 = constantI S_ 32 4294967295#32 := by
  simp only [hostOps0_4]; after_results_simp <;> rfl
/-- The slots that the device serves, else −1. -/
theorem read_lslot : StableHlo.after hostOps0_5 V main_v39 = select (V main_v35) (V main_v38) (broadcastInDim S2048 ![] bcast_S_S2048 (V main_c_9)) := by
  simp only [hostOps0_5, StableHlo.TRef.ternary, StableHlo.TRef.unary, StableHlo.TRef.toBuf, StableHlo.TRef.ofBuf, cast_eq]
  after_results_simp <;> rfl
/-- Those slots as a column. -/
theorem read_lcol : StableHlo.after hostOps0_6 V main_v40 = broadcastInDim S2048x1 ![0] bcast_S2048_S2048x1_0 (V main_v39) := by
  simp only [hostOps0_6]; after_results_simp <;> rfl
/-- All slots as a column. -/
theorem read_col : StableHlo.after hostOps0_6 V main_v41 = broadcastInDim S2048x1 ![0] bcast_S2048_S2048x1_0 (V main_v22) := by
  simp only [hostOps0_6]; after_results_simp <;> rfl

end Cert.KernelIdeal.Moe

end
-- ==== Proof.Slots.lean ====
/-
  The two slot arrays the kernel reads, as terms over the tokens' experts.
-/
module

public import proofs.«01_k».proof.Proof.Reads

@[expose] public section

noncomputable section

namespace Cert.KernelIdeal.Moe

open Idealize.ShloMosaic Idealize.ShloMosaic.TcCoe
open Cert.KernelIdeal Cert.KernelIdeal.Gen

variable {F : FTy → Type} [FloatOps F]

/-- The tokens' choices as zeros and ones. -/
def hotE (F : FTy → Type) [FloatOps F] (a : IVec S2048x1 32) : FVec F S2048x32 .bf16 := uitofp .bf16 (chosen a)

/-- Each token's position among its expert's tokens, from the tokens' experts. -/
def positions (F : FTy → Type) [FloatOps F] (a : IVec S2048x1 32) : IVec S2048 32 :=
  position (running (extf .f32 (hotE F a) bitsLt_bf16_f32)) (hotE F a)

/-- Which tokens an expert takes. -/
def taken (F : FTy → Type) [FloatOps F] (a : IVec S2048x1 32) : IVec S2048 1 := cmpi .sle (positions F a) (all 51#32)

/-- The slot of every token, `-1` for a token that is not taken. -/
def slotOf (F : FTy → Type) [FloatOps F] (a : IVec S2048x1 32) : IVec S2048 32 :=
  select (taken F a) (addi (muli (experts a) (all 64#32)) (subi (positions F a) (all 1#32))) (all 4294967295#32)

/-- Device `c`'s word times a number, for every token. -/
def ofNumber (c : Dev nD) (x : IVec S_ 32) : IVec S2048 32 := broadcastInDim S2048 ![] bcast_S_S2048 (muli (number c) x)

/-- The slot, counted from the device's first, of every token whose expert lies on device `c`; `-1` for the others. -/
def lslots (F : FTy → Type) [FloatOps F] (c : Dev nD) (a : IVec S2048x1 32) : IVec S2048 32 :=
  select (andi (andi (taken F a) (cmpi .sge (experts a) (ofNumber c (constantI S_ 32 8#32))))
      (cmpi .slt (experts a) (broadcastInDim S2048 ![] bcast_S_S2048 (muli (addi (number c) (constantI S_ 32 1#32)) (constantI S_ 32 8#32)))))
    (subi (slotOf F a) (ofNumber c (constantI S_ 32 512#32))) (all 4294967295#32)

/-- A vector as a column. -/
def column (x : IVec S2048 32) : IVec S2048x1 32 := broadcastInDim S2048x1 ![0] bcast_S2048_S2048x1_0 x

variable (m : (ℓ : Loc nD τ sig) → Buf (Elt F) ℓ) (c : Dev nD)

/-- The running counts before the third group of host operations, -/
theorem V2_running : V2 m c main_v10 = running (extf .f32 (hotE F (m (c, main_arg2))) bitsLt_bf16_f32) :=
  (read_running _).trans (congrArg running (read_hot32 _))
/-- the comparisons, -/
theorem V2_hot : V2 m c main_v8 = hotE F (m (c, main_arg2)) := (V2_of m c main_v8 (by decide)).trans (read_hot _)
/-- and the list of experts. -/
theorem V2_experts : V2 m c main_v1 = experts (m (c, main_arg2)) := (V2_of m c main_v1 (by decide)).trans (read_experts _)

/-- Which tokens are taken, before the fourth group, -/
theorem V3_taken : V3 m c main_v16 = taken F (m (c, main_arg2)) :=
  (read_kept _).trans (by rw [V2_running, V2_hot]; rfl)
/-- the slots they have, -/
theorem V3_place : V3 m c main_v21
    = addi (muli (experts (m (c, main_arg2))) (all 64#32)) (subi (positions F (m (c, main_arg2))) (all 1#32)) :=
  (read_place _).trans (by rw [V2_running, V2_hot, V2_experts]; rfl)
/-- and the number −1. -/
theorem V3_none : V3 m c main_c_2 = constantI S_ 32 4294967295#32 := read_none _
/-- The slots before the fifth group, -/
theorem V4_slots : V4 m c main_v22 = slotOf F (m (c, main_arg2)) :=
  (read_slot _).trans (by rw [V3_taken, V3_place, V3_none]; rfl)
/-- the list of experts, -/
theorem V4_experts : V4 m c main_v1 = experts (m (c, main_arg2)) :=
  (V4_of m c main_v1 (by decide)).trans ((V3_of m c main_v1 (by decide)).trans (V2_experts m c))
/-- and which tokens are taken. -/
theorem V4_taken : V4 m c main_v16 = taken F (m (c, main_arg2)) := (V4_of m c main_v16 (by decide)).trans (V3_taken m c)

/-- The slots before the last group. -/
theorem V6_slots : V6 m c main_v22 = slotOf F (m (c, main_arg2)) :=
  (V6_of m c main_v22 (by decide)).trans ((V5_of m c main_v22 (by decide)).trans (V4_slots m c))

/-- Which tokens the device serves, before the sixth group, -/
theorem V5_mine : V5 m c main_v35
    = andi (andi (V4 m c main_v16) (cmpi .sge (V4 m c main_v1) (ofNumber c (constantI S_ 32 8#32))))
        (cmpi .slt (V4 m c main_v1) (broadcastInDim S2048 ![] bcast_S_S2048 (muli (addi (number c) (constantI S_ 32 1#32)) (constantI S_ 32 8#32)))) :=
  read_mine _ c
/-- the slots counted from its first, -/
theorem V5_lplace : V5 m c main_v38 = subi (V4 m c main_v22) (ofNumber c (constantI S_ 32 512#32)) := read_lplace _ c
/-- and the number −1. -/
theorem V5_lnone : V5 m c main_c_9 = constantI S_ 32 4294967295#32 := read_lnone _ c

/-- The slots the device serves, before the last group. -/
theorem V6_lslots : V6 m c main_v39 = lslots F c (m (c, main_arg2)) :=
  (read_lslot _).trans (by rw [V5_mine, V5_lplace, V5_lnone, V4_slots, V4_experts, V4_taken]; rfl)

/-- The kernel's array of all slots. -/
theorem V7_slot : V7 m c main_v41 = column (slotOf F (m (c, main_arg2))) := (read_col _).trans (congrArg column (V6_slots m c))

/-- The kernel's array of the slots its device serves. -/
theorem V7_lslot : V7 m c main_v40 = column (lslots F c (m (c, main_arg2))) := (read_lcol _).trans (congrArg column (V6_lslots m c))

end Cert.KernelIdeal.Moe

end
-- ==== Proof.Running.lean ====
/-
  The running count over exact numbers: down to token `t`, column `k` holds the sum of that column's entries at the tokens up to and including `t`.
-/
module

public import proofs.«01_k».proof.Proof.Slots
public import Idealize.ShloMosaic.Lib.Pointwise

@[expose] public section

noncomputable section

namespace Cert.KernelIdeal.Moe

open Idealize.ShloMosaic Idealize.ShloMosaic.TcCoe
open Cert.KernelIdeal Cert.KernelIdeal.Gen

/-- Adding up along a list from a start is the start and the list's sum. -/
theorem foldl_add {ι : Type} (g : ι → EReal) : ∀ (l : List ι) (r : EReal), l.foldl (fun r n => r + g n) r = r + (l.map g).sum
  | [], r => by simp
  | a :: l, r => by rw [List.foldl_cons, foldl_add g l, List.map_cons, List.sum_cons, add_assoc]

/-- A sum over a window that ends at `t`, of the entries at or after the start, is the sum of the entries up to `t`. -/
theorem sum_window (x : Fin 2048 → EReal) (t : Fin 2048) :
    (∑ p : Fin 2048, if h : 2047 ≤ t.val + p.val then x ⟨t.val + p.val - 2047, by have := t.isLt; have := p.isLt; omega⟩ else 0)
      = ∑ t' : Fin 2048, if t'.val ≤ t.val then x t' else 0 := by
  have ht := t.isLt
  rw [← Finset.sum_filter]
  rw [Finset.sum_dite, Finset.sum_const_zero, add_zero]
  refine Finset.sum_bij' (fun p _ => ⟨t.val + p.1.val - 2047, by have := p.1.isLt; omega⟩)
    (fun t' h => ⟨⟨t'.val + 2047 - t.val, by have := (Finset.mem_filter.1 h).2; omega⟩, Finset.mem_filter.2 ⟨Finset.mem_univ _, by dsimp only; omega⟩⟩)
    (fun p _ => Finset.mem_filter.2 ⟨Finset.mem_univ _, by have := p.1.isLt; dsimp only; omega⟩) (fun _ _ => Finset.mem_attach _ _) ?_ ?_ ?_
  · intro p _
    have h := (Finset.mem_filter.1 p.2).2
    exact Subtype.ext (Fin.ext (by dsimp only; omega))
  · intro t' h
    have := (Finset.mem_filter.1 h).2
    exact Fin.ext (by dsimp only; omega)
  · intro p _
    rfl

/-- A sum over windows that start from zero and end at a token, read at a token and an expert. -/
theorem windows_apply (h : FVec Ideal S2048x32 .f32) (v : FVec Ideal S_ .f32) (hv : v (Shape.Idx.first h_S_) = (0 : EReal)) (t : Fin 2048) (k : Fin 32) :
    Host.reduceWindowAdd ![2048, 1] ![1, 1] ![2047, 0] ![0, 0] h v reduceWindows_S2048x32_S2048x32_w2048s1p2047_0_w1s1p0_0 h_S_ (ix2 t k)
      = ∑ t' : Fin 2048, if t'.val ≤ t.val then h (ix2 t' k) else 0 := by
  have e : Host.reduceWindowAdd ![2048, 1] ![1, 1] ![2047, 0] ![0, 0] h v reduceWindows_S2048x32_S2048x32_w2048s1p2047_0_w1s1p0_0 h_S_ (ix2 t k)
      = Ideal.hostReduceWindowAdd ![2048, 1] ![1, 1] ![2047, 0] ![0, 0]
          reduceWindows_S2048x32_S2048x32_w2048s1p2047_0_w1s1p0_0 h (v (Shape.Idx.first h_S_)) (ix2 t k) := rfl
  rw [e, hv]
  unfold Ideal.hostReduceWindowAdd Host.reduceWindow
  dsimp only
  rw [foldl_add, zero_add, ← Fin.sum_univ_def]
  rw [← Equiv.sum_comp (⟨2, ![2048, 1]⟩ : Shape).rowMajor]
  rw [sum_idx2 (n0 := 2048) (n1 := 1)]
  rw [← sum_window (fun t' => h (ix2 t' k)) t]
  refine Finset.sum_congr rfl fun p _ => ?_
  rw [Fin.sum_univ_one]
  have hw : (⟨2, ![2048, 1]⟩ : Shape).rowMajor.symm ((⟨2, ![2048, 1]⟩ : Shape).rowMajor (ix2 p 0)) = ix2 p 0 := Equiv.symm_apply_apply _ _
  have hw0 : ((⟨2, ![2048, 1]⟩ : Shape).rowMajor.symm ((⟨2, ![2048, 1]⟩ : Shape).rowMajor (ix2 p 0)) 0).val = p.val := by rw [hw]; rfl
  have hw1 : ((⟨2, ![2048, 1]⟩ : Shape).rowMajor.symm ((⟨2, ![2048, 1]⟩ : Shape).rowMajor (ix2 p 0)) 1).val = 0 := by rw [hw]; rfl
  clear hw
  by_cases hp : 2047 ≤ t.val + p.val
  · rw [dif_pos hp, dif_pos]
    · refine congrArg h (funext fun a => Fin.ext ?_)
      match a with
      | ⟨0, _⟩ => exact (congrArg (fun n => t.val * 1 + n - 2047) hw0).trans (show t.val * 1 + p.val - 2047 = t.val + p.val - 2047 by omega)
      | ⟨1, _⟩ => exact (congrArg (fun n => k.val * 1 + n - 0) hw1).trans (show k.val * 1 + 0 - 0 = k.val by omega)
    · intro a
      have ht := t.isLt
      have hp' := p.isLt
      have hk := k.isLt
      match a with
      | ⟨0, _⟩ => exact Eq.mpr (congrArg (fun n => 2047 ≤ t.val * 1 + n ∧ t.val * 1 + n - 2047 < 2048) hw0) (by omega)
      | ⟨1, _⟩ => exact Eq.mpr (congrArg (fun n => 0 ≤ k.val * 1 + n ∧ k.val * 1 + n - 0 < 32) hw1) (by omega)
  · rw [dif_neg hp, dif_neg]
    intro hin
    have h0 := Eq.mp (congrArg (fun n => 2047 ≤ t.val * 1 + n ∧ t.val * 1 + n - 2047 < 2048) hw0) (hin 0)
    omega

/-- The running count, read at a token and an expert. -/
theorem running_apply (h : FVec Ideal S2048x32 .f32) (t : Fin 2048) (k : Fin 32) :
    running h (ix2 t k) = ∑ t' : Fin 2048, if t'.val ≤ t.val then h (ix2 t' k) else 0 := by
  unfold running
  exact windows_apply h _ (by pointwise) t k

end Cert.KernelIdeal.Moe

end
-- ==== Proof.Rank.lean ====
/-
  The rank of a token: how many earlier tokens chose the same expert. Two tokens of one expert have different ranks.
-/
module

public import Idealize.ShloMosaic.Lib.Pointwise

@[expose] public section

namespace Cert.KernelIdeal.Moe

/-- How many tokens before token `t` chose the expert `t` chose. -/
def rank (e : Fin 2048 → BitVec 32) (t : Fin 2048) : ℕ := (Finset.univ.filter fun t' => e t' = e t ∧ t' < t).card

/-- A rank is below the number of tokens. -/
theorem rank_lt (e : Fin 2048 → BitVec 32) (t : Fin 2048) : rank e t < 2048 := by
  have h : (Finset.univ.filter fun t' => e t' = e t ∧ t' < t) ⊂ Finset.univ :=
    Finset.ssubset_univ_iff.2 fun h => by
      have := (Finset.mem_filter.1 (h ▸ Finset.mem_univ t)).2.2
      exact absurd this (lt_irrefl t)
  exact (Finset.card_lt_card h).trans_eq (by simp)

/-- A later token of the same expert has the greater rank. -/
theorem rank_mono (e : Fin 2048 → BitVec 32) {t t' : Fin 2048} (he : e t = e t') (ht : t < t') : rank e t < rank e t' := by
  refine Finset.card_lt_card (Finset.ssubset_iff_of_subset (fun s hs => ?_) |>.2 ⟨t, ?_, ?_⟩)
  · have h := (Finset.mem_filter.1 hs).2
    exact Finset.mem_filter.2 ⟨Finset.mem_univ _, h.1.trans he, h.2.trans ht⟩
  · exact Finset.mem_filter.2 ⟨Finset.mem_univ _, he, ht⟩
  · exact fun h => absurd (Finset.mem_filter.1 h).2.2 (lt_irrefl t)

/-- Tokens of one expert with one rank are one token. -/
theorem rank_inj (e : Fin 2048 → BitVec 32) {t t' : Fin 2048} (he : e t = e t') (hr : rank e t = rank e t') : t = t' := by
  rcases lt_trichotomy t t' with h | h | h
  · exact absurd (rank_mono e he h) (by omega)
  · exact h
  · exact absurd (rank_mono e he.symm h) (by omega)

/-- Counting a token too: one more than its rank. -/
theorem rank_succ (e : Fin 2048 → BitVec 32) (t : Fin 2048) : (Finset.univ.filter fun t' => e t' = e t ∧ t' ≤ t).card = rank e t + 1 := by
  have h : (Finset.univ.filter fun t' => e t' = e t ∧ t' ≤ t) = insert t (Finset.univ.filter fun t' => e t' = e t ∧ t' < t) := by
    ext s
    simp only [Finset.mem_filter, Finset.mem_univ, true_and, Finset.mem_insert]
    constructor
    · rintro ⟨h1, h2⟩
      rcases h2.eq_or_lt with h | h
      · exact .inl h
      · exact .inr ⟨h1, h⟩
    · rintro (rfl | ⟨h1, h2⟩)
      · exact ⟨rfl, le_refl _⟩
      · exact ⟨h1, h2.le⟩
  rw [h, Finset.card_insert_of_notMem fun hm => absurd (Finset.mem_filter.1 hm).2.2 (lt_irrefl t), rank]

end Cert.KernelIdeal.Moe
-- ==== Proof.Positions.lean ====
/-
  The position the host operations give every token: one more than its rank where its expert exists, zero where it does not.
-/
module

public import proofs.«01_k».proof.Proof.Running
public import proofs.«01_k».proof.Proof.Rank

@[expose] public section

noncomputable section

namespace Cert.KernelIdeal.Moe

open Idealize.ShloMosaic Idealize.ShloMosaic.TcCoe
open Cert.KernelIdeal Cert.KernelIdeal.Gen

/-- The expert token `t` chose. -/
def ex (a : IVec S2048x1 32) (t : Fin 2048) : BitVec 32 := a (ix2 t 0)

variable (a : IVec S2048x1 32)

/-- The list of experts at a token. -/
theorem experts_apply (t : Fin 2048) : experts a (ix1 t) = ex a t := by
  unfold experts ex; pointwise

/-- A number repeated over the tokens, at a token. -/
theorem all_apply (x : BitVec 32) (t : Fin 2048) : all x (ix1 t) = x := by
  unfold all; pointwise

/-- The comparison of a token's expert with an expert. -/
theorem chosen_apply (t : Fin 2048) (k : Fin 32) : chosen a (ix2 t k) = BitVec.ofBool (ex a t == BitVec.ofNat 32 k.val) := by
  unfold chosen experts ex; pointwise; rfl

/-- A one-bit word of a test as a number: one where it holds, zero where it does not. -/
theorem bit_val (b : Bool) : (((BitVec.ofBool b).toNat : ℝ) : EReal) = if b then 1 else 0 := by
  cases b <;> simp

/-- The comparison as a number: one at the token's expert, zero elsewhere. -/
theorem hotE_apply (t : Fin 2048) (k : Fin 32) : hotE Ideal a (ix2 t k) = if ex a t = BitVec.ofNat 32 k.val then (1 : EReal) else 0 := by
  have h : hotE Ideal a (ix2 t k) = (((chosen a (ix2 t k)).toNat : ℝ) : EReal) := rfl
  rw [h, chosen_apply, bit_val]
  simp

/-- A whole number that fits in a word converts to the word of that number. -/
theorem fptosi_nat (n : ℕ) (hn : n < 2 ^ 31) : Ideal.fptosi 32 (n : EReal) = BitVec.ofNat 32 n := by
  have h : ((n : ℕ) : EReal) = ((n : ℝ) : EReal) := rfl
  rw [h, Ideal.fptosi, Ideal.toIntClamped_coe]
  rw [if_pos (Nat.cast_nonneg n), Int.floor_natCast]
  rw [min_eq_right (by push_cast; omega), max_eq_right (by push_cast; omega)]
  simp

/-- The count of a token's own expert, down to the token itself. -/
theorem count_apply (t : Fin 2048) :
    (∑ t' : Fin 2048, if t'.val ≤ t.val then (if ex a t' = ex a t then (1 : EReal) else 0) else 0) = ((rank (ex a) t + 1 : ℕ) : EReal) := by
  rw [← rank_succ, ← Finset.sum_boole]
  refine Finset.sum_congr rfl fun t' _ => ?_
  rw [← ite_and]
  exact if_congr (and_comm) rfl rfl

/-- A sum along the experts, from zero. -/
theorem row_sum (x : FVec Ideal S2048x32 .f32) (t : Fin 2048) :
    Host.reduceAdd x (constant S_ .f32 0x00000000#32) reducesTo_S2048x32_S2048_d1 h_S_ (ix1 t) = ∑ k : Fin 32, x (ix2 t k) := by
  pointwise

/-- The position of a token as a sum over the experts. -/
theorem positions_sum (t : Fin 2048) : positions Ideal a (ix1 t)
    = Ideal.fptosi 32 (∑ k : Fin 32, (∑ t' : Fin 2048, if t'.val ≤ t.val then (if ex a t' = BitVec.ofNat 32 k.val then (1 : EReal) else 0) else 0)
        * (if ex a t = BitVec.ofNat 32 k.val then (1 : EReal) else 0)) := by
  have h : positions Ideal a (ix1 t) = Ideal.fptosi 32 (Host.reduceAdd (mulf (running (extf .f32 (hotE Ideal a) bitsLt_bf16_f32)) (extf .f32 (hotE Ideal a) bitsLt_bf16_f32))
      (constant S_ .f32 0x00000000#32) reducesTo_S2048x32_S2048_d1 h_S_ (ix1 t)) := rfl
  rw [h, row_sum]
  refine congrArg (Ideal.fptosi 32) (Finset.sum_congr rfl fun k _ => ?_)
  have h' : mulf (running (extf .f32 (hotE Ideal a) bitsLt_bf16_f32)) (extf .f32 (hotE Ideal a) bitsLt_bf16_f32) (ix2 t k)
      = (running (extf .f32 (hotE Ideal a) bitsLt_bf16_f32) (ix2 t k) : EReal) * hotE Ideal a (ix2 t k) := rfl
  rw [h', running_apply, hotE_apply]
  refine congrArg (· * _) (Finset.sum_congr rfl fun t' _ => ?_)
  have h'' : extf (F := Ideal) .f32 (hotE Ideal a) bitsLt_bf16_f32 (ix2 t' k) = hotE Ideal a (ix2 t' k) := rfl
  rw [h'', hotE_apply]

/-- The position of a token whose expert exists. -/
theorem positions_in (t : Fin 2048) (h : (ex a t).toNat < 32) : positions Ideal a (ix1 t) = BitVec.ofNat 32 (rank (ex a) t + 1) := by
  have hr := rank_lt (ex a) t
  have he : ex a t = BitVec.ofNat 32 (⟨(ex a t).toNat, h⟩ : Fin 32).val := by simp
  rw [positions_sum, Finset.sum_eq_single ⟨(ex a t).toNat, h⟩]
  · rw [← he, if_pos rfl, mul_one, count_apply, fptosi_nat _ (by omega)]
  · intro k _ hk
    rw [if_neg, mul_zero]
    intro hek
    apply hk
    apply Fin.ext
    have := congrArg BitVec.toNat hek
    simp at this
    have := k.isLt
    dsimp only
    omega
  · exact fun hn => absurd (Finset.mem_univ _) hn

/-- The position of a token whose expert does not exist. -/
theorem positions_out (t : Fin 2048) (h : 32 ≤ (ex a t).toNat) : positions Ideal a (ix1 t) = 0#32 := by
  rw [positions_sum, Finset.sum_eq_zero]
  · exact (congrArg (Ideal.fptosi 32) Nat.cast_zero.symm).trans (fptosi_nat 0 (by omega))
  · intro k _
    rw [if_neg, mul_zero]
    intro hek
    have := congrArg BitVec.toNat hek
    simp at this
    have := k.isLt
    omega

end Cert.KernelIdeal.Moe

end
-- ==== Proof.Routing.lean ====
/-
  The slots of the tokens as numbers. A token is kept where its expert exists and fewer than 51 earlier tokens chose it; its slot is then
  64 times the expert plus its rank, and the device that serves the expert counts the slot from the device's own first.
-/
module

public import proofs.«01_k».proof.Proof.Positions

@[expose] public section

noncomputable section

namespace Cert.KernelIdeal.Moe

open Idealize.ShloMosaic Idealize.ShloMosaic.TcCoe
open Cert.KernelIdeal Cert.KernelIdeal.Gen

variable (a : IVec S2048x1 32) (t : Fin 2048) (c : Dev nD)

/-- Token `t` gets a place with its expert. -/
def Kept : Prop := (ex a t).toNat < 32 ∧ rank (ex a) t < 51

/-- The row of the shared buffer that token `t`'s result comes from, where it is kept. -/
def rowOf : ℕ := 64 * (ex a t).toNat + rank (ex a) t

/-- Two kept tokens of one place are one token. -/
theorem place_inj {t t' : Fin 2048} (h : Kept a t) (h' : Kept a t') (he : rowOf a t = rowOf a t') : t = t' := by
  unfold rowOf at he
  unfold Kept at h h'
  have h1 : (ex a t).toNat = (ex a t').toNat := by omega
  exact rank_inj (ex a) (BitVec.eq_of_toNat_eq h1) (by omega)

/-- A token is taken where its position is at most 51. -/
theorem taken_apply : taken Ideal a (ix1 t) = IntOp.cmpi .sle (positions Ideal a (ix1 t)) 51#32 := by
  have h : taken Ideal a (ix1 t) = IntOp.cmpi .sle (positions Ideal a (ix1 t)) (all 51#32 (ix1 t)) := rfl
  rw [h, all_apply]

/-- A small number, read as a signed word, is itself. -/
theorem toInt_small (n : ℕ) (h : n < 2 ^ 31) : (BitVec.ofNat 32 n).toInt = n := by
  rw [BitVec.toInt_eq_toNat_of_lt (by rw [BitVec.toNat_ofNat]; omega), BitVec.toNat_ofNat]
  omega

/-- A token of an existing expert is taken where its rank is below 51. -/
theorem taken_in (h : (ex a t).toNat < 32) : taken Ideal a (ix1 t) = 1#1 ↔ rank (ex a) t < 51 := by
  have hr := rank_lt (ex a) t
  rw [taken_apply, positions_in a t h]
  show BitVec.ofBool (BitVec.sle _ _) = 1#1 ↔ _
  rw [BitVec.sle, toInt_small _ (by omega), toInt_small 51 (by omega)]
  by_cases hk : rank (ex a) t < 51
  · rw [decide_eq_true (by push_cast; omega)]; exact ⟨fun _ => hk, fun _ => rfl⟩
  · rw [decide_eq_false (by push_cast; omega)]; exact ⟨fun h => absurd h (by decide), fun h => absurd h hk⟩

/-- A token of no expert is taken. -/
theorem taken_out (h : 32 ≤ (ex a t).toNat) : taken Ideal a (ix1 t) = 1#1 := by
  rw [taken_apply, positions_out a t h]; rfl

/-- A token's slot. -/
theorem slots_apply : slotOf Ideal a (ix1 t)
    = if taken Ideal a (ix1 t) = 1#1 then ex a t * 64#32 + (positions Ideal a (ix1 t) - 1#32) else 4294967295#32 := by
  have h : slotOf Ideal a (ix1 t) = if taken Ideal a (ix1 t) = 1#1 then experts a (ix1 t) * all 64#32 (ix1 t) + (positions Ideal a (ix1 t) - all 1#32 (ix1 t))
      else all 4294967295#32 (ix1 t) := rfl
  rw [h, all_apply, all_apply, all_apply, experts_apply]

/-- The slot of a kept token. -/
theorem slots_kept (h : Kept a t) : (slotOf Ideal a (ix1 t)).toNat = rowOf a t := by
  have h1 := h.1
  have h2 := h.2
  rw [slots_apply, if_pos ((taken_in a t h.1).2 h.2), positions_in a t h.1]
  unfold rowOf
  rw [BitVec.toNat_add, BitVec.toNat_mul, BitVec.toNat_sub, BitVec.toNat_ofNat, BitVec.toNat_ofNat, BitVec.toNat_ofNat]
  omega

/-- The slot of any other token is no row that a token fills: past the last row, or the last row of an expert. -/
theorem slots_not (h : ¬Kept a t) : 2048 ≤ (slotOf Ideal a (ix1 t)).toNat ∨ (slotOf Ideal a (ix1 t)).toNat % 64 = 63 := by
  by_cases h1 : (ex a t).toNat < 32
  · have h2 : ¬rank (ex a) t < 51 := fun h2 => h ⟨h1, h2⟩
    rw [slots_apply, if_neg fun ht => h2 ((taken_in a t h1).1 ht)]
    exact .inl (by decide)
  · have h1' : 32 ≤ (ex a t).toNat := by omega
    rw [slots_apply, if_pos (taken_out a t h1'), positions_out a t h1']
    right
    rw [BitVec.toNat_add, BitVec.toNat_mul, BitVec.toNat_sub, BitVec.toNat_ofNat, BitVec.toNat_ofNat, BitVec.toNat_ofNat]
    omega

/-- The device's number is its own. -/
theorem number_apply : number c ix0 = BitVec.ofNat 32 c.val := by
  revert c; decide

/-- One number for every token, read at a token. -/
theorem scalar_all (x : IVec S_ 32) : broadcastInDim S2048 ![] bcast_S_S2048 x (ix1 t) = x ix0 := by
  pointwise

/-- A signed word at least `8 c` and below `8 c + 8`, for one of four devices, is a small number. -/
theorem word_range (e : BitVec 32) : (BitVec.ofBool (BitVec.sle (BitVec.ofNat 32 c.val * 8#32) e) = 1#1
      ∧ BitVec.ofBool (BitVec.slt e ((BitVec.ofNat 32 c.val + 1#32) * 8#32)) = 1#1) ↔ 8 * c.val ≤ e.toNat ∧ e.toNat < 8 * c.val + 8 := by
  have hc : c.val < 4 := c.isLt
  have b1 : BitVec.ofNat 32 c.val * 8#32 = BitVec.ofNat 32 (8 * c.val) := BitVec.eq_of_toNat_eq (by
    rw [BitVec.toNat_mul, BitVec.toNat_ofNat, BitVec.toNat_ofNat, BitVec.toNat_ofNat]; omega)
  have b2 : (BitVec.ofNat 32 c.val + 1#32) * 8#32 = BitVec.ofNat 32 (8 * c.val + 8) := BitVec.eq_of_toNat_eq (by
    rw [BitVec.toNat_mul, BitVec.toNat_add, BitVec.toNat_ofNat, BitVec.toNat_ofNat, BitVec.toNat_ofNat, BitVec.toNat_ofNat]; omega)
  have hb : ∀ b : Bool, BitVec.ofBool b = 1#1 ↔ b = true := by decide
  rw [hb, hb, b1, b2, BitVec.sle, BitVec.slt, decide_eq_true_iff, decide_eq_true_iff, toInt_small _ (by omega), toInt_small _ (by omega)]
  have hl := e.isLt
  rw [BitVec.toInt_eq_toNat_cond]
  split <;> push_cast <;> omega

/-- The least expert of the device. -/
theorem low_apply : ofNumber c (constantI S_ 32 8#32) (ix1 t) = BitVec.ofNat 32 c.val * 8#32 :=
  (scalar_all t _).trans (congrArg (· * 8#32) (number_apply c))

/-- The next device's least expert. -/
theorem high_apply : broadcastInDim S2048 ![] bcast_S_S2048 (muli (addi (number c) (constantI S_ 32 1#32)) (constantI S_ 32 8#32)) (ix1 t)
    = (BitVec.ofNat 32 c.val + 1#32) * 8#32 :=
  (scalar_all t _).trans (congrArg (fun x => (x + 1#32) * 8#32) (number_apply c))

/-- Three tests at once, read at a token. -/
theorem tests_iff (T : IVec S2048 1) (E L H : IVec S2048 32) : andi (andi T (cmpi .sge E L)) (cmpi .slt E H) (ix1 t) = 1#1
    ↔ T (ix1 t) = 1#1 ∧ BitVec.ofBool (BitVec.sle (L (ix1 t)) (E (ix1 t))) = 1#1 ∧ BitVec.ofBool (BitVec.slt (E (ix1 t)) (H (ix1 t))) = 1#1 := by
  have hand : ∀ x y : BitVec 1, x &&& y = 1#1 ↔ x = 1#1 ∧ y = 1#1 := by decide
  have h : andi (andi T (cmpi .sge E L)) (cmpi .slt E H) (ix1 t)
      = (T (ix1 t) &&& BitVec.ofBool (BitVec.sle (L (ix1 t)) (E (ix1 t)))) &&& BitVec.ofBool (BitVec.slt (E (ix1 t)) (H (ix1 t))) := rfl
  rw [h, hand, hand, and_assoc]

/-- Token `t`'s expert lies on device `c`, and `t` is kept. -/
theorem served_iff : andi (andi (taken Ideal a) (cmpi .sge (experts a) (ofNumber c (constantI S_ 32 8#32))))
      (cmpi .slt (experts a) (broadcastInDim S2048 ![] bcast_S_S2048 (muli (addi (number c) (constantI S_ 32 1#32)) (constantI S_ 32 8#32)))) (ix1 t) = 1#1
    ↔ Kept a t ∧ 8 * c.val ≤ (ex a t).toNat ∧ (ex a t).toNat < 8 * c.val + 8 := by
  have hc : c.val < 4 := c.isLt
  rw [tests_iff, low_apply, high_apply, experts_apply, word_range]
  constructor
  · rintro ⟨h1, h2⟩
    have h3 : (ex a t).toNat < 32 := by omega
    exact ⟨⟨h3, (taken_in a t h3).1 h1⟩, h2⟩
  · rintro ⟨h1, h2⟩
    exact ⟨(taken_in a t h1.1).2 h1.2, h2⟩

/-- The device's slot of token `t` is `n` exactly where `t` is kept and its place is row `n` of the device's block. -/
theorem lslots_iff (n : ℕ) (hn : n < 512) : lslots Ideal c a (ix1 t) = BitVec.ofNat 32 n ↔ Kept a t ∧ rowOf a t = 512 * c.val + n := by
  have hc : c.val < 4 := c.isLt
  have e3 : ofNumber c (constantI S_ 32 512#32) (ix1 t) = BitVec.ofNat 32 (512 * c.val) :=
    (scalar_all t _).trans ((congrArg (· * 512#32) (number_apply c)).trans (BitVec.eq_of_toNat_eq (by
      rw [BitVec.toNat_mul, BitVec.toNat_ofNat, BitVec.toNat_ofNat, BitVec.toNat_ofNat]; omega)))
  have h : lslots Ideal c a (ix1 t) = if _ = 1#1 then slotOf Ideal a (ix1 t) - ofNumber c (constantI S_ 32 512#32) (ix1 t) else all 4294967295#32 (ix1 t) := rfl
  rw [h, all_apply, e3]
  have hl : ∀ x y : BitVec 32, x = y ↔ x.toNat = y.toNat := fun x y => ⟨congrArg _, BitVec.eq_of_toNat_eq⟩
  by_cases hs : Kept a t ∧ 8 * c.val ≤ (ex a t).toNat ∧ (ex a t).toNat < 8 * c.val + 8
  · rw [if_pos ((served_iff a t c).2 hs), hl, BitVec.toNat_sub, slots_kept a t hs.1, BitVec.toNat_ofNat, BitVec.toNat_ofNat]
    have h2 := hs.1.2
    have h3 := hs.2
    constructor
    · intro hp
      refine ⟨hs.1, ?_⟩
      unfold rowOf at hp ⊢
      omega
    · rintro ⟨-, hp⟩
      omega
  · rw [if_neg fun hx => hs ((served_iff a t c).1 hx), hl, BitVec.toNat_ofNat, BitVec.toNat_ofNat]
    constructor
    · intro hp; omega
    · rintro ⟨hk, hp⟩
      refine absurd ⟨hk, ?_⟩ hs
      have h2 := hk.2
      unfold rowOf at hp
      omega

end Cert.KernelIdeal.Moe

end
-- ==== Proof.Gathered.lean ====
/-
  The rows of the shared buffer, over exact numbers: the row at a kept token's place is the token's product with its expert's weights,
  every other row is zero. The device's result follows.
-/
module

public import proofs.«01_k».proof.Proof.Collect
public import proofs.«01_k».proof.Proof.Chunks
public import proofs.«01_k».proof.Proof.Routing

@[expose] public section

noncomputable section

namespace Cert.KernelIdeal.Moe

open Idealize.ShloMosaic Idealize.ShloMosaic.TcCoe
open Cert.KernelIdeal Cert.KernelIdeal.Gen

/-- The weights of all experts of all devices. -/
abbrev Weights := FVec Ideal ⟨3, ![32, 512, 1024]⟩ .f32

variable (x : FVec Ideal S2048x512 .f32) (W : Weights) (a : IVec S2048x1 32)

/-- Token `t`'s product with expert `e`'s weights, at column `j`. -/
def product (t : Fin 2048) (e : Fin 32) (j : Fin 1024) : EReal := ∑ d : Fin 512, x (ix2 t d) * W (ix3 e d j)

open Classical in
/-- The layer's output: a kept token's product with its expert's weights, zero for a token that is not kept. -/
def moe (t : Fin 2048) (j : Fin 1024) : EReal := if h : Kept a t then product x W t ⟨(ex a t).toNat, h.1⟩ j else 0

/-- Every device starts from the tokens, the slots of all tokens, those it serves, and its eight experts' weights. -/
structure Starts (In : Inputs Ideal) : Prop where
  x_eq : ∀ c, In.x c = x
  slot_eq : ∀ c t, In.slot c (ix2 t 0) = slotOf Ideal a (ix1 t)
  lslot_eq : ∀ c t, In.lslot c (ix2 t 0) = lslots Ideal c a (ix1 t)
  w_eq : ∀ (c : Dev nD) (e : Fin 8) (d : Fin 512) (j : Fin 1024),
    In.w c (ix3 e d j) = W (ix3 ⟨8 * c.val + e.val, by have : c.val < 4 := c.isLt; omega⟩ d j)

variable {x W a} {In : Inputs Ideal} (H : Starts x W a In)
include H

open Classical in
/-- A row of the buffer as sums over the tokens and their entries. -/
theorem gathered_sum (r : Fin 2048) (j : Fin 1024) : gathered In (ix2 r j)
    = ∑ d : Fin 512, (∑ t : Fin 2048, (if Kept a t ∧ rowOf a t = r.val then (1 : EReal) else 0) * x (ix2 t d)) * W (ix3 ⟨r.val / 64, by omega⟩ d j) := by
  have hr := r.isLt
  have hm : r.val / 512 < 4 := by omega
  have hC : r.val % 512 / 256 < 2 := by omega
  have he : r.val % 512 / 64 < 8 := by omega
  have hk : r.val % 256 < 256 := by omega
  rw [gathered_at In (ix2 r j) (⟨r.val / 512, hm⟩ : Dev nD) ⟨r.val % 512 / 256, hC⟩ (ix2 ⟨r.val % 256, hk⟩ j)
    (by show r.val = 512 * (r.val / 512) + 256 * (r.val % 512 / 256) + r.val % 256; omega) rfl,
    chunkVal_apply In _ _ _ j ⟨r.val % 512 / 64, he⟩ (by show 4 * (r.val % 512 / 256) + r.val % 256 / 64 = r.val % 512 / 64; omega)]
  refine Finset.sum_congr rfl fun d _ => ?_
  rw [H.w_eq, H.x_eq]
  refine congr (congrArg _ (Finset.sum_congr rfl fun t _ => ?_)) (congrArg (fun e => W (ix3 e d j)) (Fin.ext ?_))
  · refine congrArg (· * x (ix2 t d)) (if_congr ?_ rfl rfl)
    rw [H.lslot_eq, lslots_iff a t _ _ (by dsimp only; omega)]
    refine and_congr Iff.rfl ?_
    show rowOf a t = 512 * (r.val / 512) + (256 * (r.val % 512 / 256) + r.val % 256) ↔ _
    omega
  · show 8 * (r.val / 512) + r.val % 512 / 64 = r.val / 64
    omega

/-- A row that is no kept token's place is zero. -/
theorem gathered_none (r : Fin 2048) (j : Fin 1024) (h : ∀ t, Kept a t → rowOf a t ≠ r.val) : gathered In (ix2 r j) = (0 : EReal) := by
  rw [gathered_sum H]
  refine Finset.sum_eq_zero fun d _ => ?_
  rw [Finset.sum_eq_zero, zero_mul]
  intro t _
  rw [if_neg fun hn => h t hn.1 hn.2, zero_mul]

/-- The row at a kept token's place is the token's product with its expert's weights. -/
theorem gathered_some (r : Fin 2048) (j : Fin 1024) (t : Fin 2048) (h : Kept a t) (hp : rowOf a t = r.val) :
    gathered In (ix2 r j) = product x W t ⟨(ex a t).toNat, h.1⟩ j := by
  rw [gathered_sum H]
  refine Finset.sum_congr rfl fun d _ => ?_
  rw [Finset.sum_eq_single t]
  · rw [if_pos ⟨h, hp⟩, one_mul]
    refine congrArg (fun e => x (ix2 t d) * W (ix3 e d j)) (Fin.ext ?_)
    have h2 := h.2
    unfold rowOf at hp
    show r.val / 64 = (ex a t).toNat
    omega
  · intro t' _ hne
    rw [if_neg fun hn => hne (place_inj a hn.1 h (hn.2.trans hp.symm)), zero_mul]
  · exact fun hn => absurd (Finset.mem_univ _) hn

/-- The rows past the 51st of a group of 64 are zero. -/
theorem gathered_high (i : S2048x1024.Idx) (h : 51 ≤ (i (0 : Fin 2)).val % 64) : gathered In i = (0 : EReal) := by
  rw [eq_ix2 i]
  refine gathered_none H _ _ fun t ht hp => ?_
  have h2 := ht.2
  unfold rowOf at hp
  omega

/-- What a device stores at a token and a column is the layer's output. -/
theorem result_moe (c : Dev nD) (t : Fin 2048) (j : Fin 1024) : result In c (ix2 t j) = moe x W a t j := by
  rw [result_apply, fin_gathered In (gathered_high H)]
  have hs := H.slot_eq c t
  unfold moe
  split
  · next h =>
    split
    · next hk =>
      exact gathered_some H _ j t hk (by rw [← slots_kept a t hk, ← hs])
    · next hk =>
      have := slots_not a t hk
      rw [← hs] at this
      exact gathered_high H _ (by show 51 ≤ (In.slot c (ix2 t 0)).toNat % 64; omega)
  · next h =>
    split
    · next hk =>
      have h2 := hk.2
      have h1 := hk.1
      have := slots_kept a t hk
      rw [← hs] at this
      unfold rowOf at this
      omega
    · rfl

end Cert.KernelIdeal.Moe

end
-- ==== Proof.Layer.lean ====
/-
  The reference's result at a token and a column: the reference counts, for every token, the earlier tokens that chose the same expert,
  and sums the products with all experts' weights, of which it keeps that of the chosen expert where the count is below 51.
-/
module

public import proofs.«01_k».proof.Proof.Gathered
public import proofs.«01_k».proof.Proof.Gen.ReferenceIdeal
public import Idealize.ShloMosaic.Lib.Routing.Ops

@[expose] public section

noncomputable section

namespace Cert.ReferenceIdeal.Moe

open Cert.ReferenceIdeal Cert.ReferenceIdeal.Gen Idealize.ShloMosaic Idealize.ShloMosaic.TcCoe
open Cert.KernelIdeal.Moe (ex rank rank_lt Kept moe product Weights toInt_small)

/-- The tokens' experts as a vector. -/
def list (a : IVec S2048x1 32) : IVec S2048 32 := shapeCast S2048 a shapeCasts_S2048x1_S2048

/-- A vector over the tokens, repeated along the first axis. -/
def across (v : IVec S2048 32) : IVec S2048x2048 32 :=
  broadcastInDim S2048x2048 ![0, 1] bcast_S1x2048_S2048x2048_0_1 (broadcastInDim S1x2048 ![1] bcast_S2048_S1x2048_1 v)

/-- A vector over the tokens, repeated along the second axis. -/
def down (v : IVec S2048 32) : IVec S2048x2048 32 :=
  broadcastInDim S2048x2048 ![0, 1] bcast_S2048x1_S2048x2048_0_1 (broadcastInDim S2048x1 ![0] bcast_S2048_S2048x1_0 v)

/-- Which tokens are earlier ones with the same expert. -/
def earlier (v : IVec S2048 32) : IVec S2048x2048 1 :=
  andi (cmpi .eq (across v) (down v)) (cmpi .slt (across (iotaInDim S2048 32 0)) (down (iotaInDim S2048 32 0)))

/-- How many earlier tokens chose the same expert. -/
def count (v : IVec S2048 32) : IVec S2048 32 :=
  Host.reduce IntOp.addi (extui 32 (earlier v) natLt_1_32) (constantI S_ 32 0#32) reducesTo_S2048x2048_S2048_d1 h_S_

/-- Which expert a token chose. -/
def chosen (v : IVec S2048 32) : IVec S2048x32 1 :=
  cmpi .eq (broadcastInDim S2048x32 ![0, 1] bcast_S2048x1_S2048x32_0_1 (broadcastInDim S2048x1 ![0] bcast_S2048_S2048x1_0 v))
    (broadcastInDim S2048x32 ![0, 1] bcast_S1x32_S2048x32_0_1 (broadcastInDim S1x32 ![1] bcast_S32_S1x32_1 (iotaInDim S32 32 0)))

/-- Which tokens have a place, repeated along the experts. -/
def fits (n : IVec S2048 32) : IVec S2048x32 1 :=
  broadcastInDim S2048x32 ![0, 1] bcast_S2048x1_S2048x32_0_1 (broadcastInDim S2048x1 ![0] bcast_S2048_S2048x1_0
    (cmpi .slt n (broadcastInDim S2048 ![] bcast_S_S2048 (constantI S_ 32 51#32))))

/-- The mask of token and expert, repeated along the columns. -/
def mask (v : IVec S2048 32) : IVec S2048x32x1024 1 :=
  broadcastInDim S2048x32x1024 ![0, 1, 2] bcast_S2048x32x1_S2048x32x1024_0_1_2
    (broadcastInDim S2048x32x1 ![0, 1] bcast_S2048x32_S2048x32x1_0_1 (andi (chosen v) (fits (count v))))

section
variable {F : FTy → Type} [FloatOps F]

/-- Every token's product with every expert's weights. -/
def products (x : FVec F S2048x512 .f32) (W : FVec F S32x512x1024 .f32) : FVec F S2048x32x1024 .f32 :=
  Host.dotGeneral dot_S2048x512_S32x512x1024_S2048x32x1024_1_1_0_02_n_n none x W

/-- The products that count, zero elsewhere. -/
def kept (x : FVec F S2048x512 .f32) (W : FVec F S32x512x1024 .f32) (v : IVec S2048 32) : FVec F S2048x32x1024 .f32 :=
  select (mask v) (products x W) (broadcastInDim S2048x32x1024 ![] bcast_S_S2048x32x1024 (id (constant S_ .f32 0x00000000#32)))

/-- The reference's result. -/
def layer (x : FVec F S2048x512 .f32) (W : FVec F S32x512x1024 .f32) (a : IVec S2048x1 32) : FVec F S2048x1024 .bf16 :=
  truncf .bf16 (Host.reduceAdd (kept x W (list a)) (constant S_ .f32 0x00000000#32) reducesTo_S2048x32x1024_S2048x1024_d1 h_S_) bitsLt_bf16_f32
end

/-- The list of experts at a token. -/
theorem list_apply (a : IVec S2048x1 32) (t : Fin 2048) : list a (ix1 t) = ex a t := by
  unfold list ex; pointwise

/-- A vector repeated along the first axis, read at an entry. -/
theorem across_apply (v : IVec S2048 32) (t t' : Fin 2048) : across v (ix2 t t') = v (ix1 t') := by
  unfold across; pointwise

/-- A vector repeated along the second axis, read at an entry. -/
theorem down_apply (v : IVec S2048 32) (t t' : Fin 2048) : down v (ix2 t t') = v (ix1 t) := by
  unfold down; pointwise

/-- The token numbers at a token. -/
theorem number_apply (t : Fin 2048) : iotaInDim S2048 32 0 (ix1 t) = BitVec.ofNat 32 t.val := by
  pointwise

/-- Token `t'` is earlier than `t` and chose the same expert. -/
theorem earlier_iff (a : IVec S2048x1 32) (t t' : Fin 2048) : earlier (list a) (ix2 t t') = 1#1 ↔ ex a t' = ex a t ∧ t' < t := by
  have hand : ∀ x y : Bool, BitVec.ofBool x &&& BitVec.ofBool y = 1#1 ↔ x = true ∧ y = true := by decide
  have h : earlier (list a) (ix2 t t') = BitVec.ofBool (across (list a) (ix2 t t') == down (list a) (ix2 t t'))
      &&& BitVec.ofBool (BitVec.slt (across (iotaInDim S2048 32 0) (ix2 t t')) (down (iotaInDim S2048 32 0) (ix2 t t'))) := rfl
  rw [h, hand, across_apply, across_apply, down_apply, down_apply, list_apply, list_apply, number_apply, number_apply, beq_iff_eq,
    BitVec.slt_iff_toInt_lt, toInt_small _ (by omega), toInt_small _ (by omega)]
  exact and_congr Iff.rfl (Int.ofNat_lt.trans Fin.lt_def.symm)

/-- The count is the token's rank. -/
theorem count_apply (a : IVec S2048x1 32) (t : Fin 2048) : count (list a) (ix1 t) = BitVec.ofNat 32 (rank (ex a) t) := by
  apply BitVec.eq_of_toNat_eq
  have hr := rank_lt (ex a) t
  rw [count, StableHlo.Predicate.toNat_reduce_count_cols (by decide), BitVec.toNat_ofNat, Nat.mod_eq_of_lt (by omega), rank]
  refine congrArg Finset.card (Finset.filter_congr fun t' _ => ?_)
  show earlier (list a) (StableHlo.Predicate.ij t t') = 1#1 ↔ _
  rw [Routing.ij_eq_ix2]
  exact earlier_iff a t t'

/-- The token's choice, read at an expert. -/
theorem chosen_apply (v : IVec S2048 32) (t : Fin 2048) (e : Fin 32) : chosen v (ix2 t e) = BitVec.ofBool (v (ix1 t) == BitVec.ofNat 32 e.val) := by
  unfold chosen; pointwise; rfl

/-- A token has a place where its number is below 51. -/
theorem fits_apply (n : IVec S2048 32) (t : Fin 2048) (e : Fin 32) : fits n (ix2 t e) = BitVec.ofBool (BitVec.slt (n (ix1 t)) 51#32) := by
  unfold fits; pointwise; rfl

/-- The mask at an entry. -/
theorem mask_apply (v : IVec S2048 32) (t : Fin 2048) (e : Fin 32) (j : Fin 1024) :
    mask v (ix3 t e j) = chosen v (ix2 t e) &&& fits (count v) (ix2 t e) := by
  unfold mask; pointwise; rfl

/-- The mask lets through a kept token's own expert alone. -/
theorem mask_iff (a : IVec S2048x1 32) (t : Fin 2048) (e : Fin 32) (j : Fin 1024) :
    mask (list a) (ix3 t e j) = 1#1 ↔ Kept a t ∧ (ex a t).toNat = e.val := by
  have hand : ∀ x y : Bool, BitVec.ofBool x &&& BitVec.ofBool y = 1#1 ↔ x = true ∧ y = true := by decide
  have hr := rank_lt (ex a) t
  have he : ex a t = BitVec.ofNat 32 e.val ↔ (ex a t).toNat = e.val :=
    ⟨fun h => by rw [h, BitVec.toNat_ofNat]; omega, fun h => BitVec.eq_of_toNat_eq (by rw [h, BitVec.toNat_ofNat]; omega)⟩
  rw [mask_apply, chosen_apply, fits_apply, count_apply, list_apply, hand, beq_iff_eq, BitVec.slt_iff_toInt_lt, toInt_small _ (by omega), he,
    show (51#32).toInt = 51 from rfl, Kept]
  omega

/-- The products at an entry. -/
theorem products_apply (x : FVec Ideal S2048x512 .f32) (W : FVec Ideal S32x512x1024 .f32) (t : Fin 2048) (e : Fin 32) (j : Fin 1024) :
    products x W (ix3 t e j) = product x W t e j := by
  unfold products product; pointwise

/-- The zeros the reference keeps elsewhere. -/
theorem zeros_apply (t : Fin 2048) (e : Fin 32) (j : Fin 1024) :
    (broadcastInDim S2048x32x1024 ![] bcast_S_S2048x32x1024 (id (constant (F := Ideal) S_ .f32 0x00000000#32)) : FVec Ideal S2048x32x1024 .f32) (ix3 t e j) = (0 : EReal) := by
  pointwise
  exact Ideal.ofBits_zero .f32

/-- A product that counts, read at an entry. -/
theorem kept_apply (x : FVec Ideal S2048x512 .f32) (W : FVec Ideal S32x512x1024 .f32) (v : IVec S2048 32) (t : Fin 2048) (e : Fin 32) (j : Fin 1024) :
    kept x W v (ix3 t e j) = if mask v (ix3 t e j) = 1#1 then product x W t e j else (0 : EReal) := by
  rw [← zeros_apply t e j, ← products_apply]
  rfl

/-- The sum over the experts at a token and a column. -/
theorem sum_apply (y : FVec Ideal S2048x32x1024 .f32) (t : Fin 2048) (j : Fin 1024) :
    Host.reduceAdd y (constant S_ .f32 0x00000000#32) reducesTo_S2048x32x1024_S2048x1024_d1 h_S_ (ix2 t j) = ∑ e : Fin 32, (y (ix3 t e j) : EReal) := by
  pointwise

/-- The reference's result at a token and a column is the layer's output. -/
theorem layer_apply (x : FVec Ideal S2048x512 .f32) (W : FVec Ideal S32x512x1024 .f32) (a : IVec S2048x1 32) (t : Fin 2048) (j : Fin 1024) :
    layer x W a (ix2 t j) = moe x W a t j := by
  have h : layer x W a (ix2 t j) = Host.reduceAdd (kept x W (list a)) (constant S_ .f32 0x00000000#32) reducesTo_S2048x32x1024_S2048x1024_d1 h_S_ (ix2 t j) := rfl
  rw [h, sum_apply, moe]
  split
  · next hk =>
    rw [Finset.sum_eq_single (⟨(ex a t).toNat, hk.1⟩ : Fin 32)]
    · rw [kept_apply, if_pos ((mask_iff a t _ j).2 ⟨hk, rfl⟩)]
    · intro e _ hne
      rw [kept_apply, if_neg fun hm => hne (Fin.ext ((mask_iff a t e j).1 hm).2.symm)]
    · exact fun hn => absurd (Finset.mem_univ _) hn
  · next hk =>
    refine Finset.sum_eq_zero fun e _ => ?_
    rw [kept_apply, if_neg fun hm => hk ((mask_iff a t e j).1 hm).1]

end Cert.ReferenceIdeal.Moe

end
-- ==== Proof.Equal.lean ====
/-
  The equation: where every device holds the reference's arguments and its own block of the expert weights, what each device's kernel
  stores is the reference's result.
-/
module

public import proofs.«01_k».proof.Proof.Layer
public import proofs.«01_k».proof.Proof.Launch
public import Idealize.ShloMosaic.Lib.Layout

@[expose] public section

noncomputable section

namespace Cert.KernelIdeal.Moe

open Idealize.ShloMosaic Idealize.ShloMosaic.TcCoe
open Cert.KernelIdeal Cert.KernelIdeal.Gen

/-- A vector over the tokens as a column, read at a token. -/
theorem column_apply (v : IVec S2048 32) (t : Fin 2048) : column v (ix2 t 0) = v (ix1 t) := by
  unfold column; pointwise

/-- An entry of a device's block of the weights is that of the device's own eight experts. -/
theorem block_weights (W : Weights) (c : Dev nD) (e : Fin 8) (d : Fin 512) (j : Fin 1024) :
    Layout.block ⟨3, ![8, 512, 1024]⟩ ⟨3, ![32, 512, 1024]⟩ 0 4 c W (by decide) (ix3 e d j)
      = W (ix3 ⟨8 * c.val + e.val, by have : c.val < 4 := c.isLt; omega⟩ d j) := by
  rw [Layout.block_apply]
  refine congrArg W (funext fun b => Fin.ext ?_)
  rw [Layout.Tiles.idx_val]
  match b with
  | ⟨0, _⟩ => exact congrArg (· + e.val) (Nat.mul_comm c.val 8)
  | ⟨1, _⟩ => rfl
  | ⟨2, _⟩ => rfl

variable (m : (ℓ : Loc nD τ sig) → Buf (Elt Ideal) ℓ) (x : FVec Ideal S2048x512 .f32) (W : Weights) (a : IVec S2048x1 32)

/-- The host operations leave the tokens as they were, -/
theorem V7_arg0 (c : Dev nD) : (ins (V7 m)).x c = m ((c : Thread nD τ).loc main_arg0) :=
  (V7_of m c main_arg0 (by decide)).trans <| (V6_of m c main_arg0 (by decide)).trans <| (V5_of m c main_arg0 (by decide)).trans
    <| (V4_of m c main_arg0 (by decide)).trans <| (V3_of m c main_arg0 (by decide)).trans <| (V2_of m c main_arg0 (by decide)).trans <| (V1_of m c main_arg0 (by decide)).trans rfl

/-- and the weights. -/
theorem V7_arg3 (c : Dev nD) : (ins (V7 m)).w c = m ((c : Thread nD τ).loc main_arg3) :=
  (V7_of m c main_arg3 (by decide)).trans <| (V6_of m c main_arg3 (by decide)).trans <| (V5_of m c main_arg3 (by decide)).trans
    <| (V4_of m c main_arg3 (by decide)).trans <| (V3_of m c main_arg3 (by decide)).trans <| (V2_of m c main_arg3 (by decide)).trans <| (V1_of m c main_arg3 (by decide)).trans rfl

/-- The kernel's array of all slots, read at a token, -/
theorem slot_at (c : Dev nD) (t : Fin 2048) : (ins (V7 m)).slot c (ix2 t 0) = slotOf Ideal (m ((c : Thread nD τ).loc main_arg2)) (ix1 t) := by
  have h : (ins (V7 m)).slot c = column (slotOf Ideal (m ((c : Thread nD τ).loc main_arg2))) := V7_slot m c
  rw [h, column_apply]

/-- and of the slots its device serves. -/
theorem lslot_at (c : Dev nD) (t : Fin 2048) : (ins (V7 m)).lslot c (ix2 t 0) = lslots Ideal c (m ((c : Thread nD τ).loc main_arg2)) (ix1 t) := by
  have h : (ins (V7 m)).lslot c = column (lslots Ideal c (m ((c : Thread nD τ).loc main_arg2))) := V7_lslot m c
  rw [h, column_apply]

/-- Every device's kernel starts from the tokens, the slots and its experts' weights. -/
theorem starts_ins (hx : ∀ c : Dev nD, m ((c : Thread nD τ).loc main_arg0) = x) (ha : ∀ c : Dev nD, m ((c : Thread nD τ).loc main_arg2) = a)
    (hw : ∀ c : Dev nD, m ((c : Thread nD τ).loc main_arg3) = Layout.block ⟨3, ![8, 512, 1024]⟩ ⟨3, ![32, 512, 1024]⟩ 0 4 c W) :
    Starts x W a (ins (V7 m)) where
  x_eq c := (V7_arg0 m c).trans (hx c)
  slot_eq c t := by rw [slot_at, ha]
  lslot_eq c t := by rw [lslot_at, ha]
  w_eq c e d j := by rw [V7_arg3, hw, block_weights]

/-- What a device stores is the reference's result. -/
theorem result_layer (hx : ∀ c : Dev nD, m ((c : Thread nD τ).loc main_arg0) = x) (ha : ∀ c : Dev nD, m ((c : Thread nD τ).loc main_arg2) = a)
    (hw : ∀ c : Dev nD, m ((c : Thread nD τ).loc main_arg3) = Layout.block ⟨3, ![8, 512, 1024]⟩ ⟨3, ![32, 512, 1024]⟩ 0 4 c W) (c : Dev nD) :
    result (ins (V7 m)) c = Cert.ReferenceIdeal.Moe.layer x W a := by
  funext i
  rw [eq_ix2 i]
  exact (result_moe (starts_ins m x W a hx ha hw) c _ _).trans (Cert.ReferenceIdeal.Moe.layer_apply x W a _ _).symm

end Cert.KernelIdeal.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel as compiled runs from any memory, leaves its arguments as they were and every semaphore at zero: the program read
    over the reals has the same text, and its run is proved for any reading of the floats. -/
theorem frame_kernel : Cert.quiescent_Kernel := fun m g _ => by
  have h := Cert.KernelIdeal.Moe.run_main (F := Bits) m g
  have h' := (θ_run (Cert.KernelIdeal.defs (F := Bits)) _ _).mono (fun _ h => And.intro (fun c => (h.1 c).2) h.2) h
  rw [Cert.KernelIdeal.Moe.same_main, Cert.KernelIdeal.Moe.same_defs]
  exact h'

/-- The kernel read over the reals runs likewise. -/
theorem frame_ideal : Cert.quiescent_KernelIdeal := fun m g _ =>
  (θ_run Cert.KernelIdeal.defs _ _).mono (fun _ h => ⟨fun c => (h.1 c).2, h.2⟩) (Cert.KernelIdeal.Moe.run_main (F := Ideal) m g)

/-- The reference runs likewise; it has no semaphore. -/
theorem frame_reference : Cert.quiescent_ReferenceIdeal := fun m g _ =>
  (θ_run Cert.ReferenceIdeal.defs _ _).mono (fun r h => ⟨fun c => (h c).2, sem_eq_zero_of_no_sems (by decide) r.2⟩) (Cert.ReferenceIdeal.Value.run m g)

/-- Over exact numbers every device ends with the reference's result, and both programs leave their arguments as they were. -/
theorem algebraic : Cert.algebraic_KernelIdeal_ReferenceIdeal := fun m g m' g' _ hm => by
  refine ⟨Cert.ReferenceIdeal.Moe.layer (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun _ h c => ⟨((h.1 c).1).trans ?_, (h.1 c).2⟩) (Cert.KernelIdeal.Moe.run_main (F := Ideal) m g)
    exact Cert.KernelIdeal.Moe.result_layer m _ _ _ (fun c => (hm c).1) (fun c => (hm c).2.2.1) (fun c => (hm c).2.2.2) c
  · exact (θ_run Cert.ReferenceIdeal.defs _ _).mono (fun _ h => ⟨(h 0).1, (h 0).2⟩) (Cert.ReferenceIdeal.Value.run m' g')

/-- All the claims together. -/
theorem claim : Cert.Claim := ⟨Cert.Kernel.Gen.facts, Cert.KernelIdeal.Gen.facts, Cert.ReferenceIdeal.Gen.facts,
  frame_kernel, frame_ideal, frame_reference, trivial, algebraic⟩

end Cert.Proof

end
